-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)) (v10 : (c : Dev Cert.KernelIdeal.nD) → Buf (Elt Ideal) ((c.tc : Thread Cert.KernelIdeal.nD Cert.KernelIdeal.τ).loc Cert.KernelIdeal.main_v0_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_v0_10) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_v208) = v1 c
          ∧ r.2.mem ((c.tc : Thread Cert.ReferenceIdeal.nD Cert.ReferenceIdeal.τ).loc Cert.ReferenceIdeal.main_v209) = v2 c
          ∧ r.2.mem ((c.tc : Thread Cert.ReferenceIdeal.nD Cert.ReferenceIdeal.τ).loc Cert.ReferenceIdeal.main_v210) = v3 c
          ∧ r.2.mem ((c.tc : Thread Cert.ReferenceIdeal.nD Cert.ReferenceIdeal.τ).loc Cert.ReferenceIdeal.main_v183) = v4 c
          ∧ r.2.mem ((c.tc : Thread Cert.ReferenceIdeal.nD Cert.ReferenceIdeal.τ).loc Cert.ReferenceIdeal.main_v211) = v5 c
          ∧ r.2.mem ((c.tc : Thread Cert.ReferenceIdeal.nD Cert.ReferenceIdeal.τ).loc Cert.ReferenceIdeal.main_v206) = v6 c
          ∧ r.2.mem ((c.tc : Thread Cert.ReferenceIdeal.nD Cert.ReferenceIdeal.τ).loc Cert.ReferenceIdeal.main_v212) = v7 c
          ∧ r.2.mem ((c.tc : Thread Cert.ReferenceIdeal.nD Cert.ReferenceIdeal.τ).loc Cert.ReferenceIdeal.main_v213) = v8 c
          ∧ r.2.mem ((c.tc : Thread Cert.ReferenceIdeal.nD Cert.ReferenceIdeal.τ).loc Cert.ReferenceIdeal.main_v194) = v9 c
          ∧ r.2.mem ((c.tc : Thread Cert.ReferenceIdeal.nD Cert.ReferenceIdeal.τ).loc Cert.ReferenceIdeal.main_v193) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_3)) (v2 : (c : Dev Cert.Kernel4Ideal.nD) → Buf (Elt Ideal) ((c.tc : Thread Cert.Kernel4Ideal.nD Cert.Kernel4Ideal.τ).loc Cert.Kernel4Ideal.main_v0_6)) (v3 : (c : Dev Cert.Kernel4Ideal.nD) → Buf (Elt Ideal) ((c.tc : Thread Cert.Kernel4Ideal.nD Cert.Kernel4Ideal.τ).loc Cert.Kernel4Ideal.main_v0_1)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_7)) (v6 : (c : Dev Cert.Kernel4Ideal.nD) → Buf (Elt Ideal) ((c.tc : Thread Cert.Kernel4Ideal.nD Cert.Kernel4Ideal.τ).loc Cert.Kernel4Ideal.main_v0_2)) (v7 : (c : Dev Cert.Kernel4Ideal.nD) → Buf (Elt Ideal) ((c.tc : Thread Cert.Kernel4Ideal.nD Cert.Kernel4Ideal.τ).loc Cert.Kernel4Ideal.main_v0_5)) (v8 : (c : Dev Cert.Kernel4Ideal.nD) → Buf (Elt Ideal) ((c.tc : Thread Cert.Kernel4Ideal.nD Cert.Kernel4Ideal.τ).loc Cert.Kernel4Ideal.main_v0_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_3) = v1 c
          ∧ r.2.mem ((c.tc : Thread Cert.Kernel4Ideal.nD Cert.Kernel4Ideal.τ).loc Cert.Kernel4Ideal.main_v0_6) = v2 c
          ∧ r.2.mem ((c.tc : Thread Cert.Kernel4Ideal.nD Cert.Kernel4Ideal.τ).loc Cert.Kernel4Ideal.main_v0_1) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_7) = v5 c
          ∧ r.2.mem ((c.tc : Thread Cert.Kernel4Ideal.nD Cert.Kernel4Ideal.τ).loc Cert.Kernel4Ideal.main_v0_2) = v6 c
          ∧ r.2.mem ((c.tc : Thread Cert.Kernel4Ideal.nD Cert.Kernel4Ideal.τ).loc Cert.Kernel4Ideal.main_v0_5) = v7 c
          ∧ r.2.mem ((c.tc : Thread Cert.Kernel4Ideal.nD Cert.Kernel4Ideal.τ).loc Cert.Kernel4Ideal.main_v0_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_v47) = v3 c
          ∧ r.2.mem ((c.tc : Thread Cert.Reference4Ideal.nD Cert.Reference4Ideal.τ).loc Cert.Reference4Ideal.main_v28) = v4 c
          ∧ r.2.mem ((c.tc : Thread Cert.Reference4Ideal.nD Cert.Reference4Ideal.τ).loc Cert.Reference4Ideal.main_v34) = v5 c
          ∧ r.2.mem ((c.tc : Thread Cert.Reference4Ideal.nD Cert.Reference4Ideal.τ).loc Cert.Reference4Ideal.main_v71) = v6 c
          ∧ r.2.mem ((c.tc : Thread Cert.Reference4Ideal.nD Cert.Reference4Ideal.τ).loc Cert.Reference4Ideal.main_v52) = v7 c
          ∧ r.2.mem ((c.tc : Thread Cert.Reference4Ideal.nD Cert.Reference4Ideal.τ).loc Cert.Reference4Ideal.main_v58) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v8) = v2 c
          ∧ r.2.mem ((c.tc : Thread Cert.Reference5Ideal.nD Cert.Reference5Ideal.τ).loc Cert.Reference5Ideal.main_v14) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_3)) (v2 : (c : Dev Cert.Kernel7Ideal.nD) → Buf (Elt Ideal) ((c.tc : Thread Cert.Kernel7Ideal.nD Cert.Kernel7Ideal.τ).loc Cert.Kernel7Ideal.main_v0_6)) (v3 : (c : Dev Cert.Kernel7Ideal.nD) → Buf (Elt Ideal) ((c.tc : Thread Cert.Kernel7Ideal.nD Cert.Kernel7Ideal.τ).loc Cert.Kernel7Ideal.main_v0_9)) (v4 : (c : Dev Cert.Kernel7Ideal.nD) → Buf (Elt Ideal) ((c.tc : Thread Cert.Kernel7Ideal.nD Cert.Kernel7Ideal.τ).loc Cert.Kernel7Ideal.main_v0_1)) (v5 : (c : Dev Cert.Kernel7Ideal.nD) → Buf (Elt Ideal) ((c.tc : Thread Cert.Kernel7Ideal.nD Cert.Kernel7Ideal.τ).loc Cert.Kernel7Ideal.main_v0_4)) (v6 : (c : Dev Cert.Kernel7Ideal.nD) → Buf (Elt Ideal) ((c.tc : Thread Cert.Kernel7Ideal.nD Cert.Kernel7Ideal.τ).loc Cert.Kernel7Ideal.main_v0_7)) (v7 : (c : Dev Cert.Kernel7Ideal.nD) → Buf (Elt Ideal) ((c.tc : Thread Cert.Kernel7Ideal.nD Cert.Kernel7Ideal.τ).loc Cert.Kernel7Ideal.main_v0_10)) (v8 : (c : Dev Cert.Kernel7Ideal.nD) → Buf (Elt Ideal) ((c.tc : Thread Cert.Kernel7Ideal.nD Cert.Kernel7Ideal.τ).loc Cert.Kernel7Ideal.main_v0_2)) (v9 : (c : Dev Cert.Kernel7Ideal.nD) → Buf (Elt Ideal) ((c.tc : Thread Cert.Kernel7Ideal.nD Cert.Kernel7Ideal.τ).loc Cert.Kernel7Ideal.main_v0_5)) (v10 : (c : Dev Cert.Kernel7Ideal.nD) → Buf (Elt Ideal) ((c.tc : Thread Cert.Kernel7Ideal.nD Cert.Kernel7Ideal.τ).loc Cert.Kernel7Ideal.main_v0_8)) (v11 : (c : Dev Cert.Kernel7Ideal.nD) → Buf (Elt Ideal) ((c.tc : Thread Cert.Kernel7Ideal.nD Cert.Kernel7Ideal.τ).loc Cert.Kernel7Ideal.main_v0_11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_3) = v1 c
          ∧ r.2.mem ((c.tc : Thread Cert.Kernel7Ideal.nD Cert.Kernel7Ideal.τ).loc Cert.Kernel7Ideal.main_v0_6) = v2 c
          ∧ r.2.mem ((c.tc : Thread Cert.Kernel7Ideal.nD Cert.Kernel7Ideal.τ).loc Cert.Kernel7Ideal.main_v0_9) = v3 c
          ∧ r.2.mem ((c.tc : Thread Cert.Kernel7Ideal.nD Cert.Kernel7Ideal.τ).loc Cert.Kernel7Ideal.main_v0_1) = v4 c
          ∧ r.2.mem ((c.tc : Thread Cert.Kernel7Ideal.nD Cert.Kernel7Ideal.τ).loc Cert.Kernel7Ideal.main_v0_4) = v5 c
          ∧ r.2.mem ((c.tc : Thread Cert.Kernel7Ideal.nD Cert.Kernel7Ideal.τ).loc Cert.Kernel7Ideal.main_v0_7) = v6 c
          ∧ r.2.mem ((c.tc : Thread Cert.Kernel7Ideal.nD Cert.Kernel7Ideal.τ).loc Cert.Kernel7Ideal.main_v0_10) = v7 c
          ∧ r.2.mem ((c.tc : Thread Cert.Kernel7Ideal.nD Cert.Kernel7Ideal.τ).loc Cert.Kernel7Ideal.main_v0_2) = v8 c
          ∧ r.2.mem ((c.tc : Thread Cert.Kernel7Ideal.nD Cert.Kernel7Ideal.τ).loc Cert.Kernel7Ideal.main_v0_5) = v9 c
          ∧ r.2.mem ((c.tc : Thread Cert.Kernel7Ideal.nD Cert.Kernel7Ideal.τ).loc Cert.Kernel7Ideal.main_v0_8) = v10 c
          ∧ r.2.mem ((c.tc : Thread Cert.Kernel7Ideal.nD Cert.Kernel7Ideal.τ).loc Cert.Kernel7Ideal.main_v0_11) = v11 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v11) = v2 c
          ∧ r.2.mem ((c.tc : Thread Cert.Reference7Ideal.nD Cert.Reference7Ideal.τ).loc Cert.Reference7Ideal.main_v17) = v3 c
          ∧ r.2.mem ((c.tc : Thread Cert.Reference7Ideal.nD Cert.Reference7Ideal.τ).loc Cert.Reference7Ideal.main_v37) = v4 c
          ∧ r.2.mem ((c.tc : Thread Cert.Reference7Ideal.nD Cert.Reference7Ideal.τ).loc Cert.Reference7Ideal.main_v61) = v5 c
          ∧ r.2.mem ((c.tc : Thread Cert.Reference7Ideal.nD Cert.Reference7Ideal.τ).loc Cert.Reference7Ideal.main_v42) = v6 c
          ∧ r.2.mem ((c.tc : Thread Cert.Reference7Ideal.nD Cert.Reference7Ideal.τ).loc Cert.Reference7Ideal.main_v48) = v7 c
          ∧ r.2.mem ((c.tc : Thread Cert.Reference7Ideal.nD Cert.Reference7Ideal.τ).loc Cert.Reference7Ideal.main_v68) = v8 c
          ∧ r.2.mem ((c.tc : Thread Cert.Reference7Ideal.nD Cert.Reference7Ideal.τ).loc Cert.Reference7Ideal.main_v92) = v9 c
          ∧ r.2.mem ((c.tc : Thread Cert.Reference7Ideal.nD Cert.Reference7Ideal.τ).loc Cert.Reference7Ideal.main_v73) = v10 c
          ∧ r.2.mem ((c.tc : Thread Cert.Reference7Ideal.nD Cert.Reference7Ideal.τ).loc Cert.Reference7Ideal.main_v79) = v11 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4096x512 : Shape := ⟨2, ![4096, 512]⟩
abbrev S4352x2048 : Shape := ⟨2, ![4352, 2048]⟩
abbrev S4096x1024 : Shape := ⟨2, ![4096, 1024]⟩
abbrev S8x1024 : Shape := ⟨2, ![8, 1024]⟩
abbrev S1x1024 : Shape := ⟨2, ![1, 1024]⟩
abbrev S8x512 : Shape := ⟨2, ![8, 512]⟩
abbrev S1024x1024 : Shape := ⟨2, ![1024, 1024]⟩
abbrev S4x1024x1024 : Shape := ⟨3, ![4, 1024, 1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4352x2048 : S_.BroadcastsInDim S4352x2048 (![] : Fin 0 → Fin S4352x2048.rank)
  reducesTo_S4352x2048_S_d0_1 : S4352x2048.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S8x1024 : S_.BroadcastsInDim S8x1024 (![] : Fin 0 → Fin S8x1024.rank)
  reducesTo_S8x1024_S_d0_1 : S8x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S8x512 : S_.BroadcastsInDim S8x512 (![] : Fin 0 → Fin S8x512.rank)
  reducesTo_S8x512_S_d0_1 : S8x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_

variable [Facts]

def fn_part3 {F : FTy → Type} [FloatOps F] (main_v46 : IVec S_ 1) (main_v51 : IVec S_ 1) : IVec S_ 1 :=
  let main_v52 : IVec S_ 1 := andi main_v46 main_v51
  main_v52

def fn_part2 {F : FTy → Type} [FloatOps F] (main_arg7 : FVec F S1024x1024 .bf16) (main_arg8 : FVec F S4x1024x1024 .bf16) (main_arg9 : FVec F S4096x1024 .bf16) (main_v29 : IVec S_ 1) (main_v33 : IVec S_ 1) : IVec S_ 1 :=
  let main_v34 : IVec S_ 1 := andi main_v29 main_v33
  let main_v35 : FVec F S1024x1024 .f32 := (extf .f32 · bitsLt_bf16_f32) main_arg7
  let main_v36 : FVec F S1024x1024 .f32 := Host.absf main_v35
  let main_cst_12 : FVec F S_ .f32 := constant S_ .f32 0x7F800000#32
  let main_v37 : FVec F S1024x1024 .f32 := broadcastInDim S1024x1024 ![] bcast_S_S1024x1024 main_cst_12
  let main_v38 : IVec S1024x1024 1 := cmpf .olt main_v36 main_v37
  let main_c_13 : IVec S_ 1 := constantI S_ 1 1#1
  let main_v39 : IVec S_ 1 := (fun x v => Host.reduce IntOp.andi x v reducesTo_S1024x1024_S_d0_1 h_S_) main_v38 main_c_13
  let main_v40 : IVec S_ 1 := andi main_v34 main_v39
  let main_v41 : FVec F S4x1024x1024 .f32 := (extf .f32 · bitsLt_bf16_f32) main_arg8
  let main_v42 : FVec F S4x1024x1024 .f32 := Host.absf main_v41
  let main_cst_14 : FVec F S_ .f32 := constant S_ .f32 0x7F800000#32
  let main_v43 : FVec F S4x1024x1024 .f32 := broadcastInDim S4x1024x1024 ![] bcast_S_S4x1024x1024 main_cst_14
  let main_v44 : IVec S4x1024x1024 1 := cmpf .olt main_v42 main_v43
  let main_c_15 : IVec S_ 1 := constantI S_ 1 1#1
  let main_v45 : IVec S_ 1 := (fun x v => Host.reduce IntOp.andi x v reducesTo_S4x1024x1024_S_d0_1_2 h_S_) main_v44 main_c_15
  let main_v46 : IVec S_ 1 := andi main_v40 main_v45
  let main_v47 : FVec F S4096x1024 .f32 := (extf .f32 · bitsLt_bf16_f32) main_arg9
  let main_v48 : FVec F S4096x1024 .f32 := Host.absf main_v47
  let main_cst_16 : FVec F S_ .f32 := constant S_ .f32 0x7F800000#32
  let main_v49 : FVec F S4096x1024 .f32 := broadcastInDim S4096x1024 ![] bcast_S_S4096x1024 main_cst_16
  let main_v50 : IVec S4096x1024 1 := cmpf .olt main_v48 main_v49
  let main_c_17 : IVec S_ 1 := constantI S_ 1 1#1
  let main_v51 : IVec S_ 1 := (fun x v => Host.reduce IntOp.andi x v reducesTo_S4096x1024_S_d0_1 h_S_) main_v50 main_c_17
  fn_part3 (F := F) main_v46 main_v51

def fn_part1 {F : FTy → Type} [FloatOps F] (main_arg4 : FVec F S8x1024 .f32) (main_arg5 : FVec F S1x1024 .f32) (main_arg6 : FVec F S8x512 .f32) (main_arg7 : FVec F S1024x1024 .bf16) (main_arg8 : FVec F S4x1024x1024 .bf16) (main_arg9 : FVec F S4096x1024 .bf16) (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v14 main_v18
  let main_v20 : FVec F S8x1024 .f32 := Host.absf main_arg4
  let main_cst_6 : FVec F S_ .f32 := constant S_ .f32 0x7F800000#32
  let main_v21 : FVec F S8x1024 .f32 := broadcastInDim S8x1024 ![] bcast_S_S8x1024 main_cst_6
  let main_v22 : IVec S8x1024 1 := cmpf .olt main_v20 main_v21
  let main_c_7 : IVec S_ 1 := constantI S_ 1 1#1
  let main_v23 : IVec S_ 1 := (fun x v => Host.reduce IntOp.andi x v reducesTo_S8x1024_S_d0_1 h_S_) main_v22 main_c_7
  let main_v24 : IVec S_ 1 := andi main_v19 main_v23
  let main_v25 : FVec F S1x1024 .f32 := Host.absf main_arg5
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_v25 main_v26
  let main_c_9 : IVec S_ 1 := constantI S_ 1 1#1
  let main_v28 : IVec S_ 1 := (fun x v => Host.reduce IntOp.andi x v reducesTo_S1x1024_S_d0_1 h_S_) main_v27 main_c_9
  let main_v29 : IVec S_ 1 := andi main_v24 main_v28
  let main_v30 : FVec F S8x512 .f32 := Host.absf main_arg6
  let main_cst_10 : FVec F S_ .f32 := constant S_ .f32 0x7F800000#32
  let main_v31 : FVec F S8x512 .f32 := broadcastInDim S8x512 ![] bcast_S_S8x512 main_cst_10
  let main_v32 : IVec S8x512 1 := cmpf .olt main_v30 main_v31
  let main_c_11 : IVec S_ 1 := constantI S_ 1 1#1
  let main_v33 : IVec S_ 1 := (fun x v => Host.reduce IntOp.andi x v reducesTo_S8x512_S_d0_1 h_S_) main_v32 main_c_11
  fn_part2 (F := F) main_arg7 main_arg8 main_arg9 main_v29 main_v33

def fn {F : FTy → Type} [FloatOps F] (main_arg0 : FVec F S4096x512 .bf16) (main_arg1 : FVec F S4352x2048 .f32) (main_arg2 : FVec F S4096x1024 .f32) (main_arg3 : FVec F S4096x1024 .f32) (main_arg4 : FVec F S8x1024 .f32) (main_arg5 : FVec F S1x1024 .f32) (main_arg6 : FVec F S8x512 .f32) (main_arg7 : FVec F S1024x1024 .bf16) (main_arg8 : FVec F S4x1024x1024 .bf16) (main_arg9 : FVec F S4096x1024 .bf16) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4352x2048 .f32 := Host.absf main_arg1
  let main_cst_0 : FVec F S_ .f32 := constant S_ .f32 0x7F800000#32
  let main_v6 : FVec F S4352x2048 .f32 := broadcastInDim S4352x2048 ![] bcast_S_S4352x2048 main_cst_0
  let main_v7 : IVec S4352x2048 1 := cmpf .olt main_v5 main_v6
  let main_c_1 : IVec S_ 1 := constantI S_ 1 1#1
  let main_v8 : IVec S_ 1 := (fun x v => Host.reduce IntOp.andi x v reducesTo_S4352x2048_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S4096x1024 .f32 := Host.absf main_arg3
  let main_cst_4 : FVec F S_ .f32 := constant S_ .f32 0x7F800000#32
  let main_v16 : FVec F S4096x1024 .f32 := broadcastInDim S4096x1024 ![] bcast_S_S4096x1024 main_cst_4
  fn_part1 (F := F) main_arg4 main_arg5 main_arg6 main_arg7 main_arg8 main_arg9 main_v14 main_v15 main_v16
-- ==== Kernel.lean ====
abbrev S4096x512 : Shape := ⟨2, ![4096, 512]⟩
abbrev S4352x2048 : Shape := ⟨2, ![4352, 2048]⟩
abbrev S4096x1024 : Shape := ⟨2, ![4096, 1024]⟩
abbrev S8x1024 : Shape := ⟨2, ![8, 1024]⟩
abbrev S1x1024 : Shape := ⟨2, ![1, 1024]⟩
abbrev S8x512 : Shape := ⟨2, ![8, 512]⟩
abbrev S1024x1024 : Shape := ⟨2, ![1024, 1024]⟩
abbrev S4x1024x1024 : Shape := ⟨3, ![4, 1024, 1024]⟩
abbrev S4096x4096 : Shape := ⟨2, ![4096, 4096]⟩
abbrev S256x512 : Shape := ⟨2, ![256, 512]⟩
abbrev S256x1024 : Shape := ⟨2, ![256, 1024]⟩
abbrev S256x4096 : Shape := ⟨2, ![256, 4096]⟩
abbrev S4x256x1024 : Shape := ⟨3, ![4, 256, 1024]⟩
abbrev S1x512 : Shape := ⟨2, ![1, 512]⟩
abbrev S512x1024 : Shape := ⟨2, ![512, 1024]⟩
abbrev S256 : Shape := ⟨1, ![256]⟩
abbrev S256x1 : Shape := ⟨2, ![256, 1]⟩
abbrev S1x1024x1024 : Shape := ⟨3, ![1, 1024, 1024]⟩
abbrev S1x256x1024 : Shape := ⟨3, ![1, 256, 1024]⟩
abbrev S1 : Shape := ⟨1, ![1]⟩
abbrev S1x1 : Shape := ⟨2, ![1, 1]⟩
abbrev S1024 : Shape := ⟨1, ![1024]⟩

abbrev nBuf : Space → Nat
  | .hbm => 21
  | .vmem => 48
  | .smem => 0
  | _ => 0

abbrev bufTy : (tb : Table) → Fin (tcTables nBuf tb) → BufTy
  | .hbm, ⟨0, _⟩ => ⟨S4096x512, .bf16⟩
  | .hbm, ⟨1, _⟩ => ⟨S4352x2048, .f32⟩
  | .hbm, ⟨2, _⟩ => ⟨S4096x1024, .f32⟩
  | .hbm, ⟨3, _⟩ => ⟨S4096x1024, .f32⟩
  | .hbm, ⟨4, _⟩ => ⟨S8x1024, .f32⟩
  | .hbm, ⟨5, _⟩ => ⟨S1x1024, .f32⟩
  | .hbm, ⟨6, _⟩ => ⟨S8x512, .f32⟩
  | .hbm, ⟨7, _⟩ => ⟨S1024x1024, .bf16⟩
  | .hbm, ⟨8, _⟩ => ⟨S4x1024x1024, .bf16⟩
  | .hbm, ⟨9, _⟩ => ⟨S4096x1024, .bf16⟩
  | .hbm, ⟨10, _⟩ => ⟨S4096x4096, .bf16⟩
  | .hbm, ⟨11, _⟩ => ⟨S4096x4096, .bf16⟩
  | .hbm, ⟨12, _⟩ => ⟨S4096x1024, .bf16⟩
  | .hbm, ⟨13, _⟩ => ⟨S4096x1024, .bf16⟩
  | .hbm, ⟨14, _⟩ => ⟨S4096x1024, .f32⟩
  | .hbm, ⟨15, _⟩ => ⟨S4096x512, .bf16⟩
  | .hbm, ⟨16, _⟩ => ⟨S8x1024, .f32⟩
  | .hbm, ⟨17, _⟩ => ⟨S4096x1024, .bf16⟩
  | .hbm, ⟨18, _⟩ => ⟨S4096x512, .bf16⟩
  | .hbm, ⟨19, _⟩ => ⟨S4096x512, .f32⟩
  | .hbm, ⟨20, _⟩ => ⟨S4096x512, .f32⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S8x1024, .f32⟩
  | .local _ .vmem, ⟨23, _⟩ => ⟨S1x1024, .f32⟩
  | .local _ .vmem, ⟨24, _⟩ => ⟨S4x1024x1024, .bf16⟩
  | .local _ .vmem, ⟨25, _⟩ => ⟨S4096x1024, .bf16⟩
  | .local _ .vmem, ⟨26, _⟩ => ⟨S256x4096, .bf16⟩
  | .local _ .vmem, ⟨27, _⟩ => ⟨S256x4096, .bf16⟩
  | .local _ .vmem, ⟨28, _⟩ => ⟨S256x4096, .bf16⟩
  | .local _ .vmem, ⟨29, _⟩ => ⟨S256x4096, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .f32⟩
  | .local _ .vmem, ⟨35, _⟩ => ⟨S256x1024, .f32⟩
  | .local _ .vmem, ⟨36, _⟩ => ⟨S256x512, .bf16⟩
  | .local _ .vmem, ⟨37, _⟩ => ⟨S256x512, .bf16⟩
  | .local _ .vmem, ⟨38, _⟩ => ⟨S8x1024, .f32⟩
  | .local _ .vmem, ⟨39, _⟩ => ⟨S256x1024, .bf16⟩
  | .local _ .vmem, ⟨40, _⟩ => ⟨S256x1024, .bf16⟩
  | .local _ .vmem, ⟨41, _⟩ => ⟨S256x512, .bf16⟩
  | .local _ .vmem, ⟨42, _⟩ => ⟨S256x512, .bf16⟩
  | .local _ .vmem, ⟨43, _⟩ => ⟨S256x512, .f32⟩
  | .local _ .vmem, ⟨44, _⟩ => ⟨S256x512, .f32⟩
  | .local _ .vmem, ⟨45, _⟩ => ⟨S256x512, .f32⟩
  | .local _ .vmem, ⟨46, _⟩ => ⟨S256x512, .f32⟩
  | .local _ .vmem, ⟨47, _⟩ => ⟨S4x256x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_stg26_0 : Ref sig .tc := ⟨.vmem, 45, rfl⟩
abbrev cc0_stg26_1 : Ref sig .tc := ⟨.vmem, 46, rfl⟩
abbrev cc0_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44
abbrev cc0_sem26_0 : DmaSem sig := 45
abbrev cc0_sem26_1 : DmaSem sig := 46

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2_i32 : BitVec 32 := 2#32
  let c0_i32 : BitVec 32 := 0#32
  ![v1.toNat, c2_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c3_i32 : BitVec 32 := 3#32
  let c0_i32 : BitVec 32 := 0#32
  ![v1.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== ReferenceIdeal.lean ====
abbrev S4096x512 : Shape := ⟨2, ![4096, 512]⟩
abbrev S4352x2048 : Shape := ⟨2, ![4352, 2048]⟩
abbrev S4096x1024 : Shape := ⟨2, ![4096, 1024]⟩
abbrev S8x1024 : Shape := ⟨2, ![8, 1024]⟩
abbrev S1x1024 : Shape := ⟨2, ![1, 1024]⟩
abbrev S8x512 : Shape := ⟨2, ![8, 512]⟩
abbrev S1024x1024 : Shape := ⟨2, ![1024, 1024]⟩
abbrev S4x1024x1024 : Shape := ⟨3, ![4, 1024, 1024]⟩
abbrev S1x1024x1024 : Shape := ⟨3, ![1, 1024, 1024]⟩
abbrev S1024x4096 : Shape := ⟨2, ![1024, 4096]⟩
abbrev S_ : Shape := ⟨0, ![]⟩
abbrev S4098x512 : Shape := ⟨2, ![4098, 512]⟩
abbrev S1x512 : Shape := ⟨2, ![1, 512]⟩
abbrev S512 : Shape := ⟨1, ![512]⟩
abbrev S1024 : Shape := ⟨1, ![1024]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 270
  | .vmem => 0
  | .smem => 0
  | _ => 0

abbrev hbmTy0_0 (i : Nat) : BufTy := match i % 128 with
  | 0 => ⟨S4096x512, .bf16⟩
  | 1 => ⟨S4352x2048, .f32⟩
  | 2 => ⟨S4096x1024, .f32⟩
  | 3 => ⟨S4096x1024, .f32⟩
  | 4 => ⟨S8x1024, .f32⟩
  | 5 => ⟨S1x1024, .f32⟩
  | 6 => ⟨S8x512, .f32⟩
  | 7 => ⟨S1024x1024, .bf16⟩
  | 8 => ⟨S4x1024x1024, .bf16⟩
  | 9 => ⟨S4096x1024, .bf16⟩
  | 10 => ⟨S4096x512, .f32⟩
  | 11 => ⟨S1024x1024, .f32⟩
  | 12 => ⟨S4096x1024, .f32⟩
  | 13 => ⟨S1x1024x1024, .bf16⟩
  | 14 => ⟨S1024x1024, .bf16⟩
  | 15 => ⟨S1024x1024, .f32⟩
  | 16 => ⟨S1x1024x1024, .bf16⟩
  | 17 => ⟨S1024x1024, .bf16⟩
  | 18 => ⟨S1024x1024, .f32⟩
  | 19 => ⟨S1x1024x1024, .bf16⟩
  | 20 => ⟨S1024x1024, .bf16⟩
  | 21 => ⟨S1024x1024, .f32⟩
  | 22 => ⟨S1x1024x1024, .bf16⟩
  | 23 => ⟨S1024x1024, .bf16⟩
  | 24 => ⟨S1024x1024, .f32⟩
  | 25 => ⟨S1024x4096, .f32⟩
  | 26 => ⟨S4096x512, .f32⟩
  | 27 => ⟨S4096x512, .f32⟩
  | 28 => ⟨S4096x512, .f32⟩
  | 29 => ⟨S4096x512, .f32⟩
  | 30 => ⟨S_, .i32⟩
  | 31 => ⟨S_, .f32⟩
  | 32 => ⟨S4098x512, .f32⟩
  | 33 => ⟨S1x512, .f32⟩
  | 34 => ⟨S512, .f32⟩
  | 35 => ⟨S4096x512, .f32⟩
  | 36 => ⟨S1x512, .f32⟩
  | 37 => ⟨S4096x512, .f32⟩
  | 38 => ⟨S4096x512, .f32⟩
  | 39 => ⟨S1x512, .f32⟩
  | 40 => ⟨S512, .f32⟩
  | 41 => ⟨S4096x512, .f32⟩
  | 42 => ⟨S1x512, .f32⟩
  | 43 => ⟨S4096x512, .f32⟩
  | 44 => ⟨S4096x512, .f32⟩
  | 45 => ⟨S4096x512, .f32⟩
  | 46 => ⟨S1x512, .f32⟩
  | 47 => ⟨S512, .f32⟩
  | 48 => ⟨S4096x512, .f32⟩
  | 49 => ⟨S1x512, .f32⟩
  | 50 => ⟨S4096x512, .f32⟩
  | 51 => ⟨S4096x512, .f32⟩
  | 52 => ⟨S4096x512, .f32⟩
  | 53 => ⟨S_, .f32⟩
  | 54 => ⟨S4096x1024, .f32⟩
  | 55 => ⟨S1x1024, .f32⟩
  | 56 => ⟨S1024, .f32⟩
  | 57 => ⟨S1x1024, .f32⟩
  | 58 => ⟨S1024, .f32⟩
  | 59 => ⟨S1x1024, .f32⟩
  | 60 => ⟨S1024, .f32⟩
  | 61 => ⟨S_, .f32⟩
  | 62 => ⟨S4096x4096, .f32⟩
  | 63 => ⟨S_, .f32⟩
  | 64 => ⟨S4096x1024, .f32⟩
  | 65 => ⟨S1x1024, .f32⟩
  | 66 => ⟨S1024, .f32⟩
  | 67 => ⟨S1024, .f32⟩
  | 68 => ⟨S4096x512, .f32⟩
  | 69 => ⟨S4096x1024, .f32⟩
  | 70 => ⟨S4096x1024, .f32⟩
  | 71 => ⟨S4096x1024, .f32⟩
  | 72 => ⟨S1x1024, .f32⟩
  | 73 => ⟨S4096x1024, .f32⟩
  | 74 => ⟨S4096x1024, .f32⟩
  | 75 => ⟨S4096x1024, .f32⟩
  | 76 => ⟨S4096x1024, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S_, .f32⟩
  | 84 => ⟨S4096x1, .f32⟩
  | 85 => ⟨S4096x1, .f32⟩
  | 86 => ⟨S4096x1, .f32⟩
  | 87 => ⟨S4096x1, .f32⟩
  | 88 => ⟨S_, .f32⟩
  | 89 => ⟨S4096x1, .f32⟩
  | 90 => ⟨S4096x1, .f32⟩
  | 91 => ⟨S4096x1024, .f32⟩
  | 92 => ⟨S4096x1024, .f32⟩
  | 93 => ⟨S_, .f32⟩
  | 94 => ⟨S1024, .f32⟩
  | 95 => ⟨S1024, .f32⟩
  | 96 => ⟨S1x1024, .f32⟩
  | 97 => ⟨S4096x1024, .f32⟩
  | 98 => ⟨S4096x1024, .f32⟩
  | 99 => ⟨S1x1024, .f32⟩
  | 100 => ⟨S4096x1024, .f32⟩
  | 101 => ⟨S4096x1024, .f32⟩
  | 102 => ⟨S4096x4096, .f32⟩
  | 103 => ⟨S4096x4096, .f32⟩
  | 104 => ⟨S_, .f32⟩
  | 105 => ⟨S4096x4096, .f32⟩
  | 106 => ⟨S4096x4096, .f32⟩
  | 107 => ⟨S_, .f32⟩
  | 108 => ⟨S4096x4096, .f32⟩
  | 109 => ⟨S4096x4096, .i1⟩
  | 110 => ⟨S_, .f32⟩
  | 111 => ⟨S4096x4096, .f32⟩
  | 112 => ⟨S4096x4096, .f32⟩
  | 113 => ⟨S_, .f32⟩
  | 114 => ⟨S4096x4096, .f32⟩
  | 115 => ⟨S4096x4096, .f32⟩
  | 116 => ⟨S4096x1024, .f32⟩
  | 117 => ⟨S4096x1024, .f32⟩
  | 118 => ⟨S1x1024, .f32⟩
  | 119 => ⟨S4096x1024, .f32⟩
  | 120 => ⟨S4096x1024, .f32⟩
  | 121 => ⟨S4096x1024, .f32⟩
  | 122 => ⟨S4096x1024, .f32⟩
  | 123 => ⟨S_, .f32⟩
  | 124 => ⟨S4096, .f32⟩
  | 125 => ⟨S4096x1, .f32⟩
  | 126 => ⟨S_, .f32⟩
  | 127 => ⟨S4096x1, .f32⟩
  | _ => ⟨S4096x512, .bf16⟩

abbrev hbmTy0_1 (i : Nat) : BufTy := match i % 128 with
  | 0 => ⟨S4096x1, .f32⟩
  | 1 => ⟨S_, .f32⟩
  | 2 => ⟨S4096x1, .f32⟩
  | 3 => ⟨S4096x1, .f32⟩
  | 4 => ⟨S4096x1, .f32⟩
  | 5 => ⟨S4096x1, .f32⟩
  | 6 => ⟨S_, .f32⟩
  | 7 => ⟨S4096x1, .f32⟩
  | 8 => ⟨S4096x1, .f32⟩
  | 9 => ⟨S4096x1024, .f32⟩
  | 10 => ⟨S4096x1024, .f32⟩
  | 11 => ⟨S1x1024, .f32⟩
  | 12 => ⟨S4096x1024, .f32⟩
  | 13 => ⟨S4096x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S_, .f32⟩
  | 20 => ⟨S4096, .f32⟩
  | 21 => ⟨S_, .f32⟩
  | 22 => ⟨S4096, .f32⟩
  | 23 => ⟨S4096, .f32⟩
  | 24 => ⟨S_, .f32⟩
  | 25 => ⟨S_, .f32⟩
  | 26 => ⟨S_, .f32⟩
  | 27 => ⟨S_, .f32⟩
  | 28 => ⟨S4096x512, .f32⟩
  | 29 => ⟨S_, .f32⟩
  | 30 => ⟨S_, .f32⟩
  | 31 => ⟨S_, .f32⟩
  | 32 => ⟨S4096, .f32⟩
  | 33 => ⟨S_, .f32⟩
  | 34 => ⟨S4096, .f32⟩
  | 35 => ⟨S4096, .f32⟩
  | 36 => ⟨S4096x1024, .f32⟩
  | 37 => ⟨S4096x1024, .f32⟩
  | 38 => ⟨S4096x1024, .f32⟩
  | 39 => ⟨S_, .f32⟩
  | 40 => ⟨S1024, .f32⟩
  | 41 => ⟨S1x1024, .f32⟩
  | 42 => ⟨S4096x1024, .f32⟩
  | 43 => ⟨S4096x1024, .f32⟩
  | 44 => ⟨S_, .f32⟩
  | 45 => ⟨S1024, .f32⟩
  | 46 => ⟨S4096x1024, .f32⟩
  | 47 => ⟨S_, .f32⟩
  | 48 => ⟨S4096, .f32⟩
  | 49 => ⟨S4096x1, .f32⟩
  | 50 => ⟨S4096x1024, .f32⟩
  | 51 => ⟨S4096x1024, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S_, .f32⟩
  | 67 => ⟨S1024, .f32⟩
  | 68 => ⟨S1x1024, .f32⟩
  | 69 => ⟨S_, .f32⟩
  | 70 => ⟨S1024, .f32⟩
  | 71 => ⟨S4096x4096, .f32⟩
  | 72 => ⟨S4096x4096, .f32⟩
  | 73 => ⟨S_, .f32⟩
  | 74 => ⟨S4096x4096, .f32⟩
  | 75 => ⟨S4096x4096, .f32⟩
  | 76 => ⟨S4096x1024, .f32⟩
  | 77 => ⟨S_, .f32⟩
  | 78 => ⟨S1024, .f32⟩
  | 79 => ⟨S1x1024, .f32⟩
  | 80 => ⟨S_, .f32⟩
  | 81 => ⟨S1024, .f32⟩
  | 82 => ⟨S4096x1024, .f32⟩
  | 83 => ⟨S_, .f32⟩
  | 84 => ⟨S1024, .f32⟩
  | 85 => ⟨S1x1024, .f32⟩
  | 86 => ⟨S4096x1024, .f32⟩
  | 87 => ⟨S4096x1024, .f32⟩
  | 88 => ⟨S_, .f32⟩
  | 89 => ⟨S1024, .f32⟩
  | 90 => ⟨S4096x1024, .f32⟩
  | 91 => ⟨S_, .f32⟩
  | 92 => ⟨S4096, .f32⟩
  | 93 => ⟨S4096x1, .f32⟩
  | 94 => ⟨S4096x1024, .f32⟩
  | 95 => ⟨S4096x1024, .f32⟩
  | 96 => ⟨S4096x1024, .f32⟩
  | 97 => ⟨S4096x1, .f32⟩
  | 98 => ⟨S_, .f32⟩
  | 99 => ⟨S4096x1, .f32⟩
  | 100 => ⟨S4096x1, .f32⟩
  | 101 => ⟨S_, .f32⟩
  | 102 => ⟨S4096, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S_, .f32⟩
  | 112 => ⟨S1024, .f32⟩
  | 113 => ⟨S1x1024, .f32⟩
  | 114 => ⟨S_, .f32⟩
  | 115 => ⟨S1024, .f32⟩
  | 116 => ⟨S4096x1024, .f32⟩
  | 117 => ⟨S4096x512, .f32⟩
  | 118 => ⟨S4096x512, .f32⟩
  | 119 => ⟨S4096x512, .f32⟩
  | 120 => ⟨S4096x512, .f32⟩
  | 121 => ⟨S1024, .f32⟩
  | 122 => ⟨S_, .f32⟩
  | 123 => ⟨S1024, .f32⟩
  | 124 => ⟨S_, .f32⟩
  | 125 => ⟨S1024, .f32⟩
  | 126 => ⟨S1x1024, .f32⟩
  | 127 => ⟨S1x1024, .f32⟩
  | _ => ⟨S4096x512, .bf16⟩

abbrev hbmTy0_2 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S8x1024, .f32⟩
  | 7 => ⟨S4096x4096, .bf16⟩
  | 8 => ⟨S4096x4096, .bf16⟩
  | 9 => ⟨S4096x1024, .bf16⟩
  | 10 => ⟨S4096x1024, .bf16⟩
  | 11 => ⟨S4096x512, .bf16⟩
  | 12 => ⟨S4096x1024, .bf16⟩
  | 13 => ⟨S4096x512, .bf16⟩
  | _ => ⟨S4096x512, .bf16⟩

abbrev hbmTy (i : Nat) : BufTy := match i / 128 with
  | 0 => hbmTy0_0 i
  | 1 => hbmTy0_1 i
  | 2 => hbmTy0_2 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_0 : Ref sig .tc := ⟨.hbm, 61, rfl⟩
abbrev main_v48 : Ref sig .tc := ⟨.hbm, 62, rfl⟩
abbrev main_cst_1 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_2 : Ref sig .tc := ⟨.hbm, 77, rfl⟩
abbrev main_v62 : Ref sig .tc := ⟨.hbm, 78, rfl⟩
abbrev main_v63 : Ref sig .tc := ⟨.hbm, 79, rfl⟩
abbrev main_cst_3 : Ref sig .tc := ⟨.hbm, 80, rfl⟩
abbrev main_v64 : Ref sig .tc := ⟨.hbm, 81, rfl⟩
abbrev main_v65 : Ref sig .tc := ⟨.hbm, 82, rfl⟩
abbrev main_cst_4 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_5 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_6 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_call1_cst : Ref sig .tc := ⟨.hbm, 104, rfl⟩
abbrev main_call1_v0 : Ref sig .tc := ⟨.hbm, 105, rfl⟩
abbrev main_v84 : Ref sig .tc := ⟨.hbm, 106, rfl⟩
abbrev main_cst_7 : Ref sig .tc := ⟨.hbm, 107, rfl⟩
abbrev main_v85 : Ref sig .tc := ⟨.hbm, 108, rfl⟩
abbrev main_v86 : Ref sig .tc := ⟨.hbm, 109, rfl⟩
abbrev main_cst_8 : Ref sig .tc := ⟨.hbm, 110, rfl⟩
abbrev main_v87 : Ref sig .tc := ⟨.hbm, 111, rfl⟩
abbrev main_v88 : Ref sig .tc := ⟨.hbm, 112, rfl⟩
abbrev main_cst_9 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_10 : Ref sig .tc := ⟨.hbm, 123, rfl⟩
abbrev main_v98 : Ref sig .tc := ⟨.hbm, 124, rfl⟩
abbrev main_v99 : Ref sig .tc := ⟨.hbm, 125, rfl⟩
abbrev main_cst_11 : Ref sig .tc := ⟨.hbm, 126, rfl⟩
abbrev main_v100 : Ref sig .tc := ⟨.hbm, 127, rfl⟩
abbrev main_v101 : Ref sig .tc := ⟨.hbm, 128, rfl⟩
abbrev main_cst_12 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_13 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_14 : Ref sig .tc := ⟨.hbm, 144, rfl⟩
abbrev main_v115 : Ref sig .tc := ⟨.hbm, 145, rfl⟩
abbrev main_v116 : Ref sig .tc := ⟨.hbm, 146, rfl⟩
abbrev main_cst_15 : Ref sig .tc := ⟨.hbm, 147, rfl⟩
abbrev main_v117 : Ref sig .tc := ⟨.hbm, 148, rfl⟩
abbrev main_cst_16 : Ref sig .tc := ⟨.hbm, 149, rfl⟩
abbrev main_v118 : Ref sig .tc := ⟨.hbm, 150, rfl⟩
abbrev main_v119 : Ref sig .tc := ⟨.hbm, 151, rfl⟩
abbrev main_cst_17 : Ref sig .tc := ⟨.hbm, 152, rfl⟩
abbrev main_v120 : Ref sig .tc := ⟨.hbm, 153, rfl⟩
abbrev main_cst_18 : Ref sig .tc := ⟨.hbm, 154, rfl⟩
abbrev main_v121 : Ref sig .tc := ⟨.hbm, 155, rfl⟩
abbrev main_v122 : Ref sig .tc := ⟨.hbm, 156, rfl⟩
abbrev main_cst_19 : Ref sig .tc := ⟨.hbm, 157, rfl⟩
abbrev main_cst_20 : Ref sig .tc := ⟨.hbm, 158, rfl⟩
abbrev main_v123 : Ref sig .tc := ⟨.hbm, 159, rfl⟩
abbrev main_v124 : Ref sig .tc := ⟨.hbm, 160, rfl⟩
abbrev main_cst_21 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_22 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_cst_23 : Ref sig .tc := ⟨.hbm, 172, rfl⟩
abbrev main_v134 : Ref sig .tc := ⟨.hbm, 173, rfl⟩
abbrev main_v135 : Ref sig .tc := ⟨.hbm, 174, rfl⟩
abbrev main_cst_24 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_25 : Ref sig .tc := ⟨.hbm, 181, rfl⟩
abbrev main_v141 : Ref sig .tc := ⟨.hbm, 182, rfl⟩
abbrev main_v142 : Ref sig .tc := ⟨.hbm, 183, rfl⟩
abbrev main_cst_26 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_27 : Ref sig .tc := ⟨.hbm, 194, rfl⟩
abbrev main_v152 : Ref sig .tc := ⟨.hbm, 195, rfl⟩
abbrev main_v153 : Ref sig .tc := ⟨.hbm, 196, rfl⟩
abbrev main_cst_28 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_29 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_30 : Ref sig .tc := ⟨.hbm, 205, rfl⟩
abbrev main_v160 : Ref sig .tc := ⟨.hbm, 206, rfl⟩
abbrev main_v161 : Ref sig .tc := ⟨.hbm, 207, rfl⟩
abbrev main_cst_31 : Ref sig .tc := ⟨.hbm, 208, rfl⟩
abbrev main_v162 : Ref sig .tc := ⟨.hbm, 209, rfl⟩
abbrev main_v163 : Ref sig .tc := ⟨.hbm, 210, rfl⟩
abbrev main_cst_32 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_cst_33 : Ref sig .tc := ⟨.hbm, 216, rfl⟩
abbrev main_v168 : Ref sig .tc := ⟨.hbm, 217, rfl⟩
abbrev main_v169 : Ref sig .tc := ⟨.hbm, 218, rfl⟩
abbrev main_cst_34 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_cst_35 : Ref sig .tc := ⟨.hbm, 226, rfl⟩
abbrev main_v176 : Ref sig .tc := ⟨.hbm, 227, rfl⟩
abbrev main_v177 : Ref sig .tc := ⟨.hbm, 228, rfl⟩
abbrev main_cst_36 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_cst_37 : Ref sig .tc := ⟨.hbm, 239, rfl⟩
abbrev main_v187 : Ref sig .tc := ⟨.hbm, 240, rfl⟩
abbrev main_v188 : Ref sig .tc := ⟨.hbm, 241, rfl⟩
abbrev main_cst_38 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_cst_39 : Ref sig .tc := ⟨.hbm, 250, rfl⟩
abbrev main_v196 : Ref sig .tc := ⟨.hbm, 251, rfl⟩
abbrev main_cst_40 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4x1024x1024, .f32⟩
  | .hbm, ⟨10, _⟩ => ⟨S4x1024x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S1024x488 : Shape := ⟨2, ![1024, 488]⟩
abbrev S256x192 : Shape := ⟨2, ![256, 192]⟩
abbrev S128x256 : Shape := ⟨2, ![128, 256]⟩
abbrev S256x488 : Shape := ⟨2, ![256, 488]⟩
abbrev S64x192 : Shape := ⟨2, ![64, 192]⟩
abbrev S32x256 : Shape := ⟨2, ![32, 256]⟩

abbrev nBuf : Space → Nat
  | .hbm => 21
  | .vmem => 42
  | .smem => 0
  | _ => 0

abbrev bufTy : (tb : Table) → Fin (tcTables nBuf tb) → BufTy
  | .hbm, ⟨0, _⟩ => ⟨S1024x488, .f32⟩
  | .hbm, ⟨1, _⟩ => ⟨S256x192, .f32⟩
  | .hbm, ⟨2, _⟩ => ⟨S128x256, .f32⟩
  | .hbm, ⟨3, _⟩ => ⟨S1024x488, .f32⟩
  | .hbm, ⟨4, _⟩ => ⟨S256x192, .f32⟩
  | .hbm, ⟨5, _⟩ => ⟨S128x256, .f32⟩
  | .hbm, ⟨6, _⟩ => ⟨S1024x488, .f32⟩
  | .hbm, ⟨7, _⟩ => ⟨S256x192, .f32⟩
  | .hbm, ⟨8, _⟩ => ⟨S128x256, .f32⟩
  | .hbm, ⟨9, _⟩ => ⟨S1024x488, .f32⟩
  | .hbm, ⟨10, _⟩ => ⟨S256x192, .f32⟩
  | .hbm, ⟨11, _⟩ => ⟨S128x256, .f32⟩
  | .hbm, ⟨12, _⟩ => ⟨S1024x488, .f32⟩
  | .hbm, ⟨13, _⟩ => ⟨S256x192, .f32⟩
  | .hbm, ⟨14, _⟩ => ⟨S128x256, .f32⟩
  | .hbm, ⟨15, _⟩ => ⟨S1024x488, .f32⟩
  | .hbm, ⟨16, _⟩ => ⟨S256x192, .f32⟩
  | .hbm, ⟨17, _⟩ => ⟨S128x256, .f32⟩
  | .hbm, ⟨18, _⟩ => ⟨S1024x488, .f32⟩
  | .hbm, ⟨19, _⟩ => ⟨S256x192, .f32⟩
  | .hbm, ⟨20, _⟩ => ⟨S128x256, .f32⟩
  | .local _ .vmem, ⟨0, _⟩ => ⟨S256x488, .f32⟩
  | .local _ .vmem, ⟨1, _⟩ => ⟨S256x488, .f32⟩
  | .local _ .vmem, ⟨2, _⟩ => ⟨S64x192, .f32⟩
  | .local _ .vmem, ⟨3, _⟩ => ⟨S64x192, .f32⟩
  | .local _ .vmem, ⟨4, _⟩ => ⟨S32x256, .f32⟩
  | .local _ .vmem, ⟨5, _⟩ => ⟨S32x256, .f32⟩
  | .local _ .vmem, ⟨6, _⟩ => ⟨S256x488, .f32⟩
  | .local _ .vmem, ⟨7, _⟩ => ⟨S256x488, .f32⟩
  | .local _ .vmem, ⟨8, _⟩ => ⟨S64x192, .f32⟩
  | .local _ .vmem, ⟨9, _⟩ => ⟨S64x192, .f32⟩
  | .local _ .vmem, ⟨10, _⟩ => ⟨S32x256, .f32⟩
  | .local _ .vmem, ⟨11, _⟩ => ⟨S32x256, .f32⟩
  | .local _ .vmem, ⟨12, _⟩ => ⟨S256x488, .f32⟩
  | .local _ .vmem, ⟨13, _⟩ => ⟨S256x488, .f32⟩
  | .local _ .vmem, ⟨14, _⟩ => ⟨S64x192, .f32⟩
  | .local _ .vmem, ⟨15, _⟩ => ⟨S64x192, .f32⟩
  | .local _ .vmem, ⟨16, _⟩ => ⟨S32x256, .f32⟩
  | .local _ .vmem, ⟨17, _⟩ => ⟨S32x256, .f32⟩
  | .local _ .vmem, ⟨18, _⟩ => ⟨S256x488, .f32⟩
  | .local _ .vmem, ⟨19, _⟩ => ⟨S256x488, .f32⟩
  | .local _ .vmem, ⟨20, _⟩ => ⟨S64x192, .f32⟩
  | .local _ .vmem, ⟨21, _⟩ => ⟨S64x192, .f32⟩
  | .local _ .vmem, ⟨22, _⟩ => ⟨S32x256, .f32⟩
  | .local _ .vmem, ⟨23, _⟩ => ⟨S32x256, .f32⟩
  | .local _ .vmem, ⟨24, _⟩ => ⟨S256x488, .f32⟩
  | .local _ .vmem, ⟨25, _⟩ => ⟨S256x488, .f32⟩
  | .local _ .vmem, ⟨26, _⟩ => ⟨S64x192, .f32⟩
  | .local _ .vmem, ⟨27, _⟩ => ⟨S64x192, .f32⟩
  | .local _ .vmem, ⟨28, _⟩ => ⟨S32x256, .f32⟩
  | .local _ .vmem, ⟨29, _⟩ => ⟨S32x256, .f32⟩
  | .local _ .vmem, ⟨30, _⟩ => ⟨S256x488, .f32⟩
  | .local _ .vmem, ⟨31, _⟩ => ⟨S256x488, .f32⟩
  | .local _ .vmem, ⟨32, _⟩ => ⟨S64x192, .f32⟩
  | .local _ .vmem, ⟨33, _⟩ => ⟨S64x192, .f32⟩
  | .local _ .vmem, ⟨34, _⟩ => ⟨S32x256, .f32⟩
  | .local _ .vmem, ⟨35, _⟩ => ⟨S32x256, .f32⟩
  | .local _ .vmem, ⟨36, _⟩ => ⟨S256x488, .f32⟩
  | .local _ .vmem, ⟨37, _⟩ => ⟨S256x488, .f32⟩
  | .local _ .vmem, ⟨38, _⟩ => ⟨S64x192, .f32⟩
  | .local _ .vmem, ⟨39, _⟩ => ⟨S64x192, .f32⟩
  | .local _ .vmem, ⟨40, _⟩ => ⟨S32x256, .f32⟩
  | .local _ .vmem, ⟨41, _⟩ => ⟨S32x256, .f32⟩
  | _, _ => ⟨S1024x488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x488 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x488 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x488 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x488 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x488 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x488 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x192 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x488 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x192 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4Ideal.lean ====
abbrev S1024x488 : Shape := ⟨2, ![1024, 488]⟩
abbrev S256x192 : Shape := ⟨2, ![256, 192]⟩
abbrev S128x256 : Shape := ⟨2, ![128, 256]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1024x488, .f32⟩
  | .hbm, ⟨1, _⟩ => ⟨S256x192, .f32⟩
  | .hbm, ⟨2, _⟩ => ⟨S128x256, .f32⟩
  | .hbm, ⟨3, _⟩ => ⟨S1024x488, .f32⟩
  | .hbm, ⟨4, _⟩ => ⟨S256x192, .f32⟩
  | .hbm, ⟨5, _⟩ => ⟨S128x256, .f32⟩
  | .hbm, ⟨6, _⟩ => ⟨S1024x488, .f32⟩
  | .hbm, ⟨7, _⟩ => ⟨S256x192, .f32⟩
  | .hbm, ⟨8, _⟩ => ⟨S128x256, .f32⟩
  | .hbm, ⟨9, _⟩ => ⟨S1024x488, .f32⟩
  | .hbm, ⟨10, _⟩ => ⟨S256x192, .f32⟩
  | .hbm, ⟨11, _⟩ => ⟨S128x256, .f32⟩
  | .hbm, ⟨12, _⟩ => ⟨S_, .f32⟩
  | .hbm, ⟨13, _⟩ => ⟨S1024x488, .f32⟩
  | .hbm, ⟨14, _⟩ => ⟨S1024x488, .f32⟩
  | .hbm, ⟨15, _⟩ => ⟨S_, .f32⟩
  | .hbm, ⟨16, _⟩ => ⟨S1024x488, .f32⟩
  | .hbm, ⟨17, _⟩ => ⟨S1024x488, .f32⟩
  | .hbm, ⟨18, _⟩ => ⟨S1024x488, .f32⟩
  | .hbm, ⟨19, _⟩ => ⟨S_, .f32⟩
  | .hbm, ⟨20, _⟩ => ⟨S1024x488, .f32⟩
  | .hbm, ⟨21, _⟩ => ⟨S1024x488, .f32⟩
  | .hbm, ⟨22, _⟩ => ⟨S1024x488, .f32⟩
  | .hbm, ⟨23, _⟩ => ⟨S_, .f32⟩
  | .hbm, ⟨24, _⟩ => ⟨S1024x488, .f32⟩
  | .hbm, ⟨25, _⟩ => ⟨S1024x488, .f32⟩
  | .hbm, ⟨26, _⟩ => ⟨S1024x488, .f32⟩
  | .hbm, ⟨27, _⟩ => ⟨S_, .f32⟩
  | .hbm, ⟨28, _⟩ => ⟨S1024x488, .f32⟩
  | .hbm, ⟨29, _⟩ => ⟨S1024x488, .f32⟩
  | .hbm, ⟨30, _⟩ => ⟨S_, .f32⟩
  | .hbm, ⟨31, _⟩ => ⟨S1024x488, .f32⟩
  | .hbm, ⟨32, _⟩ => ⟨S1024x488, .f32⟩
  | .hbm, ⟨33, _⟩ => ⟨S1024x488, .f32⟩
  | .hbm, ⟨34, _⟩ => ⟨S_, .f32⟩
  | .hbm, ⟨35, _⟩ => ⟨S1024x488, .f32⟩
  | .hbm, ⟨36, _⟩ => ⟨S1024x488, .f32⟩
  | .hbm, ⟨37, _⟩ => ⟨S1024x488, .f32⟩
  | .hbm, ⟨38, _⟩ => ⟨S_, .f32⟩
  | .hbm, ⟨39, _⟩ => ⟨S1024x488, .f32⟩
  | .hbm, ⟨40, _⟩ => ⟨S1024x488, .f32⟩
  | .hbm, ⟨41, _⟩ => ⟨S1024x488, .f32⟩
  | .hbm, ⟨42, _⟩ => ⟨S_, .f32⟩
  | .hbm, ⟨43, _⟩ => ⟨S1024x488, .f32⟩
  | .hbm, ⟨44, _⟩ => ⟨S1024x488, .f32⟩
  | .hbm, ⟨45, _⟩ => ⟨S_, .f32⟩
  | .hbm, ⟨46, _⟩ => ⟨S256x192, .f32⟩
  | .hbm, ⟨47, _⟩ => ⟨S256x192, .f32⟩
  | .hbm, ⟨48, _⟩ => ⟨S_, .f32⟩
  | .hbm, ⟨49, _⟩ => ⟨S256x192, .f32⟩
  | .hbm, ⟨50, _⟩ => ⟨S256x192, .f32⟩
  | .hbm, ⟨51, _⟩ => ⟨S256x192, .f32⟩
  | .hbm, ⟨52, _⟩ => ⟨S_, .f32⟩
  | .hbm, ⟨53, _⟩ => ⟨S256x192, .f32⟩
  | .hbm, ⟨54, _⟩ => ⟨S256x192, .f32⟩
  | .hbm, ⟨55, _⟩ => ⟨S256x192, .f32⟩
  | .hbm, ⟨56, _⟩ => ⟨S_, .f32⟩
  | .hbm, ⟨57, _⟩ => ⟨S256x192, .f32⟩
  | .hbm, ⟨58, _⟩ => ⟨S256x192, .f32⟩
  | .hbm, ⟨59, _⟩ => ⟨S256x192, .f32⟩
  | .hbm, ⟨60, _⟩ => ⟨S_, .f32⟩
  | .hbm, ⟨61, _⟩ => ⟨S256x192, .f32⟩
  | .hbm, ⟨62, _⟩ => ⟨S256x192, .f32⟩
  | .hbm, ⟨63, _⟩ => ⟨S_, .f32⟩
  | .hbm, ⟨64, _⟩ => ⟨S256x192, .f32⟩
  | .hbm, ⟨65, _⟩ => ⟨S256x192, .f32⟩
  | .hbm, ⟨66, _⟩ => ⟨S256x192, .f32⟩
  | .hbm, ⟨67, _⟩ => ⟨S_, .f32⟩
  | .hbm, ⟨68, _⟩ => ⟨S256x192, .f32⟩
  | .hbm, ⟨69, _⟩ => ⟨S256x192, .f32⟩
  | .hbm, ⟨70, _⟩ => ⟨S256x192, .f32⟩
  | .hbm, ⟨71, _⟩ => ⟨S_, .f32⟩
  | .hbm, ⟨72, _⟩ => ⟨S256x192, .f32⟩
  | .hbm, ⟨73, _⟩ => ⟨S256x192, .f32⟩
  | .hbm, ⟨74, _⟩ => ⟨S256x192, .f32⟩
  | .hbm, ⟨75, _⟩ => ⟨S_, .f32⟩
  | .hbm, ⟨76, _⟩ => ⟨S256x192, .f32⟩
  | .hbm, ⟨77, _⟩ => ⟨S256x192, .f32⟩
  | .hbm, ⟨78, _⟩ => ⟨S_, .f32⟩
  | .hbm, ⟨79, _⟩ => ⟨S128x256, .f32⟩
  | .hbm, ⟨80, _⟩ => ⟨S128x256, .f32⟩
  | .hbm, ⟨81, _⟩ => ⟨S_, .f32⟩
  | .hbm, ⟨82, _⟩ => ⟨S128x256, .f32⟩
  | .hbm, ⟨83, _⟩ => ⟨S128x256, .f32⟩
  | .hbm, ⟨84, _⟩ => ⟨S128x256, .f32⟩
  | .hbm, ⟨85, _⟩ => ⟨S_, .f32⟩
  | .hbm, ⟨86, _⟩ => ⟨S128x256, .f32⟩
  | .hbm, ⟨87, _⟩ => ⟨S128x256, .f32⟩
  | .hbm, ⟨88, _⟩ => ⟨S128x256, .f32⟩
  | .hbm, ⟨89, _⟩ => ⟨S_, .f32⟩
  | .hbm, ⟨90, _⟩ => ⟨S128x256, .f32⟩
  | .hbm, ⟨91, _⟩ => ⟨S128x256, .f32⟩
  | .hbm, ⟨92, _⟩ => ⟨S128x256, .f32⟩
  | .hbm, ⟨93, _⟩ => ⟨S_, .f32⟩
  | .hbm, ⟨94, _⟩ => ⟨S128x256, .f32⟩
  | .hbm, ⟨95, _⟩ => ⟨S128x256, .f32⟩
  | .hbm, ⟨96, _⟩ => ⟨S_, .f32⟩
  | .hbm, ⟨97, _⟩ => ⟨S128x256, .f32⟩
  | .hbm, ⟨98, _⟩ => ⟨S128x256, .f32⟩
  | .hbm, ⟨99, _⟩ => ⟨S128x256, .f32⟩
  | .hbm, ⟨100, _⟩ => ⟨S_, .f32⟩
  | .hbm, ⟨101, _⟩ => ⟨S128x256, .f32⟩
  | .hbm, ⟨102, _⟩ => ⟨S128x256, .f32⟩
  | .hbm, ⟨103, _⟩ => ⟨S128x256, .f32⟩
  | .hbm, ⟨104, _⟩ => ⟨S_, .f32⟩
  | .hbm, ⟨105, _⟩ => ⟨S128x256, .f32⟩
  | .hbm, ⟨106, _⟩ => ⟨S128x256, .f32⟩
  | .hbm, ⟨107, _⟩ => ⟨S128x256, .f32⟩
  | .hbm, ⟨108, _⟩ => ⟨S_, .f32⟩
  | .hbm, ⟨109, _⟩ => ⟨S128x256, .f32⟩
  | .hbm, ⟨110, _⟩ => ⟨S128x256, .f32⟩
  | _, _ => ⟨S1024x488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel5.lean ====
abbrev S1024x16 : Shape := ⟨2, ![1024, 16]⟩
abbrev S16x1536 : Shape := ⟨2, ![16, 1536]⟩
abbrev S1024x1536 : Shape := ⟨2, ![1024, 1536]⟩
abbrev S16x512 : Shape := ⟨2, ![16, 512]⟩
abbrev S1024x512 : Shape := ⟨2, ![1024, 512]⟩

abbrev nBuf : Space → Nat
  | .hbm => 9
  | .vmem => 17
  | .smem => 0
  | _ => 0

abbrev bufTy : (tb : Table) → Fin (tcTables nBuf tb) → BufTy
  | .hbm, ⟨0, _⟩ => ⟨S1024x16, .f32⟩
  | .hbm, ⟨1, _⟩ => ⟨S16x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .hbm, ⟨8, _⟩ => ⟨S1024x1536, .f32⟩
  | .local _ .vmem, ⟨0, _⟩ => ⟨S1024x16, .f32⟩
  | .local _ .vmem, ⟨1, _⟩ => ⟨S16x512, .f32⟩
  | .local _ .vmem, ⟨2, _⟩ => ⟨S16x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S1024x16 : Shape := ⟨2, ![1024, 16]⟩
abbrev S16x1536 : Shape := ⟨2, ![16, 1536]⟩
abbrev S1024x1536 : Shape := ⟨2, ![1024, 1536]⟩
abbrev S16x1024 : Shape := ⟨2, ![16, 1024]⟩
abbrev S1536x1024 : Shape := ⟨2, ![1536, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S16x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S16x1024, .f32⟩
  | .hbm, ⟨6, _⟩ => ⟨S16x1536, .f32⟩
  | .hbm, ⟨7, _⟩ => ⟨S1536x1024, .f32⟩
  | .hbm, ⟨8, _⟩ => ⟨S1024x1536, .f32⟩
  | .hbm, ⟨9, _⟩ => ⟨S_, .f32⟩
  | .hbm, ⟨10, _⟩ => ⟨S1024x1536, .f32⟩
  | .hbm, ⟨11, _⟩ => ⟨S1024x1536, .f32⟩
  | .hbm, ⟨12, _⟩ => ⟨S_, .f32⟩
  | .hbm, ⟨13, _⟩ => ⟨S1024x1536, .f32⟩
  | .hbm, ⟨14, _⟩ => ⟨S1024x1536, .f32⟩
  | .hbm, ⟨15, _⟩ => ⟨S1024x1536, .f32⟩
  | .hbm, ⟨16, _⟩ => ⟨S_, .f32⟩
  | .hbm, ⟨17, _⟩ => ⟨S1024x1536, .f32⟩
  | .hbm, ⟨18, _⟩ => ⟨S1024x1536, .f32⟩
  | .hbm, ⟨19, _⟩ => ⟨S1024x1536, .f32⟩
  | .hbm, ⟨20, _⟩ => ⟨S_, .f32⟩
  | .hbm, ⟨21, _⟩ => ⟨S1024x1536, .f32⟩
  | .hbm, ⟨22, _⟩ => ⟨S1024x1536, .f32⟩
  | .hbm, ⟨23, _⟩ => ⟨S1024x1536, .f32⟩
  | .hbm, ⟨24, _⟩ => ⟨S_, .f32⟩
  | .hbm, ⟨25, _⟩ => ⟨S1024x1536, .f32⟩
  | .hbm, ⟨26, _⟩ => ⟨S1024x1536, .f32⟩
  | .hbm, ⟨27, _⟩ => ⟨S_, .f32⟩
  | .hbm, ⟨28, _⟩ => ⟨S1024x1536, .f32⟩
  | .hbm, ⟨29, _⟩ => ⟨S1024x1536, .f32⟩
  | .hbm, ⟨30, _⟩ => ⟨S1024x1536, .f32⟩
  | .hbm, ⟨31, _⟩ => ⟨S_, .f32⟩
  | .hbm, ⟨32, _⟩ => ⟨S1024x1536, .f32⟩
  | .hbm, ⟨33, _⟩ => ⟨S1024x1536, .f32⟩
  | .hbm, ⟨34, _⟩ => ⟨S1024x1536, .f32⟩
  | .hbm, ⟨35, _⟩ => ⟨S_, .f32⟩
  | .hbm, ⟨36, _⟩ => ⟨S1024x1536, .f32⟩
  | .hbm, ⟨37, _⟩ => ⟨S1024x1536, .f32⟩
  | .hbm, ⟨38, _⟩ => ⟨S1024x1536, .f32⟩
  | .hbm, ⟨39, _⟩ => ⟨S_, .f32⟩
  | .hbm, ⟨40, _⟩ => ⟨S1024x1536, .f32⟩
  | .hbm, ⟨41, _⟩ => ⟨S1024x1536, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel6.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference6Ideal.lean ====
abbrev S3x128 : Shape := ⟨2, ![3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S3x128, .f32⟩
  | .hbm, ⟨7, _⟩ => ⟨S_, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S_, .f32⟩
  | .hbm, ⟨35, _⟩ => ⟨S3x128, .f32⟩
  | .hbm, ⟨36, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S1 : Shape := ⟨1, ![1]⟩
abbrev S1024x1024 : Shape := ⟨2, ![1024, 1024]⟩
abbrev S256x1024 : Shape := ⟨2, ![256, 1024]⟩
abbrev S512x1024 : Shape := ⟨2, ![512, 1024]⟩
abbrev S128x1024 : Shape := ⟨2, ![128, 1024]⟩
abbrev S64x1024 : Shape := ⟨2, ![64, 1024]⟩

abbrev nBuf : Space → Nat
  | .hbm => 27
  | .vmem => 54
  | .smem => 1
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S256x1024, .f32⟩
  | .hbm, ⟨3, _⟩ => ⟨S512x1024, .f32⟩
  | .hbm, ⟨4, _⟩ => ⟨S512x1024, .f32⟩
  | .hbm, ⟨5, _⟩ => ⟨S128x1024, .f32⟩
  | .hbm, ⟨6, _⟩ => ⟨S512x1024, .f32⟩
  | .hbm, ⟨7, _⟩ => ⟨S512x1024, .f32⟩
  | .hbm, ⟨8, _⟩ => ⟨S128x1024, .f32⟩
  | .hbm, ⟨9, _⟩ => ⟨S1024x1024, .f32⟩
  | .hbm, ⟨10, _⟩ => ⟨S1024x1024, .f32⟩
  | .hbm, ⟨11, _⟩ => ⟨S256x1024, .f32⟩
  | .hbm, ⟨12, _⟩ => ⟨S1024x1024, .f32⟩
  | .hbm, ⟨13, _⟩ => ⟨S1024x1024, .f32⟩
  | .hbm, ⟨14, _⟩ => ⟨S256x1024, .f32⟩
  | .hbm, ⟨15, _⟩ => ⟨S1024x1024, .f32⟩
  | .hbm, ⟨16, _⟩ => ⟨S1024x1024, .f32⟩
  | .hbm, ⟨17, _⟩ => ⟨S256x1024, .f32⟩
  | .hbm, ⟨18, _⟩ => ⟨S1024x1024, .f32⟩
  | .hbm, ⟨19, _⟩ => ⟨S1024x1024, .f32⟩
  | .hbm, ⟨20, _⟩ => ⟨S256x1024, .f32⟩
  | .hbm, ⟨21, _⟩ => ⟨S1024x1024, .f32⟩
  | .hbm, ⟨22, _⟩ => ⟨S1024x1024, .f32⟩
  | .hbm, ⟨23, _⟩ => ⟨S256x1024, .f32⟩
  | .hbm, ⟨24, _⟩ => ⟨S1024x1024, .f32⟩
  | .hbm, ⟨25, _⟩ => ⟨S1024x1024, .f32⟩
  | .hbm, ⟨26, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S64x1024, .f32⟩
  | .local _ .vmem, ⟨5, _⟩ => ⟨S64x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S64x1024, .f32⟩
  | .local _ .vmem, ⟨11, _⟩ => ⟨S64x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S64x1024, .f32⟩
  | .local _ .vmem, ⟨17, _⟩ => ⟨S64x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S64x1024, .f32⟩
  | .local _ .vmem, ⟨23, _⟩ => ⟨S64x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S64x1024, .f32⟩
  | .local _ .vmem, ⟨29, _⟩ => ⟨S64x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S64x1024, .f32⟩
  | .local _ .vmem, ⟨35, _⟩ => ⟨S64x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S64x1024, .f32⟩
  | .local _ .vmem, ⟨41, _⟩ => ⟨S64x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S256x1024, .f32⟩
  | .local _ .vmem, ⟨46, _⟩ => ⟨S64x1024, .f32⟩
  | .local _ .vmem, ⟨47, _⟩ => ⟨S64x1024, .f32⟩
  | .local _ .vmem, ⟨48, _⟩ => ⟨S256x1024, .f32⟩
  | .local _ .vmem, ⟨49, _⟩ => ⟨S256x1024, .f32⟩
  | .local _ .vmem, ⟨50, _⟩ => ⟨S256x1024, .f32⟩
  | .local _ .vmem, ⟨51, _⟩ => ⟨S256x1024, .f32⟩
  | .local _ .vmem, ⟨52, _⟩ => ⟨S64x1024, .f32⟩
  | .local _ .vmem, ⟨53, _⟩ => ⟨S64x1024, .f32⟩
  | .local _ .smem, ⟨0, _⟩ => ⟨S1, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev main_v0_9 : Ref sig .tc := ⟨.hbm, 24, rfl⟩
abbrev main_v0_10 : Ref sig .tc := ⟨.hbm, 25, rfl⟩
abbrev main_v0_11 : Ref sig .tc := ⟨.hbm, 26, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S64x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== Reference7Ideal.lean ====
abbrev S1 : Shape := ⟨1, ![1]⟩
abbrev S1024x1024 : Shape := ⟨2, ![1024, 1024]⟩
abbrev S256x1024 : Shape := ⟨2, ![256, 1024]⟩
abbrev S512x1024 : Shape := ⟨2, ![512, 1024]⟩
abbrev S128x1024 : Shape := ⟨2, ![128, 1024]⟩
abbrev S_ : Shape := ⟨0, ![]⟩

abbrev nBuf : Space → Nat
  | .hbm => 142
  | .vmem => 0
  | .smem => 0
  | _ => 0

abbrev hbmTy0_0 (i : Nat) : BufTy := match i % 128 with
  | 0 => ⟨S1, .i32⟩
  | 1 => ⟨S1024x1024, .f32⟩
  | 2 => ⟨S1024x1024, .f32⟩
  | 3 => ⟨S256x1024, .f32⟩
  | 4 => ⟨S512x1024, .f32⟩
  | 5 => ⟨S512x1024, .f32⟩
  | 6 => ⟨S128x1024, .f32⟩
  | 7 => ⟨S512x1024, .f32⟩
  | 8 => ⟨S512x1024, .f32⟩
  | 9 => ⟨S128x1024, .f32⟩
  | 10 => ⟨S1024x1024, .f32⟩
  | 11 => ⟨S1024x1024, .f32⟩
  | 12 => ⟨S256x1024, .f32⟩
  | 13 => ⟨S1024x1024, .f32⟩
  | 14 => ⟨S1024x1024, .f32⟩
  | 15 => ⟨S256x1024, .f32⟩
  | 16 => ⟨S_, .i32⟩
  | 17 => ⟨S_, .i32⟩
  | 18 => ⟨S_, .i1⟩
  | 19 => ⟨S512x1024, .f32⟩
  | 20 => ⟨S_, .i32⟩
  | 21 => ⟨S_, .i32⟩
  | 22 => ⟨S_, .i1⟩
  | 23 => ⟨S512x1024, .f32⟩
  | 24 => ⟨S1024x1024, .f32⟩
  | 25 => ⟨S_, .f32⟩
  | 26 => ⟨S1024x1024, .f32⟩
  | 27 => ⟨S1024x1024, .f32⟩
  | 28 => ⟨S_, .f32⟩
  | 29 => ⟨S1024x1024, .f32⟩
  | 30 => ⟨S1024x1024, .f32⟩
  | 31 => ⟨S1024x1024, .f32⟩
  | 32 => ⟨S_, .f32⟩
  | 33 => ⟨S1024x1024, .f32⟩
  | 34 => ⟨S1024x1024, .f32⟩
  | 35 => ⟨S1024x1024, .f32⟩
  | 36 => ⟨S_, .f32⟩
  | 37 => ⟨S1024x1024, .f32⟩
  | 38 => ⟨S1024x1024, .f32⟩
  | 39 => ⟨S1024x1024, .f32⟩
  | 40 => ⟨S_, .f32⟩
  | 41 => ⟨S1024x1024, .f32⟩
  | 42 => ⟨S1024x1024, .f32⟩
  | 43 => ⟨S_, .f32⟩
  | 44 => ⟨S1024x1024, .f32⟩
  | 45 => ⟨S1024x1024, .f32⟩
  | 46 => ⟨S1024x1024, .f32⟩
  | 47 => ⟨S_, .f32⟩
  | 48 => ⟨S1024x1024, .f32⟩
  | 49 => ⟨S1024x1024, .f32⟩
  | 50 => ⟨S1024x1024, .f32⟩
  | 51 => ⟨S_, .f32⟩
  | 52 => ⟨S1024x1024, .f32⟩
  | 53 => ⟨S1024x1024, .f32⟩
  | 54 => ⟨S1024x1024, .f32⟩
  | 55 => ⟨S_, .f32⟩
  | 56 => ⟨S1024x1024, .f32⟩
  | 57 => ⟨S1024x1024, .f32⟩
  | 58 => ⟨S_, .i32⟩
  | 59 => ⟨S_, .i32⟩
  | 60 => ⟨S_, .i1⟩
  | 61 => ⟨S512x1024, .f32⟩
  | 62 => ⟨S_, .i32⟩
  | 63 => ⟨S_, .i32⟩
  | 64 => ⟨S_, .i1⟩
  | 65 => ⟨S512x1024, .f32⟩
  | 66 => ⟨S1024x1024, .f32⟩
  | 67 => ⟨S_, .f32⟩
  | 68 => ⟨S1024x1024, .f32⟩
  | 69 => ⟨S1024x1024, .f32⟩
  | 70 => ⟨S_, .f32⟩
  | 71 => ⟨S1024x1024, .f32⟩
  | 72 => ⟨S1024x1024, .f32⟩
  | 73 => ⟨S1024x1024, .f32⟩
  | 74 => ⟨S_, .f32⟩
  | 75 => ⟨S1024x1024, .f32⟩
  | 76 => ⟨S1024x1024, .f32⟩
  | 77 => ⟨S1024x1024, .f32⟩
  | 78 => ⟨S_, .f32⟩
  | 79 => ⟨S1024x1024, .f32⟩
  | 80 => ⟨S1024x1024, .f32⟩
  | 81 => ⟨S1024x1024, .f32⟩
  | 82 => ⟨S_, .f32⟩
  | 83 => ⟨S1024x1024, .f32⟩
  | 84 => ⟨S1024x1024, .f32⟩
  | 85 => ⟨S_, .f32⟩
  | 86 => ⟨S1024x1024, .f32⟩
  | 87 => ⟨S1024x1024, .f32⟩
  | 88 => ⟨S1024x1024, .f32⟩
  | 89 => ⟨S_, .f32⟩
  | 90 => ⟨S1024x1024, .f32⟩
  | 91 => ⟨S1024x1024, .f32⟩
  | 92 => ⟨S1024x1024, .f32⟩
  | 93 => ⟨S_, .f32⟩
  | 94 => ⟨S1024x1024, .f32⟩
  | 95 => ⟨S1024x1024, .f32⟩
  | 96 => ⟨S1024x1024, .f32⟩
  | 97 => ⟨S_, .f32⟩
  | 98 => ⟨S1024x1024, .f32⟩
  | 99 => ⟨S1024x1024, .f32⟩
  | 100 => ⟨S_, .i32⟩
  | 101 => ⟨S_, .i32⟩
  | 102 => ⟨S_, .i1⟩
  | 103 => ⟨S128x1024, .f32⟩
  | 104 => ⟨S_, .i32⟩
  | 105 => ⟨S_, .i32⟩
  | 106 => ⟨S_, .i1⟩
  | 107 => ⟨S128x1024, .f32⟩
  | 108 => ⟨S256x1024, .f32⟩
  | 109 => ⟨S_, .f32⟩
  | 110 => ⟨S256x1024, .f32⟩
  | 111 => ⟨S256x1024, .f32⟩
  | 112 => ⟨S_, .f32⟩
  | 113 => ⟨S256x1024, .f32⟩
  | 114 => ⟨S256x1024, .f32⟩
  | 115 => ⟨S256x1024, .f32⟩
  | 116 => ⟨S_, .f32⟩
  | 117 => ⟨S256x1024, .f32⟩
  | 118 => ⟨S256x1024, .f32⟩
  | 119 => ⟨S256x1024, .f32⟩
  | 120 => ⟨S_, .f32⟩
  | 121 => ⟨S256x1024, .f32⟩
  | 122 => ⟨S256x1024, .f32⟩
  | 123 => ⟨S256x1024, .f32⟩
  | 124 => ⟨S_, .f32⟩
  | 125 => ⟨S256x1024, .f32⟩
  | 126 => ⟨S256x1024, .f32⟩
  | 127 => ⟨S_, .f32⟩
  | _ => ⟨S1, .i32⟩

abbrev hbmTy0_1 (i : Nat) : BufTy := match i % 128 with
  | 0 => ⟨S256x1024, .f32⟩
  | 1 => ⟨S256x1024, .f32⟩
  | 2 => ⟨S256x1024, .f32⟩
  | 3 => ⟨S_, .f32⟩
  | 4 => ⟨S256x1024, .f32⟩
  | 5 => ⟨S256x1024, .f32⟩
  | 6 => ⟨S256x1024, .f32⟩
  | 7 => ⟨S_, .f32⟩
  | 8 => ⟨S256x1024, .f32⟩
  | 9 => ⟨S256x1024, .f32⟩
  | 10 => ⟨S256x1024, .f32⟩
  | 11 => ⟨S_, .f32⟩
  | 12 => ⟨S256x1024, .f32⟩
  | 13 => ⟨S256x1024, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_8 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_9 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_10 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_11 : Ref sig .tc := ⟨.hbm, 67, rfl⟩
abbrev main_v38 : Ref sig .tc := ⟨.hbm, 68, rfl⟩
abbrev main_v39 : Ref sig .tc := ⟨.hbm, 69, rfl⟩
abbrev main_cst_12 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_13 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_14 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_15 : Ref sig .tc := ⟨.hbm, 82, rfl⟩
abbrev main_v49 : Ref sig .tc := ⟨.hbm, 83, rfl⟩
abbrev main_v50 : Ref sig .tc := ⟨.hbm, 84, rfl⟩
abbrev main_cst_16 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_17 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_18 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_19 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_20 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_21 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_22 : Ref sig .tc := ⟨.hbm, 109, rfl⟩
abbrev main_v69 : Ref sig .tc := ⟨.hbm, 110, rfl⟩
abbrev main_v70 : Ref sig .tc := ⟨.hbm, 111, rfl⟩
abbrev main_cst_23 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_24 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_25 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_26 : Ref sig .tc := ⟨.hbm, 124, rfl⟩
abbrev main_v80 : Ref sig .tc := ⟨.hbm, 125, rfl⟩
abbrev main_v81 : Ref sig .tc := ⟨.hbm, 126, rfl⟩
abbrev main_cst_27 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_28 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_29 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_30 : Ref sig .tc := ⟨.hbm, 139, rfl⟩
abbrev main_v91 : Ref sig .tc := ⟨.hbm, 140, rfl⟩
abbrev main_v92 : Ref sig .tc := ⟨.hbm, 141, rfl⟩

abbrev nD : Nat := 1
abbrev τ : Topo := Topo.v7x

variable {F : FTy → Type} [FloatOps F]
-- ==== Proof.SameA.lean ====
/-
  The kernel's program over the machine's floats and its program over the extended reals are the same text. The theorems
  here say so of parts 1 to 3 of the body, both read over the machine's floats, so that one run of the kernel serves both.
-/
module

public import proofs.«01_k».proof.Defs
public import proofs.«01_k».proof.Proof.Gen.Kernel
public import proofs.«01_k».proof.Proof.Gen.KernelIdeal

@[expose] public section

set_option maxRecDepth 65536
set_option maxHeartbeats 2000000
set_option smartUnfolding false

namespace Cert.Mlp

open Idealize.ShloMosaic Idealize.SL.Sem

/-- Part 1 of the body. -/
theorem part1_same : Cert.Kernel.k0_part1 (F := Bits) = Cert.KernelIdeal.k0_part1 (F := Bits) := by exact rfl
/-- Part 2 of the body. -/
theorem part2_same : Cert.Kernel.k0_part2 (F := Bits) = Cert.KernelIdeal.k0_part2 (F := Bits) := by exact rfl
/-- Part 3 of the body. -/
theorem part3_same : Cert.Kernel.k0_part3 (F := Bits) = Cert.KernelIdeal.k0_part3 (F := Bits) := by exact rfl

end Cert.Mlp

end
-- ==== Proof.SameB.lean ====
/-
  The kernel's program over the machine's floats and its program over the extended reals are the same text. The theorems
  here say so of parts 4 to 6 of the body, both read over the machine's floats, so that one run of the kernel serves both.
-/
module

public import proofs.«01_k».proof.Defs
public import proofs.«01_k».proof.Proof.Gen.Kernel
public import proofs.«01_k».proof.Proof.Gen.KernelIdeal

@[expose] public section

set_option maxRecDepth 65536
set_option maxHeartbeats 2000000
set_option smartUnfolding false

namespace Cert.Mlp

open Idealize.ShloMosaic Idealize.SL.Sem

/-- Part 4 of the body. -/
theorem part4_same : Cert.Kernel.k0_part4 (F := Bits) = Cert.KernelIdeal.k0_part4 (F := Bits) := by exact rfl
/-- Part 5 of the body. -/
theorem part5_same : Cert.Kernel.k0_part5 (F := Bits) = Cert.KernelIdeal.k0_part5 (F := Bits) := by exact rfl
/-- Part 6 of the body. -/
theorem part6_same : Cert.Kernel.k0_part6 (F := Bits) = Cert.KernelIdeal.k0_part6 (F := Bits) := by exact rfl

end Cert.Mlp

end
-- ==== Proof.SameC.lean ====
/-
  The kernel's program over the machine's floats and its program over the extended reals are the same text. The theorems
  here say so of parts 7 to 9 of the body, both read over the machine's floats, so that one run of the kernel serves both.
-/
module

public import proofs.«01_k».proof.Defs
public import proofs.«01_k».proof.Proof.Gen.Kernel
public import proofs.«01_k».proof.Proof.Gen.KernelIdeal

@[expose] public section

set_option maxRecDepth 65536
set_option maxHeartbeats 2000000
set_option smartUnfolding false

namespace Cert.Mlp

open Idealize.ShloMosaic Idealize.SL.Sem

/-- Part 7 of the body. -/
theorem part7_same : Cert.Kernel.k0_part7 (F := Bits) = Cert.KernelIdeal.k0_part7 (F := Bits) := by exact rfl
/-- Part 8 of the body. -/
theorem part8_same : Cert.Kernel.k0_part8 (F := Bits) = Cert.KernelIdeal.k0_part8 (F := Bits) := by exact rfl
/-- Part 9 of the body. -/
theorem part9_same : Cert.Kernel.k0_part9 (F := Bits) = Cert.KernelIdeal.k0_part9 (F := Bits) := by exact rfl

end Cert.Mlp

end
-- ==== Proof.Same.lean ====
/-
  The kernel's program over the machine's floats and its program over the extended reals are the same text. The theorems
  here say so of the body and of the tables of bodies, both read over the machine's floats, so that one run of the kernel serves both.
-/
module

public import proofs.«01_k».proof.Defs
public import proofs.«01_k».proof.Proof.Gen.Kernel
public import proofs.«01_k».proof.Proof.Gen.KernelIdeal
public import proofs.«01_k».proof.Proof.SameA
public import proofs.«01_k».proof.Proof.SameB
public import proofs.«01_k».proof.Proof.SameC

@[expose] public section

set_option maxRecDepth 65536
set_option maxHeartbeats 2000000
set_option smartUnfolding false

namespace Cert.Mlp

open Idealize.ShloMosaic Idealize.SL.Sem

/-- The body. -/
theorem body_same : Cert.Kernel.cc0_mlp_fwdbwd (F := Bits) = Cert.KernelIdeal.cc0_mlp_fwdbwd (F := Bits) := by
  delta Cert.Kernel.cc0_mlp_fwdbwd Cert.KernelIdeal.cc0_mlp_fwdbwd
  dsimp only [part1_same, part2_same, part3_same, part4_same, part5_same, part6_same, part7_same, part8_same, part9_same]
  exact rfl

/-- The table of bodies. -/
theorem bodies_same : Cert.Kernel.defs₀ (F := Bits) = Cert.KernelIdeal.defs₀ (F := Bits) := by
  delta Cert.Kernel.defs₀ Cert.KernelIdeal.defs₀
  dsimp only [body_same]
  exact rfl

end Cert.Mlp

end
-- ==== Proof.Tile.lean ====
/-
  What one grid point of the MLP kernel computes, as plain functions of the blocks it is given. The body of the
  kernel is long; every value that one part of it hands to another, and every value it stores, has a name here. The
  names are over any reading of the floats, so that one run serves the machine's floats and the extended reals.
-/
module

public import proofs.«01_k».proof.Proof.Gen.KernelIdeal.Skeleton
public import Idealize.ShloMosaic.Lib.Pipeline.FrameBody

@[expose] public section

set_option maxRecDepth 16384

noncomputable section

namespace Cert.Mlp

open Idealize.ShloMosaic Idealize.SL.Sem Cert.KernelIdeal Cert.KernelIdeal.Gen

variable {F : FTy → Type} [FloatOps F]

/-- The blocks one grid point reads: the attention rows `o`, the columns of `z` (gate `gb`, and the two factors `gc`,
    `xi` of the convolution's input), the eight rows before (`gcp`, `xip`) and after (`gcn`, `xin`) of those two, the
    convolution's taps `cw`, the output projection `wo`, the residual `x`, the target `tgt`, the modulation rows `md`,
    the last norm's gain `gf` and the two matrices of the MLP. -/
structure TileIn (F : FTy → Type) where
  i : grid0.Coords
  o : Vec F S256x512 .bf16
  gb : Vec F S256x512 .f32
  gc : Vec F S256x512 .f32
  xi : Vec F S256x512 .f32
  gcp : Vec F S8x512 .f32
  xip : Vec F S8x512 .f32
  gcn : Vec F S8x512 .f32
  xin : Vec F S8x512 .f32
  cw : Vec F S8x512 .f32
  wo : Vec F S1024x1024 .bf16
  x : Vec F S256x1024 .f32
  tgt : Vec F S256x1024 .f32
  md : Vec F S8x1024 .f32
  gf : Vec F S1x1024 .f32
  w1 : Vec F S4x1024x1024 .bf16
  w2 : Vec F S4096x1024 .bf16

/-! ## Loads -/

/-- A whole block of 256 rows and 512 columns as the body loads it. -/
abbrev all512 {e : EltTy} (v : Vec F S256x512 e) : Vec F S256x512 e :=
  View.ld v (Rect.unit (s := S256x512) ![0, 0] S256x512.size inb_S256x512_S256x512_0_0)
/-- A whole block of 256 rows and 1024 columns as the body loads it. -/
abbrev all1024 {e : EltTy} (v : Vec F S256x1024 e) : Vec F S256x1024 e :=
  View.ld v (Rect.unit (s := S256x1024) ![0, 0] S256x1024.size inb_S256x1024_S256x1024_0_0)
/-- The whole gain row. -/
abbrev allGain {e : EltTy} (v : Vec F S1x1024 e) : Vec F S1x1024 e :=
  View.ld v (Rect.unit (s := S1x1024) ![0, 0] S1x1024.size inb_S1x1024_S1x1024_0_0)

/-- Contents `d` with pieces laid over them, the first of the list on top. -/
def layered {s : Shape} {e : EltTy} (d : Vec F s e) : List (View.Piece (Elt F) s e) → Vec F s e
  | [] => d
  | p :: L => p.1.overlay (layered d L) p.2

/-- Contents written piece by piece read as the pieces laid over them. -/
theorem read_writes_layered {κ : Kind} {sp : Space} {s : Shape} {e : EltTy} (v : View sig κ sp s e)
    (f : v.ty.Contents (Elt F)) (L : List (View.Piece (Elt F) s e)) :
    v.read (Elt F) (v.writes (Elt F) f L) = layered (v.read (Elt F) f) L := by
  induction L with
  | nil => rfl
  | cons p L ih =>
    funext y
    by_cases hy : y ∈ p.1.set
    · obtain ⟨x, rfl⟩ : ∃ x, p.1.emb x = y := p.1.exists_idx_of_mem hy
      show _ = p.1.overlay _ p.2 (p.1.emb x)
      rw [Rect.overlay_emb]
      exact View.read_writes_cons_emb v f p.1 p.2 L x
    · show _ = p.1.overlay _ p.2 y
      rw [Rect.overlay_of_not_mem _ _ _ hy, ← ih, View.writes_cons,
        View.read_slice_write_of_not_mem p.1 _ _ _ (by rwa [Rect.map_emb_univ])]

namespace TileIn

variable (T : TileIn F)

/-- The modulation row that scales the mixer's output. -/
def g1 : Vec F S1x1024 .f32 := View.ld T.md (Rect.unit (s := S8x1024) ![0, 0] S1x1024.size inb_S8x1024_S1x1024_0_0)
/-- The modulation row added before the MLP. -/
def sh2 : Vec F S1x1024 .f32 := View.ld T.md (Rect.unit (s := S8x1024) ![1, 0] S1x1024.size inb_S8x1024_S1x1024_1_0)
/-- The modulation row that scales the norm before the MLP. -/
def sc2 : Vec F S1x1024 .f32 := View.ld T.md (Rect.unit (s := S8x1024) ![2, 0] S1x1024.size inb_S8x1024_S1x1024_2_0)
/-- The modulation row that scales the MLP's output. -/
def g2 : Vec F S1x1024 .f32 := View.ld T.md (Rect.unit (s := S8x1024) ![3, 0] S1x1024.size inb_S8x1024_S1x1024_3_0)
/-- The three taps of the convolution. -/
def cw0 : Vec F S1x512 .f32 := View.ld T.cw (Rect.unit (s := S8x512) ![0, 0] S1x512.size inb_S8x512_S1x512_0_0)
def cw1 : Vec F S1x512 .f32 := View.ld T.cw (Rect.unit (s := S8x512) ![1, 0] S1x512.size inb_S8x512_S1x512_1_0)
def cw2 : Vec F S1x512 .f32 := View.ld T.cw (Rect.unit (s := S8x512) ![2, 0] S1x512.size inb_S8x512_S1x512_2_0)
/-- The upper and lower halves of the output projection. -/
def woA : Vec F S512x1024 .bf16 := View.ld T.wo (Rect.unit (s := S1024x1024) ![0, 0] S512x1024.size inb_S1024x1024_S512x1024_0_0)
def woB : Vec F S512x1024 .bf16 := View.ld T.wo (Rect.unit (s := S1024x1024) ![512, 0] S512x1024.size inb_S1024x1024_S512x1024_512_0)
/-- The four shards of the MLP's first matrix. -/
def w1s0 : Vec F S1x1024x1024 .bf16 := View.ld T.w1 (Rect.unit (s := S4x1024x1024) ![0, 0, 0] S1x1024x1024.size inb_S4x1024x1024_S1x1024x1024_0_0_0)
def w1s1 : Vec F S1x1024x1024 .bf16 := View.ld T.w1 (Rect.unit (s := S4x1024x1024) ![1, 0, 0] S1x1024x1024.size inb_S4x1024x1024_S1x1024x1024_1_0_0)
def w1s2 : Vec F S1x1024x1024 .bf16 := View.ld T.w1 (Rect.unit (s := S4x1024x1024) ![2, 0, 0] S1x1024x1024.size inb_S4x1024x1024_S1x1024x1024_2_0_0)
def w1s3 : Vec F S1x1024x1024 .bf16 := View.ld T.w1 (Rect.unit (s := S4x1024x1024) ![3, 0, 0] S1x1024x1024.size inb_S4x1024x1024_S1x1024x1024_3_0_0)
/-- The four row blocks of the MLP's second matrix. -/
def w2s0 : Vec F S1024x1024 .bf16 := View.ld T.w2 (Rect.unit (s := S4096x1024) ![0, 0] S1024x1024.size inb_S4096x1024_S1024x1024_0_0)
def w2s1 : Vec F S1024x1024 .bf16 := View.ld T.w2 (Rect.unit (s := S4096x1024) ![1024, 0] S1024x1024.size inb_S4096x1024_S1024x1024_1024_0)
def w2s2 : Vec F S1024x1024 .bf16 := View.ld T.w2 (Rect.unit (s := S4096x1024) ![2048, 0] S1024x1024.size inb_S4096x1024_S1024x1024_2048_0)
def w2s3 : Vec F S1024x1024 .bf16 := View.ld T.w2 (Rect.unit (s := S4096x1024) ![3072, 0] S1024x1024.size inb_S4096x1024_S1024x1024_3072_0)

/-! ## The mixer's output, forwards -/

/-- The convolution's input on the tile's own rows. -/
def u : FVec F S256x512 .f32 := k0_pay4 (all512 T.gc) (all512 T.xi)
/-- The convolution's input on the row after the tile (zero after the last tile). -/
def uNext : FVec F S1x512 .f32 :=
  k0_pay5 T.i (View.ld T.gcn (Rect.unit (s := S8x512) ![0, 0] S1x512.size inb_S8x512_S1x512_0_0))
    (View.ld T.xin (Rect.unit (s := S8x512) ![0, 0] S1x512.size inb_S8x512_S1x512_0_0))
/-- The row numbers of the tile. -/
def rows : IVec S256x512 32 := iota .tc S256x512 32 [0] iota_S256x512_d0_w32
/-- The convolution's input moved down by one row, the row before the tile on top (zero before the first tile). -/
def uPrev : FVec F S256x512 .f32 :=
  k0_pay6 T.i (all512 T.gc) (all512 T.xi)
    (View.ld T.gcp (Rect.unit (s := S8x512) ![7, 0] S1x512.size inb_S8x512_S1x512_7_0))
    (View.ld T.xip (Rect.unit (s := S8x512) ![7, 0] S1x512.size inb_S8x512_S1x512_7_0))
/-- The convolution. -/
def yv : FVec F S256x512 .f32 := k0_pay7 T.u T.uNext rows T.uPrev 255#32 T.cw0 T.cw1 T.cw2
/-- The gated convolution. -/
def conv : FVec F S256x512 .bf16 := k0_pay8 T.u T.uNext rows T.uPrev 255#32 T.cw0 T.cw1 T.cw2 (all512 T.gb)
/-- The output projection of attention and gated convolution. -/
def y1 : FVec F S256x1024 .f32 :=
  k0_pay9 T.u T.uNext rows T.uPrev 255#32 T.cw0 T.cw1 T.cw2 (all512 T.gb) (all512 T.o) T.woA T.woB
/-- The residual stream after the mixer. -/
def x1 : FVec F S256x1024 .f32 :=
  k0_pay10 T.g1 T.u T.uNext rows T.uPrev 255#32 T.cw0 T.cw1 T.cw2 (all512 T.gb) (all512 T.o) T.woA T.woB (all1024 T.x)
/-- Its mean square, row by row. -/
def ms2 : FVec F S256x1 .f32 :=
  k0_pay11 T.g1 T.u T.uNext rows T.uPrev 255#32 T.cw0 T.cw1 T.cw2 (all512 T.gb) (all512 T.o) T.woA T.woB (all1024 T.x)

/-! ## The MLP, forwards -/

/-- The norm's factor, row by row. -/
def r2 : FVec F S256x1 .f32 := k0_pay12 T.ms2
/-- The normed stream. -/
def xn1 : FVec F S256x1024 .f32 := k0_pay13 T.x1 T.ms2
/-- The MLP's input. -/
def h2 : FVec F S256x1024 .bf16 := k0_pay14 T.sh2 T.sc2 T.x1 T.ms2
/-- The hidden layer after the positive part, the four column blocks. -/
def a0 : FVec F S256x1024 .f32 := k0_pay15 T.sh2 T.sc2 T.x1 T.ms2 T.w1s0
def a1 : FVec F S256x1024 .f32 := k0_pay19 T.sh2 T.sc2 T.x1 T.ms2 T.w1s1
def a2 : FVec F S256x1024 .f32 := k0_pay22 T.h2 T.w1s2
def a3 : FVec F S256x1024 .f32 := k0_pay26 T.h2 T.w1s3
/-- The same blocks as the body keeps them for the way back. -/
def k0 : FVec F S1x256x1024 .f32 := k0_pay16 T.sh2 T.sc2 T.x1 T.ms2 T.w1s0
def k1 : FVec F S1x256x1024 .f32 := k0_pay20 T.a1
def k2 : FVec F S1x256x1024 .f32 := k0_pay23 T.h2 T.w1s2
def k3 : FVec F S1x256x1024 .f32 := k0_pay27 T.a3
/-- The squares of the blocks. -/
def q0 : FVec F S256x1024 .bf16 := k0_pay17 T.sh2 T.sc2 T.x1 T.ms2 T.w1s0
def q1 : FVec F S256x1024 .bf16 := k0_pay21 T.a1
def q2 : FVec F S256x1024 .bf16 := k0_pay24 T.h2 T.w1s2
def q3 : FVec F S256x1024 .bf16 := k0_pay28 T.a3
/-- The MLP's output, summed over one, three and four blocks. -/
def y2a : FVec F S256x1024 .f32 := k0_pay18 T.sh2 T.sc2 T.x1 T.ms2 T.w1s0 T.w2s0
def y2c : FVec F S256x1024 .f32 := k0_pay25 T.h2 T.y2a T.a1 T.w2s1 T.w1s2 T.w2s2
def y2 : FVec F S256x1024 .f32 := k0_pay29 T.y2c T.a3 T.w2s3

/-! ## The loss and the last norm, backwards -/

/-- The last norm's factor, row by row. -/
def r3 : FVec F S256x1 .f32 := k0_pay31 T.g2 T.x1 T.y2c T.a3 T.w2s3
/-- The stream after the MLP, normed. -/
def xn3 : FVec F S256x1024 .f32 := k0_pay32 T.g2 T.x1 T.y2c T.a3 T.w2s3
/-- The tile's share of the loss. -/
def lossT : FVec F S1x1 .f32 := k0_pay34 T.g2 T.x1 T.y2c T.a3 T.w2s3 (allGain T.gf) (all1024 T.tgt)
/-- The gradient of the prediction. -/
def dy : FVec F S256x1024 .f32 := k0_pay35 T.g2 T.x1 T.y2c T.a3 T.w2s3 (allGain T.gf) (all1024 T.tgt)
/-- The gradient of the normed stream, and its product with that stream. -/
def dxn3 : FVec F S256x1024 .f32 := k0_pay36 T.g2 T.x1 T.y2c T.a3 T.w2s3 (allGain T.gf) (all1024 T.tgt)
def dxn3x : FVec F S256x1024 .f32 := k0_pay37 T.g2 T.x1 T.y2c T.a3 T.w2s3 (allGain T.gf) (all1024 T.tgt)
/-- The gradient of the stream after the MLP. -/
def dx2 : FVec F S256x1024 .f32 := k0_pay38 T.r3 T.xn3 T.dxn3 T.dxn3x

/-! ## The MLP, backwards -/

/-- The gradient of the MLP's output. -/
def dy2 : FVec F S256x1024 .bf16 := k0_pay39 T.g2 T.r3 T.xn3 T.dxn3 T.dxn3x
/-- The gradient of the hidden layer, the four column blocks. -/
def da0 : FVec F S256x1024 .bf16 := k0_pay40 T.g2 T.r3 T.xn3 T.dxn3 T.dxn3x T.w2s0 T.k0
/-- The gradient of the second block's square, and twice that block. -/
def dq1 : FVec F S256x1024 .f32 := k0_pay42 T.g2 T.r3 T.xn3 T.dxn3 T.dxn3x T.w2s1
def tw1 : FVec F S256x1024 .f32 := k0_pay43 T.k1
def da1 : FVec F S256x1024 .bf16 := k0_pay44 T.dq1 T.tw1
def da2 : FVec F S256x1024 .bf16 := k0_pay45 T.dy2 T.w2s2 T.k2
def da3 : FVec F S256x1024 .bf16 := k0_pay47 T.dy2 T.w2s3 T.k3
/-- The gradient of the MLP's input, summed over one, three and four blocks. -/
def dh2a : FVec F S256x1024 .f32 := k0_pay41 T.g2 T.r3 T.xn3 T.dxn3 T.dxn3x T.w2s0 T.k0 T.w1s0
def dh2c : FVec F S256x1024 .f32 := k0_pay46 T.dy2 T.dh2a T.dq1 T.tw1 T.w1s1 T.w2s2 T.k2 T.w1s2
def dh2 : FVec F S256x1024 .f32 := k0_pay48 T.dh2c T.da3 T.w1s3

/-! ## The mixer's output, backwards -/

/-- The gradient of the residual stream after the mixer. -/
def dx1 : FVec F S256x1024 .f32 := k0_pay49 T.sc2 T.r2 T.xn1 T.dx2 T.dh2c T.da3 T.w1s3
/-- The gradient of the output projection's result. -/
def dy1 : FVec F S256x1024 .bf16 := k0_pay50 T.g1 T.sc2 T.r2 T.xn1 T.dx2 T.dh2c T.da3 T.w1s3
/-- The gradient of the attention rows. -/
def dO : FVec F S256x512 .bf16 := k0_pay51 T.g1 T.sc2 T.r2 T.xn1 T.dx2 T.dh2c T.da3 T.w1s3 T.woA
/-- The gradients of the gate and of the convolution. -/
def dgb : FVec F S256x512 .f32 := k0_pay53 T.g1 T.sc2 T.yv T.r2 T.xn1 T.dx2 T.dh2c T.da3 T.w1s3 T.woB
def dyv : FVec F S256x512 .f32 := k0_pay54 T.g1 T.sc2 (all512 T.gb) T.r2 T.xn1 T.dx2 T.dh2c T.da3 T.w1s3 T.woB

/-! ## The sums over the rows -/

/-- The rows of the accumulator `d`. -/
def accRow0 (d : Vec F S8x1024 .f32) : Vec F S1x1024 .f32 := View.ld d (Rect.unit (s := S8x1024) ![0, 0] S1x1024.size inb_S8x1024_S1x1024_0_0)
def accRow1 (d : Vec F S8x1024 .f32) : Vec F S1x1024 .f32 := View.ld d (Rect.unit (s := S8x1024) ![1, 0] S1x1024.size inb_S8x1024_S1x1024_1_0)
def accRow2 (d : Vec F S8x1024 .f32) : Vec F S1x1024 .f32 := View.ld d (Rect.unit (s := S8x1024) ![2, 0] S1x1024.size inb_S8x1024_S1x1024_2_0)
def accRow3 (d : Vec F S8x1024 .f32) : Vec F S1x1024 .f32 := View.ld d (Rect.unit (s := S8x1024) ![3, 0] S1x1024.size inb_S8x1024_S1x1024_3_0)
def accRow4 (d : Vec F S8x1024 .f32) : Vec F S1x1024 .f32 := View.ld d (Rect.unit (s := S8x1024) ![4, 0] S1x1024.size inb_S8x1024_S1x1024_4_0)
def accRow5 (d : Vec F S8x1024 .f32) : Vec F S1x1024 .f32 := View.ld d (Rect.unit (s := S8x1024) ![5, 0] S1x1024.size inb_S8x1024_S1x1024_5_0)

/-- What the tile adds to the rows of the accumulator: the gradients of the gain, of the four modulation rows, and
    the loss. -/
def accGain (d : Vec F S8x1024 .f32) : FVec F S1x1024 .f32 := k0_pay56 T.xn3 T.dy (accRow0 d)
def accG2 (d : Vec F S8x1024 .f32) : FVec F S1x1024 .f32 := k0_pay57 T.y2 T.dx2 (accRow1 d)
def accSh2 (d : Vec F S8x1024 .f32) : FVec F S1x1024 .f32 := k0_pay58 T.dh2 (accRow2 d)
def accSc2 (d : Vec F S8x1024 .f32) : FVec F S1x1024 .f32 := k0_pay1 (k0_pay59 (accRow3 d)) (k0_pay60 T.xn1 T.dh2)
def accLoss (d : Vec F S8x1024 .f32) : FVec F S1x1024 .f32 := k0_pay2 T.lossT (accRow4 d)
def accG1 (d : Vec F S8x1024 .f32) : FVec F S1x1024 .f32 := k0_pay55 T.y1 T.dx1 (accRow5 d)

/-- The accumulator the tile starts from: zeros at the first tile, `d` at every other. -/
def acc0 (d : Vec F S8x1024 .f32) : Vec F S8x1024 .f32 := if (T.i 0).val = 0 then k0_pay3 else d

/-- The six rows stored over the accumulator, the last stored first. -/
def accPieces (d : Vec F S8x1024 .f32) : List (View.Piece (Elt F) S8x1024 .f32) :=
  [⟨Rect.unit (s := S8x1024) ![4, 0] S1x1024.size inb_S8x1024_S1x1024_4_0, T.accLoss d⟩,
   ⟨Rect.unit (s := S8x1024) ![3, 0] S1x1024.size inb_S8x1024_S1x1024_3_0, T.accSc2 d⟩,
   ⟨Rect.unit (s := S8x1024) ![2, 0] S1x1024.size inb_S8x1024_S1x1024_2_0, T.accSh2 d⟩,
   ⟨Rect.unit (s := S8x1024) ![1, 0] S1x1024.size inb_S8x1024_S1x1024_1_0, T.accG2 d⟩,
   ⟨Rect.unit (s := S8x1024) ![0, 0] S1x1024.size inb_S8x1024_S1x1024_0_0, T.accGain d⟩,
   ⟨Rect.unit (s := S8x1024) ![5, 0] S1x1024.size inb_S8x1024_S1x1024_5_0, T.accG1 d⟩]

/-- The pieces stored into the block of squares, into the block of the hidden layer's gradient and into the kept
    blocks, the last stored first. -/
def qPieces : List (View.Piece (Elt F) S256x4096 .bf16) :=
  [⟨Rect.unit (s := S256x4096) ![0, 3072] S256x1024.size inb_S256x4096_S256x1024_0_3072, T.q3⟩,
   ⟨Rect.unit (s := S256x4096) ![0, 2048] S256x1024.size inb_S256x4096_S256x1024_0_2048, T.q2⟩,
   ⟨Rect.unit (s := S256x4096) ![0, 1024] S256x1024.size inb_S256x4096_S256x1024_0_1024, T.q1⟩,
   ⟨Rect.unit (s := S256x4096) ![0, 0] S256x1024.size inb_S256x4096_S256x1024_0_0, T.q0⟩]
def daPieces : List (View.Piece (Elt F) S256x4096 .bf16) :=
  [⟨Rect.unit (s := S256x4096) ![0, 3072] S256x1024.size inb_S256x4096_S256x1024_0_3072, T.da3⟩,
   ⟨Rect.unit (s := S256x4096) ![0, 2048] S256x1024.size inb_S256x4096_S256x1024_0_2048, T.da2⟩,
   ⟨Rect.unit (s := S256x4096) ![0, 1024] S256x1024.size inb_S256x4096_S256x1024_0_1024, T.da1⟩,
   ⟨Rect.unit (s := S256x4096) ![0, 0] S256x1024.size inb_S256x4096_S256x1024_0_0, T.da0⟩]
def keptPieces : List (View.Piece (Elt F) S4x256x1024 .f32) :=
  [⟨Rect.unit (s := S4x256x1024) ![3, 0, 0] S1x256x1024.size inb_S4x256x1024_S1x256x1024_3_0_0, T.k3⟩,
   ⟨Rect.unit (s := S4x256x1024) ![2, 0, 0] S1x256x1024.size inb_S4x256x1024_S1x256x1024_2_0_0, T.k2⟩,
   ⟨Rect.unit (s := S4x256x1024) ![1, 0, 0] S1x256x1024.size inb_S4x256x1024_S1x256x1024_1_0_0, T.k1⟩,
   ⟨Rect.unit (s := S4x256x1024) ![0, 0, 0] S1x256x1024.size inb_S4x256x1024_S1x256x1024_0_0_0, T.k0⟩]

/-- The block of squares, and the block of the hidden layer's gradient. -/
def act : Vec F S256x4096 .bf16 := View.canon T.qPieces
def da : Vec F S256x4096 .bf16 := View.canon T.daPieces

/-- The accumulator after the tile, started from `d`: rows 0 to 5 stored, rows 6 and 7 left. -/
def acc (d : Vec F S8x1024 .f32) : Vec F S8x1024 .f32 := layered (T.acc0 d) (T.accPieces (T.acc0 d))

end TileIn

end Cert.Mlp

end
-- ==== Proof.PartsMix.lean ====
/-
  The first parts of the body: up to the residual stream after the mixer. Each part of the body is run by itself: from the
  memrefs it touches to those memrefs and the values it hands on, named as in Tile.lean.
-/
module

public import proofs.«01_k».proof.Proof.Tile
public import proofs.«01_k».proof.Proof.Gen.KernelIdeal.Frame.Runs
public import Idealize.ShloMosaic.Lib.VecWindow

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The body's test of the first tile, as a fact about the tile's number. -/
theorem first_tile (i : grid0.Coords) : cond0_0 i ↔ (i 0).val = 0 := by
  have h : ∀ n : Fin 16, (Scalar.cmpi .ne (Scalar.extui (Scalar.cmpi .eq (BitVec.ofNat 32 n.val) 0#32)) 0#32) = 1#1 ↔ n.val = 0 := by
    decide +kernel
  exact h (i 0)

/-- A goal at one returned value from the same goal at an equal value. -/
theorem ret_eq {P : sProp 𝕄} {α : Type} {K : α → sProp 𝕄} {a b : α}
    (hP : Entails' P (K a)) (h : a = b) : Entails' P (K b) := h ▸ hP

variable (c : Dev nD) (T : TileIn F)
  (arg1 : Memref sig .tc .vmem S256x512 .bf16) (harg1 : arg1.IsWhole)
  (arg2 : Memref sig .tc .vmem S256x512 .f32) (harg2 : arg2.IsWhole)
  (arg3 : Memref sig .tc .vmem S256x512 .f32) (harg3 : arg3.IsWhole)
  (arg4 : Memref sig .tc .vmem S256x512 .f32) (harg4 : arg4.IsWhole)
  (arg5 : Memref sig .tc .vmem S8x512 .f32) (harg5 : arg5.IsWhole)
  (arg6 : Memref sig .tc .vmem S8x512 .f32) (harg6 : arg6.IsWhole)
  (arg7 : Memref sig .tc .vmem S8x512 .f32) (harg7 : arg7.IsWhole)
  (arg8 : Memref sig .tc .vmem S8x512 .f32) (harg8 : arg8.IsWhole)
  (arg9 : Memref sig .tc .vmem S8x512 .f32) (harg9 : arg9.IsWhole)
  (arg10 : Memref sig .tc .vmem S1024x1024 .bf16) (harg10 : arg10.IsWhole)
  (arg11 : Memref sig .tc .vmem S256x1024 .f32) (harg11 : arg11.IsWhole)
  (arg12 : Memref sig .tc .vmem S256x1024 .f32) (harg12 : arg12.IsWhole)
  (arg13 : Memref sig .tc .vmem S8x1024 .f32) (harg13 : arg13.IsWhole)
  (arg14 : Memref sig .tc .vmem S1x1024 .f32) (harg14 : arg14.IsWhole)
  (arg15 : Memref sig .tc .vmem S4x1024x1024 .bf16) (harg15 : arg15.IsWhole)
  (arg16 : Memref sig .tc .vmem S4096x1024 .bf16) (harg16 : arg16.IsWhole)
  (arg17 : Memref sig .tc .vmem S256x4096 .bf16) (harg17 : arg17.IsWhole)
  (arg18 : Memref sig .tc .vmem S256x4096 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S256x1024 .f32) (harg21 : arg21.IsWhole)
  (arg22 : Memref sig .tc .vmem S256x512 .bf16) (harg22 : arg22.IsWhole)
  (arg23 : Memref sig .tc .vmem S8x1024 .f32) (harg23 : arg23.IsWhole)
  (arg24 : Memref sig .tc .vmem S256x1024 .bf16) (harg24 : arg24.IsWhole)
  (arg25 : Memref sig .tc .vmem S256x512 .bf16) (harg25 : arg25.IsWhole)
  (arg26 : Memref sig .tc .vmem S256x512 .f32) (harg26 : arg26.IsWhole)
  (arg27 : Memref sig .tc .vmem S256x512 .f32) (harg27 : arg27.IsWhole)
  (arg28 : Memref sig .tc .vmem S4x256x1024 .f32) (harg28 : arg28.IsWhole)

set_option maxHeartbeats 1600000 in
/-- Part 1 of the body: the modulation rows and the convolution's input with its neighbours; the accumulator is zeroed at the first tile. -/
theorem part1_run (d : Vec F S8x1024 .f32)
    (E : Set ℕ) (K : (Σ' (v3 : Vec F S1x1024 .f32) (v4 : Vec F S1x1024 .f32) (v5 : Vec F S1x1024 .f32) (v6 : Vec F S1x1024 .f32) (v9 : FVec F S256x512 .f32) (v21 : FVec F S1x512 .f32) (v22 : IVec S256x512 32) (v28 : FVec F S256x512 .f32), BitVec 32) → sProp 𝕄) :
    iprop(owns (c : Thread nD τ) arg3 fullShare T.gc
      ∗ owns (c : Thread nD τ) arg4 fullShare T.xi
      ∗ owns (c : Thread nD τ) arg5 fullShare T.gcp
      ∗ owns (c : Thread nD τ) arg6 fullShare T.xip
      ∗ owns (c : Thread nD τ) arg7 fullShare T.gcn
      ∗ owns (c : Thread nD τ) arg8 fullShare T.xin
      ∗ owns (c : Thread nD τ) arg13 fullShare T.md
      ∗ owns (c : Thread nD τ) arg23 fullShare d
      ∗ (iprop(owns (c : Thread nD τ) arg3 fullShare T.gc
      ∗ owns (c : Thread nD τ) arg4 fullShare T.xi
      ∗ owns (c : Thread nD τ) arg5 fullShare T.gcp
      ∗ owns (c : Thread nD τ) arg6 fullShare T.xip
      ∗ owns (c : Thread nD τ) arg7 fullShare T.gcn
      ∗ owns (c : Thread nD τ) arg8 fullShare T.xin
      ∗ owns (c : Thread nD τ) arg13 fullShare T.md
      ∗ owns (c : Thread nD τ) arg23 fullShare (T.acc0 d)) -∗ K ⟨T.g1, T.sh2, T.sc2, T.g2, T.u, T.uNext, TileIn.rows, T.uPrev, 255#32⟩))
    ⊢ wp frame (wpE (defs₀ (F := F)) Variants.none c none) E
        (k0_part1 T.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 ) K := by
  rw [k0_part1_eq_skeleton]; unfold k0_part1_skel owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f13, %hf13, H13⟩, ⟨%f23, %hf23, H23⟩, Hk⟩
  obtain ⟨i, o, gb, gc, xi, gcp, xip, gcn, xin, cw, wo, x, tgt, md, gf, w1, w2⟩ := T
  dsimp only at *
  subst hf3
  subst hf4
  subst hf5
  subst hf6
  subst hf7
  subst hf8
  subst hf13
  by_cases hc : cond0_0 i
  · sl_exec (disch := first | sl_exact hc)
    sl_step
    apply ret_eq (K := K)
    all_goals try iapply Hk
    rotate_right
    · rfl
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H13]
    · iexists _; isplitr; · ipureintro; rfl
      iexact H13
    iexists _; isplitr
    swap; · iexact H23
    ipureintro
    rw [View.read_writes_full, TileIn.acc0, if_pos ((first_tile i).mp hc)]
  · sl_exec (disch := first | sl_exact hc)
    sl_step
    apply ret_eq (K := K)
    all_goals try iapply Hk
    rotate_right
    · rfl
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H13]
    · iexists _; isplitr; · ipureintro; rfl
      iexact H13
    iexists _; isplitr
    swap; · iexact H23
    ipureintro
    rw [TileIn.acc0, if_neg (fun h => hc ((first_tile i).mpr h)), hf23]

set_option maxHeartbeats 1600000 in
/-- Part 2 of the body: the convolution, the output projection and the residual stream after the mixer. -/
theorem part2_run
    (E : Set ℕ) (K : (Σ' (v45 : FVec F S256x512 .f32) (v46 : Vec F S256x512 .f32) (v55 : FVec F S256x1024 .f32) (v59 : FVec F S256x1024 .f32), FVec F S256x1 .f32) → sProp 𝕄) :
    iprop(owns (c : Thread nD τ) arg1 fullShare T.o
      ∗ owns (c : Thread nD τ) arg2 fullShare T.gb
      ∗ owns (c : Thread nD τ) arg9 fullShare T.cw
      ∗ owns (c : Thread nD τ) arg10 fullShare T.wo
      ∗ owns (c : Thread nD τ) arg11 fullShare T.x
      ∗ (∃ d, owns (c : Thread nD τ) arg22 fullShare d)
      ∗ (iprop(owns (c : Thread nD τ) arg1 fullShare T.o
      ∗ owns (c : Thread nD τ) arg2 fullShare T.gb
      ∗ owns (c : Thread nD τ) arg9 fullShare T.cw
      ∗ owns (c : Thread nD τ) arg10 fullShare T.wo
      ∗ owns (c : Thread nD τ) arg11 fullShare T.x
      ∗ owns (c : Thread nD τ) arg22 fullShare (T.conv)) -∗ K ⟨T.yv, all512 T.gb, T.y1, T.x1, T.ms2⟩))
    ⊢ wp frame (wpE (defs₀ (F := F)) Variants.none c none) E
        (k0_part2 T.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 T.g1 T.u T.uNext TileIn.rows T.uPrev 255#32) K := by
  rw [k0_part2_eq_skeleton]; unfold k0_part2_skel owns
  iintro ⟨⟨%f1, %hf1, H1⟩, ⟨%f2, %hf2, H2⟩, ⟨%f9, %hf9, H9⟩, ⟨%f10, %hf10, H10⟩, ⟨%f11, %hf11, H11⟩, ⟨%d22, %f22, -, H22⟩, Hk⟩
  obtain ⟨i, o, gb, gc, xi, gcp, xip, gcn, xin, cw, wo, x, tgt, md, gf, w1, w2⟩ := T
  dsimp only at *
  subst hf1
  subst hf2
  subst hf9
  subst hf10
  subst hf11
  sl_exec
  sl_step
  apply ret_eq (K := K)
  · iapply Hk
    isplitl [H1]
    · iexists _; isplitr; · ipureintro; rfl
      iexact H1
    isplitl [H2]
    · iexists _; isplitr; · ipureintro; rfl
      iexact H2
    isplitl [H9]
    · iexists _; isplitr; · ipureintro; rfl
      iexact H9
    isplitl [H10]
    · iexists _; isplitr; · ipureintro; rfl
      iexact H10
    isplitl [H11]
    · iexists _; isplitr; · ipureintro; rfl
      iexact H11
    iexists _; isplitr
    swap; · iexact H22
    ipureintro; exact View.read_writes_full _ _ _ _ _
  · rfl

end Cert.Mlp

end
-- ==== Proof.PartsMlp.lean ====
/-
  The middle parts of the body, forwards: the MLP and the loss. Each part of the body is run by itself: from the
  memrefs it touches to those memrefs and the values it hands on, named as in Tile.lean.
-/
module

public import proofs.«01_k».proof.Proof.PartsMix
public import proofs.«01_k».proof.Proof.Gen.KernelIdeal.Frame.Runs
public import Idealize.ShloMosaic.Lib.VecWindow

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (T : TileIn F)
  (arg1 : Memref sig .tc .vmem S256x512 .bf16) (harg1 : arg1.IsWhole)
  (arg2 : Memref sig .tc .vmem S256x512 .f32) (harg2 : arg2.IsWhole)
  (arg3 : Memref sig .tc .vmem S256x512 .f32) (harg3 : arg3.IsWhole)
  (arg4 : Memref sig .tc .vmem S256x512 .f32) (harg4 : arg4.IsWhole)
  (arg5 : Memref sig .tc .vmem S8x512 .f32) (harg5 : arg5.IsWhole)
  (arg6 : Memref sig .tc .vmem S8x512 .f32) (harg6 : arg6.IsWhole)
  (arg7 : Memref sig .tc .vmem S8x512 .f32) (harg7 : arg7.IsWhole)
  (arg8 : Memref sig .tc .vmem S8x512 .f32) (harg8 : arg8.IsWhole)
  (arg9 : Memref sig .tc .vmem S8x512 .f32) (harg9 : arg9.IsWhole)
  (arg10 : Memref sig .tc .vmem S1024x1024 .bf16) (harg10 : arg10.IsWhole)
  (arg11 : Memref sig .tc .vmem S256x1024 .f32) (harg11 : arg11.IsWhole)
  (arg12 : Memref sig .tc .vmem S256x1024 .f32) (harg12 : arg12.IsWhole)
  (arg13 : Memref sig .tc .vmem S8x1024 .f32) (harg13 : arg13.IsWhole)
  (arg14 : Memref sig .tc .vmem S1x1024 .f32) (harg14 : arg14.IsWhole)
  (arg15 : Memref sig .tc .vmem S4x1024x1024 .bf16) (harg15 : arg15.IsWhole)
  (arg16 : Memref sig .tc .vmem S4096x1024 .bf16) (harg16 : arg16.IsWhole)
  (arg17 : Memref sig .tc .vmem S256x4096 .bf16) (harg17 : arg17.IsWhole)
  (arg18 : Memref sig .tc .vmem S256x4096 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S256x1024 .f32) (harg21 : arg21.IsWhole)
  (arg22 : Memref sig .tc .vmem S256x512 .bf16) (harg22 : arg22.IsWhole)
  (arg23 : Memref sig .tc .vmem S8x1024 .f32) (harg23 : arg23.IsWhole)
  (arg24 : Memref sig .tc .vmem S256x1024 .bf16) (harg24 : arg24.IsWhole)
  (arg25 : Memref sig .tc .vmem S256x512 .bf16) (harg25 : arg25.IsWhole)
  (arg26 : Memref sig .tc .vmem S256x512 .f32) (harg26 : arg26.IsWhole)
  (arg27 : Memref sig .tc .vmem S256x512 .f32) (harg27 : arg27.IsWhole)
  (arg28 : Memref sig .tc .vmem S4x256x1024 .f32) (harg28 : arg28.IsWhole)

set_option maxHeartbeats 1600000 in
/-- Part 3 of the body: the norm before the MLP and the first block of the hidden layer. -/
theorem part3_run (f17 : arg17.view.ty.Contents (Elt F)) (f28 : arg28.view.ty.Contents (Elt F))
    (E : Set ℕ) (K : (Σ' (v67 : FVec F S256x1 .f32) (v69 : FVec F S256x1024 .f32) (v76 : FVec F S256x1024 .bf16) (v92 : FVec F S256x1024 .f32), FVec F S256x1024 .f32) → sProp 𝕄) :
    iprop(owns (c : Thread nD τ) arg15 fullShare T.w1
      ∗ owns (c : Thread nD τ) arg16 fullShare T.w2
      ∗ (∃ d, owns (c : Thread nD τ) arg19 fullShare d)
      ∗ (arg17.view.loc (c : Thread nD τ) ↦[arg17.view.set]{fullShare} f17)
      ∗ (arg28.view.loc (c : Thread nD τ) ↦[arg28.view.set]{fullShare} f28)
      ∗ (iprop(owns (c : Thread nD τ) arg15 fullShare T.w1
      ∗ owns (c : Thread nD τ) arg16 fullShare T.w2
      ∗ owns (c : Thread nD τ) arg19 fullShare (T.h2)
      ∗ (arg17.view.loc (c : Thread nD τ) ↦[arg17.view.set]{fullShare} (arg17.view.writes (Elt F) f17 [⟨Rect.unit (s := S256x4096) ![0, 0] S256x1024.size inb_S256x4096_S256x1024_0_0, T.q0⟩]))
      ∗ (arg28.view.loc (c : Thread nD τ) ↦[arg28.view.set]{fullShare} (arg28.view.writes (Elt F) f28 [⟨Rect.unit (s := S4x256x1024) ![0, 0, 0] S1x256x1024.size inb_S4x256x1024_S1x256x1024_0_0_0, T.k0⟩]))) -∗ K ⟨T.r2, T.xn1, T.h2, T.y2a, T.a1⟩))
    ⊢ wp frame (wpE (defs₀ (F := F)) Variants.none c none) E
        (k0_part3 T.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 T.sh2 T.sc2 T.x1 T.ms2) K := by
  rw [k0_part3_eq_skeleton]; unfold k0_part3_skel owns
  iintro ⟨⟨%f15, %hf15, H15⟩, ⟨%f16, %hf16, H16⟩, ⟨%d19, %f19, -, H19⟩, H17, H28, Hk⟩
  obtain ⟨i, o, gb, gc, xi, gcp, xip, gcn, xin, cw, wo, x, tgt, md, gf, w1, w2⟩ := T
  dsimp only at *
  subst hf15
  subst hf16
  sl_exec
  sl_step
  apply ret_eq (K := K)
  · iapply Hk
    isplitl [H15]
    · iexists _; isplitr; · ipureintro; rfl
      iexact H15
    isplitl [H16]
    · iexists _; isplitr; · ipureintro; rfl
      iexact H16
    isplitl [H19]
    · iexists _; isplitr
      swap; · iexact H19
      ipureintro; exact View.read_writes_full _ _ _ _ _
    isplitl [H17]
    · iexact H17
    iexact H28
  · rfl

set_option maxHeartbeats 1600000 in
/-- Part 4 of the body: the second and third blocks of the hidden layer. -/
theorem part4_run (f17 : arg17.view.ty.Contents (Elt F)) (f28 : arg28.view.ty.Contents (Elt F))
    (E : Set ℕ) (K : (Σ' (v120 : FVec F S256x1024 .f32), FVec F S256x1024 .f32) → sProp 𝕄) :
    iprop(owns (c : Thread nD τ) arg15 fullShare T.w1
      ∗ owns (c : Thread nD τ) arg16 fullShare T.w2
      ∗ (arg17.view.loc (c : Thread nD τ) ↦[arg17.view.set]{fullShare} f17)
      ∗ (arg28.view.loc (c : Thread nD τ) ↦[arg28.view.set]{fullShare} f28)
      ∗ (iprop(owns (c : Thread nD τ) arg15 fullShare T.w1
      ∗ owns (c : Thread nD τ) arg16 fullShare T.w2
      ∗ (arg17.view.loc (c : Thread nD τ) ↦[arg17.view.set]{fullShare} (arg17.view.writes (Elt F) f17 [⟨Rect.unit (s := S256x4096) ![0, 2048] S256x1024.size inb_S256x4096_S256x1024_0_2048, T.q2⟩, ⟨Rect.unit (s := S256x4096) ![0, 1024] S256x1024.size inb_S256x4096_S256x1024_0_1024, T.q1⟩]))
      ∗ (arg28.view.loc (c : Thread nD τ) ↦[arg28.view.set]{fullShare} (arg28.view.writes (Elt F) f28 [⟨Rect.unit (s := S4x256x1024) ![2, 0, 0] S1x256x1024.size inb_S4x256x1024_S1x256x1024_2_0_0, T.k2⟩, ⟨Rect.unit (s := S4x256x1024) ![1, 0, 0] S1x256x1024.size inb_S4x256x1024_S1x256x1024_1_0_0, T.k1⟩]))) -∗ K ⟨T.y2c, T.a3⟩))
    ⊢ wp frame (wpE (defs₀ (F := F)) Variants.none c none) E
        (k0_part4 T.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 T.h2 T.y2a T.a1) K := by
  rw [k0_part4_eq_skeleton]; unfold k0_part4_skel owns
  iintro ⟨⟨%f15, %hf15, H15⟩, ⟨%f16, %hf16, H16⟩, H17, H28, Hk⟩
  obtain ⟨i, o, gb, gc, xi, gcp, xip, gcn, xin, cw, wo, x, tgt, md, gf, w1, w2⟩ := T
  dsimp only at *
  subst hf15
  subst hf16
  sl_exec
  sl_step
  apply ret_eq (K := K)
  · iapply Hk
    isplitl [H15]
    · iexists _; isplitr; · ipureintro; rfl
      iexact H15
    isplitl [H16]
    · iexists _; isplitr; · ipureintro; rfl
      iexact H16
    isplitl [H17]
    · iexact H17
    iexact H28
  · rfl

set_option maxHeartbeats 1600000 in
/-- Part 5 of the body: the last block of the hidden layer, the loss, and the gradient at the last norm. -/
theorem part5_run (f17 : arg17.view.ty.Contents (Elt F)) (f28 : arg28.view.ty.Contents (Elt F))
    (E : Set ℕ) (K : (Σ' (v134 : FVec F S256x1024 .f32) (v145 : FVec F S256x1 .f32) (v147 : FVec F S256x1024 .f32) (v161 : FVec F S1x1 .f32) (v163 : FVec F S256x1024 .f32) (v165 : FVec F S256x1024 .f32), FVec F S256x1024 .f32) → sProp 𝕄) :
    iprop(owns (c : Thread nD τ) arg12 fullShare T.tgt
      ∗ owns (c : Thread nD τ) arg14 fullShare T.gf
      ∗ owns (c : Thread nD τ) arg16 fullShare T.w2
      ∗ (arg17.view.loc (c : Thread nD τ) ↦[arg17.view.set]{fullShare} f17)
      ∗ (arg28.view.loc (c : Thread nD τ) ↦[arg28.view.set]{fullShare} f28)
      ∗ (iprop(owns (c : Thread nD τ) arg12 fullShare T.tgt
      ∗ owns (c : Thread nD τ) arg14 fullShare T.gf
      ∗ owns (c : Thread nD τ) arg16 fullShare T.w2
      ∗ (arg17.view.loc (c : Thread nD τ) ↦[arg17.view.set]{fullShare} (arg17.view.writes (Elt F) f17 [⟨Rect.unit (s := S256x4096) ![0, 3072] S256x1024.size inb_S256x4096_S256x1024_0_3072, T.q3⟩]))
      ∗ (arg28.view.loc (c : Thread nD τ) ↦[arg28.view.set]{fullShare} (arg28.view.writes (Elt F) f28 [⟨Rect.unit (s := S4x256x1024) ![3, 0, 0] S1x256x1024.size inb_S4x256x1024_S1x256x1024_3_0_0, T.k3⟩]))) -∗ K ⟨T.y2, T.r3, T.xn3, T.lossT, T.dy, T.dxn3, T.dxn3x⟩))
    ⊢ wp frame (wpE (defs₀ (F := F)) Variants.none c none) E
        (k0_part5 T.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 T.g2 T.x1 T.y2c T.a3) K := by
  rw [k0_part5_eq_skeleton]; unfold k0_part5_skel owns
  iintro ⟨⟨%f12, %hf12, H12⟩, ⟨%f14, %hf14, H14⟩, ⟨%f16, %hf16, H16⟩, H17, H28, Hk⟩
  obtain ⟨i, o, gb, gc, xi, gcp, xip, gcn, xin, cw, wo, x, tgt, md, gf, w1, w2⟩ := T
  dsimp only at *
  subst hf12
  subst hf14
  subst hf16
  sl_exec
  sl_step
  apply ret_eq (K := K)
  · iapply Hk
    isplitl [H12]
    · iexists _; isplitr; · ipureintro; rfl
      iexact H12
    isplitl [H14]
    · iexists _; isplitr; · ipureintro; rfl
      iexact H14
    isplitl [H16]
    · iexists _; isplitr; · ipureintro; rfl
      iexact H16
    isplitl [H17]
    · iexact H17
    iexact H28
  · rfl

end Cert.Mlp

end
-- ==== Proof.PartsBack.lean ====
/-
  The MLP backwards. Each part of the body is run by itself: from the
  memrefs it touches to those memrefs and the values it hands on, named as in Tile.lean.
-/
module

public import proofs.«01_k».proof.Proof.PartsMix
public import proofs.«01_k».proof.Proof.Gen.KernelIdeal.Frame.Runs
public import Idealize.ShloMosaic.Lib.VecWindow

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (T : TileIn F)
  (arg1 : Memref sig .tc .vmem S256x512 .bf16) (harg1 : arg1.IsWhole)
  (arg2 : Memref sig .tc .vmem S256x512 .f32) (harg2 : arg2.IsWhole)
  (arg3 : Memref sig .tc .vmem S256x512 .f32) (harg3 : arg3.IsWhole)
  (arg4 : Memref sig .tc .vmem S256x512 .f32) (harg4 : arg4.IsWhole)
  (arg5 : Memref sig .tc .vmem S8x512 .f32) (harg5 : arg5.IsWhole)
  (arg6 : Memref sig .tc .vmem S8x512 .f32) (harg6 : arg6.IsWhole)
  (arg7 : Memref sig .tc .vmem S8x512 .f32) (harg7 : arg7.IsWhole)
  (arg8 : Memref sig .tc .vmem S8x512 .f32) (harg8 : arg8.IsWhole)
  (arg9 : Memref sig .tc .vmem S8x512 .f32) (harg9 : arg9.IsWhole)
  (arg10 : Memref sig .tc .vmem S1024x1024 .bf16) (harg10 : arg10.IsWhole)
  (arg11 : Memref sig .tc .vmem S256x1024 .f32) (harg11 : arg11.IsWhole)
  (arg12 : Memref sig .tc .vmem S256x1024 .f32) (harg12 : arg12.IsWhole)
  (arg13 : Memref sig .tc .vmem S8x1024 .f32) (harg13 : arg13.IsWhole)
  (arg14 : Memref sig .tc .vmem S1x1024 .f32) (harg14 : arg14.IsWhole)
  (arg15 : Memref sig .tc .vmem S4x1024x1024 .bf16) (harg15 : arg15.IsWhole)
  (arg16 : Memref sig .tc .vmem S4096x1024 .bf16) (harg16 : arg16.IsWhole)
  (arg17 : Memref sig .tc .vmem S256x4096 .bf16) (harg17 : arg17.IsWhole)
  (arg18 : Memref sig .tc .vmem S256x4096 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S256x1024 .f32) (harg21 : arg21.IsWhole)
  (arg22 : Memref sig .tc .vmem S256x512 .bf16) (harg22 : arg22.IsWhole)
  (arg23 : Memref sig .tc .vmem S8x1024 .f32) (harg23 : arg23.IsWhole)
  (arg24 : Memref sig .tc .vmem S256x1024 .bf16) (harg24 : arg24.IsWhole)
  (arg25 : Memref sig .tc .vmem S256x512 .bf16) (harg25 : arg25.IsWhole)
  (arg26 : Memref sig .tc .vmem S256x512 .f32) (harg26 : arg26.IsWhole)
  (arg27 : Memref sig .tc .vmem S256x512 .f32) (harg27 : arg27.IsWhole)
  (arg28 : Memref sig .tc .vmem S4x256x1024 .f32) (harg28 : arg28.IsWhole)

set_option maxHeartbeats 1600000 in
/-- Part 6 of the body: the last norm backwards and the first block of the hidden layer's gradient. -/
theorem part6_run (f18 : arg18.view.ty.Contents (Elt F)) (f28 : arg28.view.ty.Contents (Elt F))
    (hk0 : (arg28.view.readAt (Elt F) (Rect.unit (s := S4x256x1024) ![0, 0, 0] S1x256x1024.size inb_S4x256x1024_S1x256x1024_0_0_0).toLoadRect f28 = T.k0))
    (hk1 : (arg28.view.readAt (Elt F) (Rect.unit (s := S4x256x1024) ![1, 0, 0] S1x256x1024.size inb_S4x256x1024_S1x256x1024_1_0_0).toLoadRect f28 = T.k1))
    (E : Set ℕ) (K : (Σ' (v175 : FVec F S256x1024 .f32) (v178 : FVec F S256x1024 .bf16) (v193 : FVec F S256x1024 .f32) (v195 : FVec F S256x1024 .f32), FVec F S256x1024 .f32) → sProp 𝕄) :
    iprop(owns (c : Thread nD τ) arg15 fullShare T.w1
      ∗ owns (c : Thread nD τ) arg16 fullShare T.w2
      ∗ (∃ d, owns (c : Thread nD τ) arg20 fullShare d)
      ∗ (arg18.view.loc (c : Thread nD τ) ↦[arg18.view.set]{fullShare} f18)
      ∗ (arg28.view.loc (c : Thread nD τ) ↦[arg28.view.set]{fullShare} f28)
      ∗ (iprop(owns (c : Thread nD τ) arg15 fullShare T.w1
      ∗ owns (c : Thread nD τ) arg16 fullShare T.w2
      ∗ owns (c : Thread nD τ) arg20 fullShare (T.dy2)
      ∗ (arg18.view.loc (c : Thread nD τ) ↦[arg18.view.set]{fullShare} (arg18.view.writes (Elt F) f18 [⟨Rect.unit (s := S256x4096) ![0, 0] S256x1024.size inb_S256x4096_S256x1024_0_0, T.da0⟩]))
      ∗ (arg28.view.loc (c : Thread nD τ) ↦[arg28.view.set]{fullShare} f28)) -∗ K ⟨T.dx2, T.dy2, T.dh2a, T.dq1, T.tw1⟩))
    ⊢ wp frame (wpE (defs₀ (F := F)) Variants.none c none) E
        (k0_part6 T.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 T.g2 T.r3 T.xn3 T.dxn3 T.dxn3x) K := by
  rw [k0_part6_eq_skeleton]; unfold k0_part6_skel owns
  iintro ⟨⟨%f15, %hf15, H15⟩, ⟨%f16, %hf16, H16⟩, ⟨%d20, %f20, -, H20⟩, H18, H28, Hk⟩
  obtain ⟨i, o, gb, gc, xi, gcp, xip, gcn, xin, cw, wo, x, tgt, md, gf, w1, w2⟩ := T
  dsimp only at *
  subst hf15
  subst hf16
  sl_exec
  sl_step
  apply ret_eq (K := K)
  · iapply Hk
    isplitl [H15]
    · iexists _; isplitr; · ipureintro; rfl
      iexact H15
    isplitl [H16]
    · iexists _; isplitr; · ipureintro; rfl
      iexact H16
    isplitl [H20]
    · iexists _; isplitr
      swap; · iexact H20
      ipureintro; exact View.read_writes_full _ _ _ _ _
    isplitl [H18]
    · iexact H18
    iexact H28
  · rfl

set_option maxHeartbeats 1600000 in
/-- Part 7 of the body: the other blocks of the hidden layer's gradient. -/
theorem part7_run (f18 : arg18.view.ty.Contents (Elt F)) (f28 : arg28.view.ty.Contents (Elt F))
    (hk2 : (arg28.view.readAt (Elt F) (Rect.unit (s := S4x256x1024) ![2, 0, 0] S1x256x1024.size inb_S4x256x1024_S1x256x1024_2_0_0).toLoadRect f28 = T.k2))
    (hk3 : (arg28.view.readAt (Elt F) (Rect.unit (s := S4x256x1024) ![3, 0, 0] S1x256x1024.size inb_S4x256x1024_S1x256x1024_3_0_0).toLoadRect f28 = T.k3))
    (E : Set ℕ) (K : (Σ' (v219 : FVec F S256x1024 .f32), FVec F S256x1024 .bf16) → sProp 𝕄) :
    iprop(owns (c : Thread nD τ) arg15 fullShare T.w1
      ∗ owns (c : Thread nD τ) arg16 fullShare T.w2
      ∗ (arg18.view.loc (c : Thread nD τ) ↦[arg18.view.set]{fullShare} f18)
      ∗ (arg28.view.loc (c : Thread nD τ) ↦[arg28.view.set]{fullShare} f28)
      ∗ (iprop(owns (c : Thread nD τ) arg15 fullShare T.w1
      ∗ owns (c : Thread nD τ) arg16 fullShare T.w2
      ∗ (arg18.view.loc (c : Thread nD τ) ↦[arg18.view.set]{fullShare} (arg18.view.writes (Elt F) f18 [⟨Rect.unit (s := S256x4096) ![0, 3072] S256x1024.size inb_S256x4096_S256x1024_0_3072, T.da3⟩, ⟨Rect.unit (s := S256x4096) ![0, 2048] S256x1024.size inb_S256x4096_S256x1024_0_2048, T.da2⟩, ⟨Rect.unit (s := S256x4096) ![0, 1024] S256x1024.size inb_S256x4096_S256x1024_0_1024, T.da1⟩]))
      ∗ (arg28.view.loc (c : Thread nD τ) ↦[arg28.view.set]{fullShare} f28)) -∗ K ⟨T.dh2c, T.da3⟩))
    ⊢ wp frame (wpE (defs₀ (F := F)) Variants.none c none) E
        (k0_part7 T.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 T.dy2 T.dh2a T.dq1 T.tw1) K := by
  rw [k0_part7_eq_skeleton]; unfold k0_part7_skel owns
  iintro ⟨⟨%f15, %hf15, H15⟩, ⟨%f16, %hf16, H16⟩, H18, H28, Hk⟩
  obtain ⟨i, o, gb, gc, xi, gcp, xip, gcn, xin, cw, wo, x, tgt, md, gf, w1, w2⟩ := T
  dsimp only at *
  subst hf15
  subst hf16
  sl_exec
  sl_step
  apply ret_eq (K := K)
  · iapply Hk
    isplitl [H15]
    · iexists _; isplitr; · ipureintro; rfl
      iexact H15
    isplitl [H16]
    · iexists _; isplitr; · ipureintro; rfl
      iexact H16
    isplitl [H18]
    · iexact H18
    iexact H28
  · rfl

end Cert.Mlp

end
-- ==== Proof.PartsEnd.lean ====
/-
  The mixer backwards and the sums over the rows. Each part of the body is run by itself: from the
  memrefs it touches to those memrefs and the values it hands on, named as in Tile.lean.
-/
module

public import proofs.«01_k».proof.Proof.PartsMix
public import proofs.«01_k».proof.Proof.Gen.KernelIdeal.Frame.Runs
public import Idealize.ShloMosaic.Lib.VecWindow

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (T : TileIn F)
  (arg1 : Memref sig .tc .vmem S256x512 .bf16) (harg1 : arg1.IsWhole)
  (arg2 : Memref sig .tc .vmem S256x512 .f32) (harg2 : arg2.IsWhole)
  (arg3 : Memref sig .tc .vmem S256x512 .f32) (harg3 : arg3.IsWhole)
  (arg4 : Memref sig .tc .vmem S256x512 .f32) (harg4 : arg4.IsWhole)
  (arg5 : Memref sig .tc .vmem S8x512 .f32) (harg5 : arg5.IsWhole)
  (arg6 : Memref sig .tc .vmem S8x512 .f32) (harg6 : arg6.IsWhole)
  (arg7 : Memref sig .tc .vmem S8x512 .f32) (harg7 : arg7.IsWhole)
  (arg8 : Memref sig .tc .vmem S8x512 .f32) (harg8 : arg8.IsWhole)
  (arg9 : Memref sig .tc .vmem S8x512 .f32) (harg9 : arg9.IsWhole)
  (arg10 : Memref sig .tc .vmem S1024x1024 .bf16) (harg10 : arg10.IsWhole)
  (arg11 : Memref sig .tc .vmem S256x1024 .f32) (harg11 : arg11.IsWhole)
  (arg12 : Memref sig .tc .vmem S256x1024 .f32) (harg12 : arg12.IsWhole)
  (arg13 : Memref sig .tc .vmem S8x1024 .f32) (harg13 : arg13.IsWhole)
  (arg14 : Memref sig .tc .vmem S1x1024 .f32) (harg14 : arg14.IsWhole)
  (arg15 : Memref sig .tc .vmem S4x1024x1024 .bf16) (harg15 : arg15.IsWhole)
  (arg16 : Memref sig .tc .vmem S4096x1024 .bf16) (harg16 : arg16.IsWhole)
  (arg17 : Memref sig .tc .vmem S256x4096 .bf16) (harg17 : arg17.IsWhole)
  (arg18 : Memref sig .tc .vmem S256x4096 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S256x1024 .f32) (harg21 : arg21.IsWhole)
  (arg22 : Memref sig .tc .vmem S256x512 .bf16) (harg22 : arg22.IsWhole)
  (arg23 : Memref sig .tc .vmem S8x1024 .f32) (harg23 : arg23.IsWhole)
  (arg24 : Memref sig .tc .vmem S256x1024 .bf16) (harg24 : arg24.IsWhole)
  (arg25 : Memref sig .tc .vmem S256x512 .bf16) (harg25 : arg25.IsWhole)
  (arg26 : Memref sig .tc .vmem S256x512 .f32) (harg26 : arg26.IsWhole)
  (arg27 : Memref sig .tc .vmem S256x512 .f32) (harg27 : arg27.IsWhole)
  (arg28 : Memref sig .tc .vmem S4x256x1024 .f32) (harg28 : arg28.IsWhole)

set_option maxHeartbeats 1600000 in
/-- Part 8 of the body: the first norm and the mixer backwards. -/
theorem part8_run
    (E : Set ℕ) (K : (Σ' (v232 : FVec F S256x1024 .f32) (v247 : FVec F S256x1024 .f32), FVec F S256x512 .f32) → sProp 𝕄) :
    iprop(owns (c : Thread nD τ) arg10 fullShare T.wo
      ∗ owns (c : Thread nD τ) arg15 fullShare T.w1
      ∗ (∃ d, owns (c : Thread nD τ) arg21 fullShare d)
      ∗ (∃ d, owns (c : Thread nD τ) arg24 fullShare d)
      ∗ (∃ d, owns (c : Thread nD τ) arg25 fullShare d)
      ∗ (∃ d, owns (c : Thread nD τ) arg26 fullShare d)
      ∗ (iprop(owns (c : Thread nD τ) arg10 fullShare T.wo
      ∗ owns (c : Thread nD τ) arg15 fullShare T.w1
      ∗ owns (c : Thread nD τ) arg21 fullShare (T.dx1)
      ∗ owns (c : Thread nD τ) arg24 fullShare (T.dy1)
      ∗ owns (c : Thread nD τ) arg25 fullShare (T.dO)
      ∗ owns (c : Thread nD τ) arg26 fullShare (T.dgb)) -∗ K ⟨T.dh2, T.dx1, T.dyv⟩))
    ⊢ wp frame (wpE (defs₀ (F := F)) Variants.none c none) E
        (k0_part8 T.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 T.g1 T.sc2 T.yv (all512 T.gb) T.r2 T.xn1 T.dx2 T.dh2c T.da3) K := by
  rw [k0_part8_eq_skeleton]; unfold k0_part8_skel owns
  iintro ⟨⟨%f10, %hf10, H10⟩, ⟨%f15, %hf15, H15⟩, ⟨%d21, %f21, -, H21⟩, ⟨%d24, %f24, -, H24⟩, ⟨%d25, %f25, -, H25⟩, ⟨%d26, %f26, -, H26⟩, Hk⟩
  obtain ⟨i, o, gb, gc, xi, gcp, xip, gcn, xin, cw, wo, x, tgt, md, gf, w1, w2⟩ := T
  dsimp only at *
  subst hf10
  subst hf15
  sl_exec
  sl_step
  apply ret_eq (K := K)
  · iapply Hk
    isplitl [H10]
    · iexists _; isplitr; · ipureintro; rfl
      iexact H10
    isplitl [H15]
    · iexists _; isplitr; · ipureintro; rfl
      iexact H15
    isplitl [H21]
    · iexists _; isplitr
      swap; · iexact H21
      ipureintro; exact View.read_writes_full _ _ _ _ _
    isplitl [H24]
    · iexists _; isplitr
      swap; · iexact H24
      ipureintro; exact View.read_writes_full _ _ _ _ _
    isplitl [H25]
    · iexists _; isplitr
      swap; · iexact H25
      ipureintro; exact View.read_writes_full _ _ _ _ _
    iexists _; isplitr
    swap; · iexact H26
    ipureintro; exact View.read_writes_full _ _ _ _ _
  · rfl

set_option maxHeartbeats 1600000 in
/-- Part 9 of the body: the convolution's gradient is stored and four rows of the accumulator are advanced. -/
theorem part9_run (d : Vec F S8x1024 .f32) (f23 : arg23.view.ty.Contents (Elt F)) (hf23 : arg23.view.read (Elt F) f23 = d)
    (E : Set ℕ) (K : (Σ' (v291 : FVec F S1x1024 .f32), FVec F S1024 .f32) → sProp 𝕄) :
    iprop((∃ d, owns (c : Thread nD τ) arg27 fullShare d)
      ∗ (arg23.view.loc (c : Thread nD τ) ↦[arg23.view.set]{fullShare} f23)
      ∗ (iprop(owns (c : Thread nD τ) arg27 fullShare (T.dyv)
      ∗ (arg23.view.loc (c : Thread nD τ) ↦[arg23.view.set]{fullShare} (arg23.view.writes (Elt F) f23 [⟨Rect.unit (s := S8x1024) ![2, 0] S1x1024.size inb_S8x1024_S1x1024_2_0, T.accSh2 d⟩, ⟨Rect.unit (s := S8x1024) ![1, 0] S1x1024.size inb_S8x1024_S1x1024_1_0, T.accG2 d⟩, ⟨Rect.unit (s := S8x1024) ![0, 0] S1x1024.size inb_S8x1024_S1x1024_0_0, T.accGain d⟩, ⟨Rect.unit (s := S8x1024) ![5, 0] S1x1024.size inb_S8x1024_S1x1024_5_0, T.accG1 d⟩]))) -∗ K ⟨k0_pay59 (TileIn.accRow3 d), k0_pay60 T.xn1 T.dh2⟩))
    ⊢ wp frame (wpE (defs₀ (F := F)) Variants.none c none) E
        (k0_part9 T.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 T.y1 T.xn1 T.y2 T.xn3 T.dy T.dx2 T.dh2 T.dx1 T.dyv) K := by
  rw [k0_part9_eq_skeleton]; unfold k0_part9_skel owns
  iintro ⟨⟨%d27, %f27, -, H27⟩, H23, Hk⟩
  obtain ⟨i, o, gb, gc, xi, gcp, xip, gcn, xin, cw, wo, x, tgt, md, gf, w1, w2⟩ := T
  dsimp only at *
  subst hf23
  sl_exec
  sl_step
  apply ret_eq (K := K)
  · iapply Hk
    isplitl [H27]
    · iexists _; isplitr
      swap; · iexact H27
      ipureintro; exact View.read_writes_full _ _ _ _ _
    iexact H23
  · rfl

end Cert.Mlp

end
-- ==== Proof.Pieces.lean ====
/-
  The stores of one grid point that fill a block piece by piece: what they cover, what is read back of them, and what
  the block holds after them.
-/
module

public import proofs.«01_k».proof.Proof.PartsMix
public import proofs.«01_k».proof.Proof.Gen.KernelIdeal.Frame.Runs
public import Idealize.ShloMosaic.Lib.VecWindow

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- A block known by what it reads, opened to its contents. -/
theorem owns_open (c : Dev nD) {s : Shape} {e : EltTy} (arg : Memref sig .tc .vmem s e) :
    iprop(∃ d, owns (c : Thread nD τ) arg fullShare d)
      ⊢ (iprop(∃ f, arg.view.loc (c : Thread nD τ) ↦[arg.view.set]{fullShare} f) : sProp 𝕄) := by
  unfold owns; iintro ⟨%d, %f, %hf, H⟩; iexists f; iexact H

/-- The same, keeping what it reads. -/
theorem owns_read (c : Dev nD) {s : Shape} {e : EltTy} (arg : Memref sig .tc .vmem s e) (d : Vec F s e) :
    (owns (c : Thread nD τ) arg fullShare d : sProp 𝕄)
      ⊢ iprop(∃ f, ⌜arg.view.read (Elt F) f = d⌝ ∗ arg.view.loc (c : Thread nD τ) ↦[arg.view.set]{fullShare} f) := by
  unfold owns; exact .rfl

/-- Contents known by what they read. -/
theorem owns_close (c : Dev nD) {s : Shape} {e : EltTy} (arg : Memref sig .tc .vmem s e) (f : arg.view.ty.Contents (Elt F)) :
    (arg.view.loc (c : Thread nD τ) ↦[arg.view.set]{fullShare} f : sProp 𝕄)
      ⊢ iprop(∃ d, owns (c : Thread nD τ) arg fullShare d) := by
  unfold owns; iintro H; iexists _; iexists f; isplitr; · ipureintro; rfl
  iexact H

/-- Stores over stores are the two lists of stores one after the other. -/
theorem writes_over {κ : Kind} {sp : Space} {s : Shape} {e : EltTy} (v : View sig κ sp s e) (f : v.ty.Contents (Elt F))
    (L L' : List (View.Piece (Elt F) s e)) : v.writes (Elt F) (v.writes (Elt F) f L) L' = v.writes (Elt F) f (L' ++ L) := by
  induction L' with
  | nil => rfl
  | cons p L' ih => rw [List.cons_append, View.writes_cons, View.writes_cons, ih]

/-- A box just stored is read back. -/
theorem readAt_hit {κ : Kind} {sp : Space} {s : Shape} {e : EltTy} (v : View sig κ sp s e) (f : v.ty.Contents (Elt F))
    (r : Rect s) (w : r.shape.Idx → Elt F e) (L : List (View.Piece (Elt F) s e)) :
    v.readAt (Elt F) r.toLoadRect (v.writes (Elt F) f (⟨r, w⟩ :: L)) = w :=
  funext fun x => View.read_writes_cons_emb v f r w L x

/-- A store elsewhere does not change what a box reads. -/
theorem readAt_miss {κ : Kind} {sp : Space} {s : Shape} {e : EltTy} (v : View sig κ sp s e) (f : v.ty.Contents (Elt F))
    (r q : Rect s) (w : q.shape.Idx → Elt F e) (L : List (View.Piece (Elt F) s e)) (h : Disjoint q.set r.set) :
    v.readAt (Elt F) r.toLoadRect (v.writes (Elt F) f (⟨q, w⟩ :: L)) = v.readAt (Elt F) r.toLoadRect (v.writes (Elt F) f L) :=
  funext fun x => by
    show v.read (Elt F) _ (r.emb x) = v.read (Elt F) _ (r.emb x)
    rw [View.writes_cons, View.read_slice_write_of_not_mem q _ _ _ (by
      rw [Rect.map_emb_univ]
      exact fun hq => Finset.disjoint_left.mp h hq ((Rect.map_emb_univ r) ▸ Finset.mem_map_of_mem r.emb (Finset.mem_univ x)))]

/-! ## What the pieces cover -/

theorem cover_qPieces (T : TileIn F) (y : S256x4096.Idx) : ∃ p ∈ T.qPieces, y ∈ p.1.set :=
  View.cover_of_tiled T.qPieces S256x1024.size (by rfl) y
theorem cover_daPieces (T : TileIn F) (y : S256x4096.Idx) : ∃ p ∈ T.daPieces, y ∈ p.1.set :=
  View.cover_of_tiled T.daPieces S256x1024.size (by rfl) y

section Kept
variable (T : TileIn F) (v : View sig .tc .vmem S4x256x1024 .f32) (f : v.ty.Contents (Elt F))

/-- Kept block 0 read back. -/
theorem kept0_read : v.readAt (Elt F) (Rect.unit (s := S4x256x1024) ![0, 0, 0] S1x256x1024.size inb_S4x256x1024_S1x256x1024_0_0_0).toLoadRect (v.writes (Elt F) f T.keptPieces) = T.k0 := by
  unfold TileIn.keptPieces
  refine (readAt_miss v f _ _ _ _ (Rect.unit_disjoint 0 (Or.inr (by decide)))).trans ?_
  refine (readAt_miss v f _ _ _ _ (Rect.unit_disjoint 0 (Or.inr (by decide)))).trans ?_
  refine (readAt_miss v f _ _ _ _ (Rect.unit_disjoint 0 (Or.inr (by decide)))).trans ?_
  exact readAt_hit v f _ _ _

/-- Kept block 1 read back. -/
theorem kept1_read : v.readAt (Elt F) (Rect.unit (s := S4x256x1024) ![1, 0, 0] S1x256x1024.size inb_S4x256x1024_S1x256x1024_1_0_0).toLoadRect (v.writes (Elt F) f T.keptPieces) = T.k1 := by
  unfold TileIn.keptPieces
  refine (readAt_miss v f _ _ _ _ (Rect.unit_disjoint 0 (Or.inr (by decide)))).trans ?_
  refine (readAt_miss v f _ _ _ _ (Rect.unit_disjoint 0 (Or.inr (by decide)))).trans ?_
  exact readAt_hit v f _ _ _

/-- Kept block 2 read back. -/
theorem kept2_read : v.readAt (Elt F) (Rect.unit (s := S4x256x1024) ![2, 0, 0] S1x256x1024.size inb_S4x256x1024_S1x256x1024_2_0_0).toLoadRect (v.writes (Elt F) f T.keptPieces) = T.k2 := by
  unfold TileIn.keptPieces
  refine (readAt_miss v f _ _ _ _ (Rect.unit_disjoint 0 (Or.inr (by decide)))).trans ?_
  exact readAt_hit v f _ _ _

/-- Kept block 3 read back. -/
theorem kept3_read : v.readAt (Elt F) (Rect.unit (s := S4x256x1024) ![3, 0, 0] S1x256x1024.size inb_S4x256x1024_S1x256x1024_3_0_0).toLoadRect (v.writes (Elt F) f T.keptPieces) = T.k3 := by
  unfold TileIn.keptPieces
  exact readAt_hit v f _ _ _

end Kept

/-- The end of the body as the program has it: the last two rows of the accumulator. -/
abbrev accTail (arg : Memref sig .tc .vmem S8x1024 .f32) (v291 : FVec F S1x1024 .f32) (v293 : FVec F S1024 .f32)
    (v161 : FVec F S1x1 .f32) : Prog (TpuEff nD τ sig (Elt F) Λ₀ .tc) PUnit := do
  let v296 : Vec F S1x1024 .f32 ← Prog.lift (.load arg (Rect.unit (s := S8x1024) ![3, 0] S1x1024.size inb_S8x1024_S1x1024_3_0).toLoadRect (View.loadsAt_vmem h_S1x1024))
  Prog.lift (.store arg (Rect.unit (s := S8x1024) ![3, 0] S1x1024.size inb_S8x1024_S1x1024_3_0) (k0_pay1 v291 v293) Finset.univ (View.stores_vmem_bits_univ h_S1x1024 rfl) (.inl rfl))
  let v297 : Vec F S1x1024 .f32 ← Prog.lift (.load arg (Rect.unit (s := S8x1024) ![4, 0] S1x1024.size inb_S8x1024_S1x1024_4_0).toLoadRect (View.loadsAt_vmem h_S1x1024))
  let v302 : Vec F S1x1024 .f32 ← Prog.lift (.load arg (Rect.unit (s := S8x1024) ![4, 0] S1x1024.size inb_S8x1024_S1x1024_4_0).toLoadRect (View.loadsAt_vmem h_S1x1024))
  Prog.lift (.store arg (Rect.unit (s := S8x1024) ![4, 0] S1x1024.size inb_S8x1024_S1x1024_4_0) (k0_pay2 v161 v297) Finset.univ (View.stores_vmem_bits_univ h_S1x1024 rfl) (.inl rfl))
  pure ⟨⟩

section Close
variable (c : Dev nD) (T : TileIn F)

/-- The block of squares after its four stores. -/
theorem act_close (arg : Memref sig .tc .vmem S256x4096 .bf16) (f : arg.view.ty.Contents (Elt F)) :
    (arg.view.loc (c : Thread nD τ) ↦[arg.view.set]{fullShare} (arg.view.writes (Elt F) (arg.view.writes (Elt F) (arg.view.writes (Elt F) f [⟨Rect.unit (s := S256x4096) ![0, 0] S256x1024.size inb_S256x4096_S256x1024_0_0, T.q0⟩]) [⟨Rect.unit (s := S256x4096) ![0, 2048] S256x1024.size inb_S256x4096_S256x1024_0_2048, T.q2⟩, ⟨Rect.unit (s := S256x4096) ![0, 1024] S256x1024.size inb_S256x4096_S256x1024_0_1024, T.q1⟩]) [⟨Rect.unit (s := S256x4096) ![0, 3072] S256x1024.size inb_S256x4096_S256x1024_0_3072, T.q3⟩]) : sProp 𝕄)
      ⊢ owns (c : Thread nD τ) arg fullShare T.act := by
  rw [writes_over, writes_over]; unfold owns
  iintro H; iexists _; isplitr
  swap; · iexact H
  ipureintro; exact View.read_writes_eq_canon _ _ _ (cover_qPieces T)

/-- The block of the hidden layer's gradient after its four stores. -/
theorem da_close (arg : Memref sig .tc .vmem S256x4096 .bf16) (f : arg.view.ty.Contents (Elt F)) :
    (arg.view.loc (c : Thread nD τ) ↦[arg.view.set]{fullShare} (arg.view.writes (Elt F) (arg.view.writes (Elt F) f [⟨Rect.unit (s := S256x4096) ![0, 0] S256x1024.size inb_S256x4096_S256x1024_0_0, T.da0⟩]) [⟨Rect.unit (s := S256x4096) ![0, 3072] S256x1024.size inb_S256x4096_S256x1024_0_3072, T.da3⟩, ⟨Rect.unit (s := S256x4096) ![0, 2048] S256x1024.size inb_S256x4096_S256x1024_0_2048, T.da2⟩, ⟨Rect.unit (s := S256x4096) ![0, 1024] S256x1024.size inb_S256x4096_S256x1024_0_1024, T.da1⟩]) : sProp 𝕄)
      ⊢ owns (c : Thread nD τ) arg fullShare T.da := by
  rw [writes_over]; unfold owns
  iintro H; iexists _; isplitr
  swap; · iexact H
  ipureintro; exact View.read_writes_eq_canon _ _ _ (cover_daPieces T)

/-- The kept blocks after their four stores. -/
theorem kept_all (arg : Memref sig .tc .vmem S4x256x1024 .f32) (f : arg.view.ty.Contents (Elt F)) :
    (arg.view.loc (c : Thread nD τ) ↦[arg.view.set]{fullShare} (arg.view.writes (Elt F) (arg.view.writes (Elt F) (arg.view.writes (Elt F) f [⟨Rect.unit (s := S4x256x1024) ![0, 0, 0] S1x256x1024.size inb_S4x256x1024_S1x256x1024_0_0_0, T.k0⟩]) [⟨Rect.unit (s := S4x256x1024) ![2, 0, 0] S1x256x1024.size inb_S4x256x1024_S1x256x1024_2_0_0, T.k2⟩, ⟨Rect.unit (s := S4x256x1024) ![1, 0, 0] S1x256x1024.size inb_S4x256x1024_S1x256x1024_1_0_0, T.k1⟩]) [⟨Rect.unit (s := S4x256x1024) ![3, 0, 0] S1x256x1024.size inb_S4x256x1024_S1x256x1024_3_0_0, T.k3⟩]) : sProp 𝕄)
      ⊢ arg.view.loc (c : Thread nD τ) ↦[arg.view.set]{fullShare} (arg.view.writes (Elt F) f T.keptPieces) := by
  rw [writes_over, writes_over]; exact .rfl

set_option maxHeartbeats 1000000 in
/-- The end of the body: the last two rows of the accumulator. -/
theorem tail_run (d : Vec F S8x1024 .f32) (arg : Memref sig .tc .vmem S8x1024 .f32) (f : arg.view.ty.Contents (Elt F))
    (hf : arg.view.read (Elt F) f = d) (E : Set ℕ) (K : PUnit → sProp 𝕄) :
    iprop((arg.view.loc (c : Thread nD τ) ↦[arg.view.set]{fullShare} (arg.view.writes (Elt F) f [⟨Rect.unit (s := S8x1024) ![2, 0] S1x1024.size inb_S8x1024_S1x1024_2_0, T.accSh2 d⟩, ⟨Rect.unit (s := S8x1024) ![1, 0] S1x1024.size inb_S8x1024_S1x1024_1_0, T.accG2 d⟩, ⟨Rect.unit (s := S8x1024) ![0, 0] S1x1024.size inb_S8x1024_S1x1024_0_0, T.accGain d⟩, ⟨Rect.unit (s := S8x1024) ![5, 0] S1x1024.size inb_S8x1024_S1x1024_5_0, T.accG1 d⟩]))
      ∗ (owns (c : Thread nD τ) arg fullShare (layered d (T.accPieces d)) -∗ K ⟨⟩))
    ⊢ wp frame (wpE (defs₀ (F := F)) Variants.none c none) E
        (accTail arg (k0_pay59 (TileIn.accRow3 d)) (k0_pay60 T.xn1 T.dh2) T.lossT) K := by
  unfold accTail
  iintro ⟨H, Hk⟩
  subst hf
  sl_exec
  sl_step
  iapply Hk
  unfold owns
  iexists _; isplitr
  swap; · iexact H
  ipureintro
  exact read_writes_layered arg.view f (T.accPieces (arg.view.read (Elt F) f))

end Close

end Cert.Mlp

end
-- ==== Proof.Body.lean ====
/-
  The whole body at one grid point, put together from its parts.
-/
module

public import proofs.«01_k».proof.Proof.PartsMlp
public import proofs.«01_k».proof.Proof.PartsBack
public import proofs.«01_k».proof.Proof.PartsEnd
public import proofs.«01_k».proof.Proof.Pieces
public import proofs.«01_k».proof.Proof.Gen.KernelIdeal.Frame.Runs
public import Idealize.ShloMosaic.Lib.VecWindow

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (T : TileIn F)
  (arg1 : Memref sig .tc .vmem S256x512 .bf16) (harg1 : arg1.IsWhole)
  (arg2 : Memref sig .tc .vmem S256x512 .f32) (harg2 : arg2.IsWhole)
  (arg3 : Memref sig .tc .vmem S256x512 .f32) (harg3 : arg3.IsWhole)
  (arg4 : Memref sig .tc .vmem S256x512 .f32) (harg4 : arg4.IsWhole)
  (arg5 : Memref sig .tc .vmem S8x512 .f32) (harg5 : arg5.IsWhole)
  (arg6 : Memref sig .tc .vmem S8x512 .f32) (harg6 : arg6.IsWhole)
  (arg7 : Memref sig .tc .vmem S8x512 .f32) (harg7 : arg7.IsWhole)
  (arg8 : Memref sig .tc .vmem S8x512 .f32) (harg8 : arg8.IsWhole)
  (arg9 : Memref sig .tc .vmem S8x512 .f32) (harg9 : arg9.IsWhole)
  (arg10 : Memref sig .tc .vmem S1024x1024 .bf16) (harg10 : arg10.IsWhole)
  (arg11 : Memref sig .tc .vmem S256x1024 .f32) (harg11 : arg11.IsWhole)
  (arg12 : Memref sig .tc .vmem S256x1024 .f32) (harg12 : arg12.IsWhole)
  (arg13 : Memref sig .tc .vmem S8x1024 .f32) (harg13 : arg13.IsWhole)
  (arg14 : Memref sig .tc .vmem S1x1024 .f32) (harg14 : arg14.IsWhole)
  (arg15 : Memref sig .tc .vmem S4x1024x1024 .bf16) (harg15 : arg15.IsWhole)
  (arg16 : Memref sig .tc .vmem S4096x1024 .bf16) (harg16 : arg16.IsWhole)
  (arg17 : Memref sig .tc .vmem S256x4096 .bf16) (harg17 : arg17.IsWhole)
  (arg18 : Memref sig .tc .vmem S256x4096 .bf16) (harg18 : arg18.IsWhole)
  (arg19 : Memref sig .tc .vmem S256x1024 .bf16) (harg19 : arg19.IsWhole)
  (arg20 : Memref sig .tc .vmem S256x1024 .bf16) (harg20 : arg20.IsWhole)
  (arg21 : Memref sig .tc .vmem S256x1024 .f32) (harg21 : arg21.IsWhole)
  (arg22 : Memref sig .tc .vmem S256x512 .bf16) (harg22 : arg22.IsWhole)
  (arg23 : Memref sig .tc .vmem S8x1024 .f32) (harg23 : arg23.IsWhole)
  (arg24 : Memref sig .tc .vmem S256x1024 .bf16) (harg24 : arg24.IsWhole)
  (arg25 : Memref sig .tc .vmem S256x512 .bf16) (harg25 : arg25.IsWhole)
  (arg26 : Memref sig .tc .vmem S256x512 .f32) (harg26 : arg26.IsWhole)
  (arg27 : Memref sig .tc .vmem S256x512 .f32) (harg27 : arg27.IsWhole)
  (arg28 : Memref sig .tc .vmem S4x256x1024 .f32) (harg28 : arg28.IsWhole)

set_option maxHeartbeats 2000000 in
/-- The whole body at one grid point: it leaves in every output block the tile's value, and the accumulator advanced. -/
theorem body_run (d : Vec F S8x1024 .f32) (E : Set ℕ) (K : PUnit → sProp 𝕄) :
    iprop(owns (c : Thread nD τ) arg1 fullShare T.o
      ∗ owns (c : Thread nD τ) arg2 fullShare T.gb
      ∗ owns (c : Thread nD τ) arg3 fullShare T.gc
      ∗ owns (c : Thread nD τ) arg4 fullShare T.xi
      ∗ owns (c : Thread nD τ) arg5 fullShare T.gcp
      ∗ owns (c : Thread nD τ) arg6 fullShare T.xip
      ∗ owns (c : Thread nD τ) arg7 fullShare T.gcn
      ∗ owns (c : Thread nD τ) arg8 fullShare T.xin
      ∗ owns (c : Thread nD τ) arg9 fullShare T.cw
      ∗ owns (c : Thread nD τ) arg10 fullShare T.wo
      ∗ owns (c : Thread nD τ) arg11 fullShare T.x
      ∗ owns (c : Thread nD τ) arg12 fullShare T.tgt
      ∗ owns (c : Thread nD τ) arg13 fullShare T.md
      ∗ owns (c : Thread nD τ) arg14 fullShare T.gf
      ∗ owns (c : Thread nD τ) arg15 fullShare T.w1
      ∗ owns (c : Thread nD τ) arg16 fullShare T.w2
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ owns (c : Thread nD τ) arg23 fullShare d
      ∗ (∃ d, owns (c : Thread nD τ) arg24 fullShare d)
      ∗ (∃ d, owns (c : Thread nD τ) arg25 fullShare d)
      ∗ (∃ d, owns (c : Thread nD τ) arg26 fullShare d)
      ∗ (∃ d, owns (c : Thread nD τ) arg27 fullShare d)
      ∗ (∃ d, owns (c : Thread nD τ) arg28 fullShare d)
      ∗ (iprop(owns (c : Thread nD τ) arg1 fullShare T.o
      ∗ owns (c : Thread nD τ) arg2 fullShare T.gb
      ∗ owns (c : Thread nD τ) arg3 fullShare T.gc
      ∗ owns (c : Thread nD τ) arg4 fullShare T.xi
      ∗ owns (c : Thread nD τ) arg5 fullShare T.gcp
      ∗ owns (c : Thread nD τ) arg6 fullShare T.xip
      ∗ owns (c : Thread nD τ) arg7 fullShare T.gcn
      ∗ owns (c : Thread nD τ) arg8 fullShare T.xin
      ∗ owns (c : Thread nD τ) arg9 fullShare T.cw
      ∗ owns (c : Thread nD τ) arg10 fullShare T.wo
      ∗ owns (c : Thread nD τ) arg11 fullShare T.x
      ∗ owns (c : Thread nD τ) arg12 fullShare T.tgt
      ∗ owns (c : Thread nD τ) arg13 fullShare T.md
      ∗ owns (c : Thread nD τ) arg14 fullShare T.gf
      ∗ owns (c : Thread nD τ) arg15 fullShare T.w1
      ∗ owns (c : Thread nD τ) arg16 fullShare T.w2
      ∗ owns (c : Thread nD τ) arg17 fullShare T.act
      ∗ owns (c : Thread nD τ) arg18 fullShare T.da
      ∗ owns (c : Thread nD τ) arg19 fullShare T.h2
      ∗ owns (c : Thread nD τ) arg20 fullShare T.dy2
      ∗ owns (c : Thread nD τ) arg21 fullShare T.dx1
      ∗ owns (c : Thread nD τ) arg22 fullShare T.conv
      ∗ owns (c : Thread nD τ) arg23 fullShare (T.acc d)
      ∗ owns (c : Thread nD τ) arg24 fullShare T.dy1
      ∗ owns (c : Thread nD τ) arg25 fullShare T.dO
      ∗ owns (c : Thread nD τ) arg26 fullShare T.dgb
      ∗ owns (c : Thread nD τ) arg27 fullShare T.dyv
      ∗ (∃ d, owns (c : Thread nD τ) arg28 fullShare d)) -∗ K ⟨⟩))
    ⊢ wp frame (wpE (defs₀ (F := F)) Variants.none c none) E (cc0_mlp_fwdbwd T.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  rw [cc0_mlp_fwdbwd_eq_skeleton]; unfold cc0_mlp_fwdbwd_skel
  iintro ⟨H1, H2, H3, H4, H5, H6, H7, H8, H9, H10, H11, H12, H13, H14, H15, H16, H17, H18, H19, H20, H21, H22, H23, H24, H25, H26, H27, H28, Hk⟩
  ihave H17 := (owns_open c arg17) $$ H17
  icases H17 with ⟨%f17, H17⟩
  ihave H18 := (owns_open c arg18) $$ H18
  icases H18 with ⟨%f18, H18⟩
  ihave H28 := (owns_open c arg28) $$ H28
  icases H28 with ⟨%f28, H28⟩
  rw [wp_bind]
  iapply (part1_run c T arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 d E _)
  isplitl [H3]
  · iexact H3
  isplitl [H4]
  · iexact H4
  isplitl [H5]
  · iexact H5
  isplitl [H6]
  · iexact H6
  isplitl [H7]
  · iexact H7
  isplitl [H8]
  · iexact H8
  isplitl [H13]
  · iexact H13
  isplitl [H23]
  · iexact H23
  iintro ⟨H3, H4, H5, H6, H7, H8, H13, H23⟩
  dsimp only
  rw [wp_bind]
  iapply (part2_run c T arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 E _)
  isplitl [H1]
  · iexact H1
  isplitl [H2]
  · iexact H2
  isplitl [H9]
  · iexact H9
  isplitl [H10]
  · iexact H10
  isplitl [H11]
  · iexact H11
  isplitl [H22]
  · iexact H22
  iintro ⟨H1, H2, H9, H10, H11, H22⟩
  dsimp only
  rw [wp_bind]
  iapply (part3_run c T arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ _ E _)
  isplitl [H15]
  · iexact H15
  isplitl [H16]
  · iexact H16
  isplitl [H19]
  · iexact H19
  isplitl [H17]
  · iexact H17
  isplitl [H28]
  · iexact H28
  iintro ⟨H15, H16, H19, H17, H28⟩
  dsimp only
  rw [wp_bind]
  iapply (part4_run c T arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ _ E _)
  isplitl [H15]
  · iexact H15
  isplitl [H16]
  · iexact H16
  isplitl [H17]
  · iexact H17
  isplitl [H28]
  · iexact H28
  iintro ⟨H15, H16, H17, H28⟩
  dsimp only
  rw [wp_bind]
  iapply (part5_run c T arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ _ E _)
  isplitl [H12]
  · iexact H12
  isplitl [H14]
  · iexact H14
  isplitl [H16]
  · iexact H16
  isplitl [H17]
  · iexact H17
  isplitl [H28]
  · iexact H28
  iintro ⟨H12, H14, H16, H17, H28⟩
  dsimp only
  ihave H28 := (kept_all c T arg28 f28) $$ H28
  rw [wp_bind]
  iapply (part6_run c T arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ _ (kept0_read T arg28.view f28) (kept1_read T arg28.view f28) E _)
  isplitl [H15]
  · iexact H15
  isplitl [H16]
  · iexact H16
  isplitl [H20]
  · iexact H20
  isplitl [H18]
  · iexact H18
  isplitl [H28]
  · iexact H28
  iintro ⟨H15, H16, H20, H18, H28⟩
  dsimp only
  rw [wp_bind]
  iapply (part7_run c T arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ _ (kept2_read T arg28.view f28) (kept3_read T arg28.view f28) E _)
  isplitl [H15]
  · iexact H15
  isplitl [H16]
  · iexact H16
  isplitl [H18]
  · iexact H18
  isplitl [H28]
  · iexact H28
  iintro ⟨H15, H16, H18, H28⟩
  dsimp only
  rw [wp_bind]
  iapply (part8_run c T arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 E _)
  isplitl [H10]
  · iexact H10
  isplitl [H15]
  · iexact H15
  isplitl [H21]
  · iexact H21
  isplitl [H24]
  · iexact H24
  isplitl [H25]
  · iexact H25
  isplitl [H26]
  · iexact H26
  iintro ⟨H10, H15, H21, H24, H25, H26⟩
  dsimp only
  ihave H23 := (owns_read c arg23 (T.acc0 d)) $$ H23
  icases H23 with ⟨%f23, %hf23, H23⟩
  rw [wp_bind]
  iapply (part9_run c T arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (T.acc0 d) f23 hf23 E _)
  isplitl [H27]
  · iexact H27
  isplitl [H23]
  · iexact H23
  iintro ⟨H27, H23⟩
  dsimp only
  ihave H17 := (act_close c T arg17 f17) $$ H17
  ihave H18 := (da_close c T arg18 f18) $$ H18
  ihave H28 := (owns_close c arg28 _) $$ H28
  iapply (tail_run c T (T.acc0 d) arg23 f23 hf23 E K)
  isplitl [H23]
  · iexact H23
  iintro H23
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexact H24
  isplitl [H25]
  · iexact H25
  isplitl [H26]
  · iexact H26
  isplitl [H27]
  · iexact H27
  iexact H28

end Cert.Mlp

end
-- ==== Proof.Frame.lean ====
/-
  The kernel over its sixteen grid points: what every point computes, and that every run ends with the arguments
  unchanged. It is stated over any reading of the floats, so it serves the machine's floats and the extended reals.
-/
module

public import proofs.«01_k».proof.Proof.Body
public import proofs.«01_k».proof.Proof.Gen.KernelIdeal.Frame.Runs
public import Idealize.ShloMosaic.Lib.Claim

@[expose] public section

set_option maxRecDepth 16384

noncomputable section

namespace Cert.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What every grid point computes -/

/-- The blocks grid point `t` reads, out of the arrays as the kernel finds them. -/
def tileIn (c : Dev nD) (t : Fin cfg0.N) : TileIn F where
  i := grid0.coords t
  o := iblk m c 0 t
  gb := iblk m c 1 t
  gc := iblk m c 2 t
  xi := iblk m c 3 t
  gcp := iblk m c 4 t
  xip := iblk m c 5 t
  gcn := iblk m c 6 t
  xin := iblk m c 7 t
  cw := iblk m c 8 t
  wo := iblk m c 9 t
  x := iblk m c 10 t
  tgt := iblk m c 11 t
  md := iblk m c 12 t
  gf := iblk m c 13 t
  w1 := iblk m c 14 t
  w2 := iblk m c 15 t

/-- The accumulator after point `n`: the tile's rows over what the point before left, nothing before the first. -/
def accAt (c : Dev nD) : (n : ℕ) → n < cfg0.N → Vec F S8x1024 .f32
  | 0, hn => (tileIn m c ⟨0, hn⟩).acc k0_pay3
  | n + 1, hn => (tileIn m c ⟨n + 1, hn⟩).acc (accAt c n (Nat.lt_of_succ_lt hn))

/-- A tile's first coordinate is the point's number. -/
theorem tile_coord (t : Fin cfg0.N) : ((grid0.coords t) 0).val = 0 ↔ t.val % 16 = 0 :=
  (first_tile (grid0.coords t)).symm.trans (hcond0_0 t)

/-- At the first point the accumulator does not depend on what was there. -/
theorem accAt_zero (c : Dev nD) (t : Fin cfg0.N) (h : t.val = 0) (d : Vec F S8x1024 .f32) :
    accAt m c t.val t.isLt = (tileIn m c t).acc d := by
  obtain ⟨n, hn⟩ := t
  dsimp only at h; subst h
  have h0 : ((tileIn m c ⟨0, hn⟩).i 0).val = 0 := (tile_coord ⟨0, hn⟩).mpr rfl
  have e : ∀ d' : Vec F S8x1024 .f32, (tileIn m c ⟨0, hn⟩).acc0 d' = k0_pay3 := fun d' => by
    unfold TileIn.acc0; rw [if_pos h0]
  show (tileIn m c ⟨0, hn⟩).acc k0_pay3 = _
  unfold TileIn.acc; rw [e, e]

/-- At a later point it is over what the point before left. -/
theorem accAt_succ (c : Dev nD) (t : Fin cfg0.N) (h : t.val ≠ 0) :
    accAt m c t.val t.isLt = (tileIn m c t).acc (accAt m c (t.val - 1) (Nat.lt_of_le_of_lt (Nat.sub_le _ _) t.isLt)) := by
  obtain ⟨n, hn⟩ := t
  cases n with
  | zero => exact absurd rfl h
  | succ n => rfl

/-! ## The proof data of the pipeline -/

/-- The arrays as the kernel finds them; after the body every input buffer at its block, every output's at the tile's
    value; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (tileIn m c t).act
    | ⟨17, _⟩ => (tileIn m c t).da
    | ⟨18, _⟩ => (tileIn m c t).h2
    | ⟨19, _⟩ => (tileIn m c t).dy2
    | ⟨20, _⟩ => (tileIn m c t).dx1
    | ⟨21, _⟩ => (tileIn m c t).conv
    | ⟨22, _⟩ => accAt m c t.val t.isLt
    | ⟨23, _⟩ => (tileIn m c t).dy1
    | ⟨24, _⟩ => (tileIn m c t).dO
    | ⟨25, _⟩ => (tileIn m c t).dgb
    | ⟨26, _⟩ => (tileIn m c t).dyv
    | ⟨_ + 27, h⟩ => absurd h (Nat.not_lt.2 (Nat.le_add_left _ _))
  Φ _ := Pipeline.ΦA spec0 c
  q w := Pipeline.shareOf spec0 w
  owed _ := 0

/-- The arrays of the proof data are the ones the kernel finds. -/
theorem A_eq (c : Dev nD) (w : Fin cfg0.W) : (dats m 0 c).A w = V m c (Pipeline.arrRef spec0 w) := by
  dsimp only [dats]

/-! What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = (tileIn m c t).act := by dsimp only [dats]
theorem after_17 (c : Dev nD) (t : Fin cfg0.N) : (dats m 0 c).after 17 t = (tileIn m c t).da := by dsimp only [dats]
theorem after_18 (c : Dev nD) (t : Fin cfg0.N) : (dats m 0 c).after 18 t = (tileIn m c t).h2 := by dsimp only [dats]
theorem after_19 (c : Dev nD) (t : Fin cfg0.N) : (dats m 0 c).after 19 t = (tileIn m c t).dy2 := by dsimp only [dats]
theorem after_20 (c : Dev nD) (t : Fin cfg0.N) : (dats m 0 c).after 20 t = (tileIn m c t).dx1 := by dsimp only [dats]
theorem after_21 (c : Dev nD) (t : Fin cfg0.N) : (dats m 0 c).after 21 t = (tileIn m c t).conv := by dsimp only [dats]
theorem after_22 (c : Dev nD) (t : Fin cfg0.N) : (dats m 0 c).after 22 t = accAt m c t.val t.isLt := by dsimp only [dats]
theorem after_23 (c : Dev nD) (t : Fin cfg0.N) : (dats m 0 c).after 23 t = (tileIn m c t).dy1 := by dsimp only [dats]
theorem after_24 (c : Dev nD) (t : Fin cfg0.N) : (dats m 0 c).after 24 t = (tileIn m c t).dO := by dsimp only [dats]
theorem after_25 (c : Dev nD) (t : Fin cfg0.N) : (dats m 0 c).after 25 t = (tileIn m c t).dgb := by dsimp only [dats]
theorem after_26 (c : Dev nD) (t : Fin cfg0.N) : (dats m 0 c).after 26 t = (tileIn m c t).dyv := by dsimp only [dats]

/-! Every input buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d

/-- The accumulator's buffer holds what the point before left. -/
theorem before_acc (c : Dev nD) (t : Fin cfg0.N) (h0 : t.val ≠ 0) (d) :
    (dats m 0 c).before 22 t d = accAt m c (t.val - 1) (Nat.lt_of_le_of_lt (Nat.sub_le _ _) t.isLt) := by
  have hN : t.val < 16 := lt_of_lt_of_eq t.isLt (show cfg0.N = 16 from N_0)
  rw [Dat.before_out_kept _ 22 rfl t (by omega) (Bool.eq_false_iff.mpr fun h => by have := (flush0_22 _).mp h; dsimp only at this; omega)
    (fun _ => rfl) (fun _ _ => rfl)]
  dsimp only [dats]

/-- The tile's accumulator over what its buffer holds is the accumulator after the point. -/
theorem acc_before (c : Dev nD) (t : Fin cfg0.N) (d) :
    (tileIn m c t).acc ((dats m 0 c).before 22 t d) = accAt m c t.val t.isLt := by
  by_cases h : t.val = 0
  · exact (accAt_zero m c t h _).symm
  · rw [before_acc m c t h, accAt_succ m c t h]

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (body_run c (tileIn m c t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 _ ((dats m 0 c).before 22 t d22) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexact H22
  isplitl [H23]; · iexists _; iexact H23
  isplitl [H24]; · iexists _; iexact H24
  isplitl [H25]; · iexists _; iexact H25
  isplitl [H26]; · iexists _; iexact H26
  isplitl [HS0]; · iexact HS0
  rw [acc_before m c t d22]
  iintro ⟨H0, H1, H2, H3, H4, H5, H6, H7, H8, H9, H10, H11, H12, H13, H14, H15, H16, H17, H18, H19, H20, H21, H22, H23, H24, H25, H26, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch rule's implicit arguments are found by unifying its conclusion with this one, which takes unfolding plain
-- definitions in a metavariable's type
set_option backward.isDefEq.respectTransparency.types false in
/-- Every run ends, with every array at what the proof data says and every semaphore counter at zero. -/
theorem run_all : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

set_option maxHeartbeats 2000000 in
/-- Every run ends with every array at what the proof data says. -/
theorem run_post : θ_run defs (onTc (τ := τ) (main (F := F))) (s₀ m ρ) (Pipeline.FramePost cfgs (dats m) 0 (V m)) :=
  (θ_run defs _ _).mono (fun _ h => h.1) (run_all m ρ)

set_option maxHeartbeats 2000000 in
/-- Every run ends with the arguments unchanged and every semaphore counter at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_post m ρ)) ((θ_run defs _ _).mono (fun _ h => h.2) (run_all m ρ))

end Cert.Mlp

end
-- ==== Proof.SameRun.lean ====
/-
  The two programs of the kernel, over the machine's floats and over the extended reals, run the same: their tables and
  their mains are the same text, so the frame of the one is the frame of the other.
-/
module

public import proofs.«01_k».proof.Defs
public import proofs.«01_k».proof.Proof.Same
public import proofs.«01_k».proof.Proof.Frame

@[expose] public section

set_option maxRecDepth 65536
set_option maxHeartbeats 2000000
set_option smartUnfolding false

namespace Cert.Mlp

open Idealize.ShloMosaic Idealize.SL.Sem

/-- The whole table: the bodies and the pipelines. -/
theorem table_same : Cert.Kernel.defs (F := Bits) = Cert.KernelIdeal.defs (F := Bits) := by
  exact congrArg (Idealize.ShloMosaic.Pipeline.defs Cert.KernelIdeal.pcfgs) bodies_same

/-- The mains. -/
theorem main_same : Cert.Kernel.main (F := Bits) = Cert.KernelIdeal.main (F := Bits) := by exact rfl

/-- The kernel over the machine's floats ends with its arguments unchanged and every counter at zero. -/
theorem frame_bits : Cert.quiescent_Kernel := by
  intro m ρ _
  have h := kernel_frame (F := Bits) m ρ
  simp only [← table_same, ← main_same] at h
  exact h

end Cert.Mlp

end
-- ==== Proof.Model.lean ====
/-
  The mathematics of the step's dense half over the real numbers, for one device's 4096 tokens: the gated
  short convolution, the output product, the adaptive norm, the squared-ReLU MLP, the final norm and loss, and
  the gradients of all of these. `Ins` are the arrays it reads; each definition below is one intermediate array,
  written as a function of the token and the channel. Both programs are shown to compute these arrays: the
  kernel tile by tile (`Tile*.lean`), the reference operation by operation (`Ref*.lean`).
-/
module

public import Idealize.ShloMosaic.PureOps.Ideal.Laws
public import Mathlib.Algebra.BigOperators.Fin
public import Mathlib.Tactic.Ring
public import Mathlib.Tactic.Linarith
public import Mathlib.Tactic.Positivity

@[expose] public section

noncomputable section

namespace Cert.Mlp

/-- The arrays read: attention rows, the three groups of the convolution branch, the residual stream, the
    target, the modulation rows, the final norm's weight, the filter's three taps and the three weights. -/
structure Ins where
  o : Fin 4096 → Fin 512 → ℝ
  gb : Fin 4096 → Fin 512 → ℝ
  gc : Fin 4096 → Fin 512 → ℝ
  xi : Fin 4096 → Fin 512 → ℝ
  x : Fin 4096 → Fin 1024 → ℝ
  tgt : Fin 4096 → Fin 1024 → ℝ
  g1 : Fin 1024 → ℝ
  sh2 : Fin 1024 → ℝ
  sc2 : Fin 1024 → ℝ
  g2 : Fin 1024 → ℝ
  gf : Fin 1024 → ℝ
  w : Fin 3 → Fin 512 → ℝ
  wo : Fin 1024 → Fin 1024 → ℝ
  w1 : Fin 1024 → Fin 4096 → ℝ
  w2 : Fin 4096 → Fin 1024 → ℝ

/-- The norms' small constant: the rational of the float word both programs spell. -/
def eps : ℝ := 8796093 * (2 : ℝ) ^ (-43 : ℤ)

theorem eps_pos : 0 < eps := by unfold eps; positivity

namespace Ins

variable (A : Ins)

/-! ## Forward -/

/-- The convolution's input: gate times signal. -/
def u (t : Fin 4096) (j : Fin 512) : ℝ := A.gc t j * A.xi t j
/-- The row before `t`, zero before the first. -/
def um (t : Fin 4096) (j : Fin 512) : ℝ := if h : 0 < t.val then A.u ⟨t.val - 1, by omega⟩ j else 0
/-- The row after `t`, zero after the last. -/
def up (t : Fin 4096) (j : Fin 512) : ℝ := if h : t.val + 1 < 4096 then A.u ⟨t.val + 1, h⟩ j else 0
/-- The three-tap convolution along the tokens. -/
def yv (t : Fin 4096) (j : Fin 512) : ℝ := A.w 0 j * A.um t j + A.w 1 j * A.u t j + A.w 2 j * A.up t j
/-- The gated convolution. -/
def conv (t : Fin 4096) (j : Fin 512) : ℝ := A.gb t j * A.yv t j
/-- The output product: attention rows against the weight's first half, convolution rows against the second. -/
def y1 (t : Fin 4096) (d : Fin 1024) : ℝ :=
  ∑ k : Fin 512, A.o t k * A.wo ⟨k.val, by omega⟩ d + ∑ k : Fin 512, A.conv t k * A.wo ⟨512 + k.val, by omega⟩ d
/-- The residual stream after attention and convolution. -/
def x1 (t : Fin 4096) (d : Fin 1024) : ℝ := A.x t d + A.g1 d * A.y1 t d
/-- Mean square of a row plus the small constant. -/
def m2 (t : Fin 4096) : ℝ := (∑ d, A.x1 t d * A.x1 t d) / 1024 + eps
def r2 (t : Fin 4096) : ℝ := (Real.sqrt (A.m2 t))⁻¹
/-- The normalised row. -/
def xn1 (t : Fin 4096) (d : Fin 1024) : ℝ := A.x1 t d * A.r2 t
/-- The modulated norm, the MLP's input. -/
def h2 (t : Fin 4096) (d : Fin 1024) : ℝ := A.xn1 t d * (1 + A.sc2 d) + A.sh2 d
/-- The MLP's hidden row before its activation. -/
def a (t : Fin 4096) (f : Fin 4096) : ℝ := ∑ d, A.h2 t d * A.w1 d f
/-- ReLU. -/
def ra (t : Fin 4096) (f : Fin 4096) : ℝ := max (A.a t f) 0
/-- Squared ReLU. -/
def r (t : Fin 4096) (f : Fin 4096) : ℝ := A.ra t f * A.ra t f
/-- The MLP's output. -/
def y2 (t : Fin 4096) (d : Fin 1024) : ℝ := ∑ f, A.r t f * A.w2 f d
/-- The residual stream after the MLP. -/
def x2 (t : Fin 4096) (d : Fin 1024) : ℝ := A.x1 t d + A.g2 d * A.y2 t d
def m3 (t : Fin 4096) : ℝ := (∑ d, A.x2 t d * A.x2 t d) / 1024 + eps
def r3 (t : Fin 4096) : ℝ := (Real.sqrt (A.m3 t))⁻¹
def xn3 (t : Fin 4096) (d : Fin 1024) : ℝ := A.x2 t d * A.r3 t
/-- Output minus target. -/
def diff (t : Fin 4096) (d : Fin 1024) : ℝ := A.xn3 t d * A.gf d - A.tgt t d
/-- Half the sum over the tokens of the mean squared difference. -/
def loss : ℝ := (1 / 2) * ∑ t, (∑ d, A.diff t d * A.diff t d) / 1024

/-! ## Backward -/

def dy (t : Fin 4096) (d : Fin 1024) : ℝ := A.diff t d / 1024
def dxn3 (t : Fin 4096) (d : Fin 1024) : ℝ := A.dy t d * A.gf d
/-- Through the final norm: the gradient of the residual stream after the MLP. -/
def dx2 (t : Fin 4096) (d : Fin 1024) : ℝ :=
  A.r3 t * (A.dxn3 t d - A.xn3 t d * ((∑ k, A.dxn3 t k * A.xn3 t k) / 1024))
/-- Through the MLP's gate. -/
def dy2 (t : Fin 4096) (d : Fin 1024) : ℝ := A.dx2 t d * A.g2 d
def dr (t : Fin 4096) (f : Fin 4096) : ℝ := ∑ d, A.dy2 t d * A.w2 f d
/-- Through the squared ReLU. -/
def da (t : Fin 4096) (f : Fin 4096) : ℝ := 2 * A.ra t f * A.dr t f
def dh2 (t : Fin 4096) (d : Fin 1024) : ℝ := ∑ f, A.da t f * A.w1 d f
def dxn1 (t : Fin 4096) (d : Fin 1024) : ℝ := A.dh2 t d * (1 + A.sc2 d)
/-- Through the adaptive norm: the gradient of the residual stream after attention and convolution. -/
def dx1 (t : Fin 4096) (d : Fin 1024) : ℝ :=
  A.dx2 t d + A.r2 t * (A.dxn1 t d - A.xn1 t d * ((∑ k, A.dxn1 t k * A.xn1 t k) / 1024))
/-- Through the attention branch's gate. -/
def dy1 (t : Fin 4096) (d : Fin 1024) : ℝ := A.dx1 t d * A.g1 d
/-- Through the output product: the gradient of its input, attention columns first. -/
def dcat (t : Fin 4096) (k : Fin 1024) : ℝ := ∑ d, A.dy1 t d * A.wo k d
def dO (t : Fin 4096) (j : Fin 512) : ℝ := A.dcat t ⟨j.val, by omega⟩
def dconv (t : Fin 4096) (j : Fin 512) : ℝ := A.dcat t ⟨512 + j.val, by omega⟩
def dgb (t : Fin 4096) (j : Fin 512) : ℝ := A.dconv t j * A.yv t j
def dyv (t : Fin 4096) (j : Fin 512) : ℝ := A.dconv t j * A.gb t j

/-! ## Gradients summed over the tokens -/

/-- One token's part of the eight rows of sums: the final norm's weight, the MLP's gate, its shift, its scale,
    the loss, the attention branch's gate, and two rows of zeros. -/
def part (k : Fin 8) (t : Fin 4096) (d : Fin 1024) : ℝ :=
  match k with
  | 0 => A.dy t d * A.xn3 t d
  | 1 => A.dx2 t d * A.y2 t d
  | 2 => A.dh2 t d
  | 3 => A.dh2 t d * A.xn1 t d
  | 4 => (1 / 2) * ((∑ e, A.diff t e * A.diff t e) / 1024)
  | 5 => A.dx1 t d * A.y1 t d
  | _ => 0

/-- The eight rows of sums. -/
def acc (k : Fin 8) (d : Fin 1024) : ℝ := ∑ t, A.part k t d

theorem m2_pos (t : Fin 4096) : 0 < A.m2 t :=
  add_pos_of_nonneg_of_pos (div_nonneg (Finset.sum_nonneg fun _ _ => mul_self_nonneg _) (by norm_num)) eps_pos

theorem m3_pos (t : Fin 4096) : 0 < A.m3 t :=
  add_pos_of_nonneg_of_pos (div_nonneg (Finset.sum_nonneg fun _ _ => mul_self_nonneg _) (by norm_num)) eps_pos

end Ins

/-! ## The identities between the two ways of writing a gradient -/

/-- The gradient through a root-mean-square norm: differentiation of `x · rsqrt(mean(x²) + ε)` factor by factor
    (left) against the folded form (right), for one channel of one row. -/
theorem norm_back (m S g x : ℝ) (hm : 0 < m) :
    g * (Real.sqrt m)⁻¹ + x * (S * (-(1 / 2) * ((Real.sqrt m)⁻¹ / m)) / 1024)
        + S * (-(1 / 2) * ((Real.sqrt m)⁻¹ / m)) / 1024 * x
      = (Real.sqrt m)⁻¹ * (g - x * (Real.sqrt m)⁻¹ * (S * (Real.sqrt m)⁻¹ / 1024)) := by
  have h : (Real.sqrt m)⁻¹ / m = (Real.sqrt m)⁻¹ * ((Real.sqrt m)⁻¹ * (Real.sqrt m)⁻¹) := by
    rw [← mul_inv, Real.mul_self_sqrt hm.le]; rfl
  rw [h]; ring

/-- A sum over `n · b` indices, block by block. -/
theorem sum_blocks {M : Type} [AddCommMonoid M] (n b : ℕ) (f : Fin (n * b) → M) :
    ∑ i, f i = ∑ s : Fin n, ∑ g : Fin b, f ⟨s.val * b + g.val, by
      have := s.isLt; have := g.isLt
      calc s.val * b + g.val < s.val * b + b := by omega
        _ = (s.val + 1) * b := by ring
        _ ≤ n * b := Nat.mul_le_mul_right _ (by omega)⟩ := by
  rw [← (finProdFinEquiv (m := n) (n := b)).sum_comp, Fintype.sum_prod_type]
  refine Finset.sum_congr rfl fun s _ => Finset.sum_congr rfl fun g _ => congrArg f (Fin.ext ?_)
  simp [finProdFinEquiv]; ring

/-- A sum of reals read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

end Cert.Mlp

end
-- ==== Proof.Reals.lean ====
/-
  Reading the operations of the two programs over the real numbers. `Is v f` says that the array `v` of extended
  reals holds the real numbers `f`, entry by entry. Each theorem below says what one operation does to such arrays,
  so that an expression of the program is read from the inside out: as long as no operation leaves the real numbers,
  the result is the textbook value of the expression.
-/
module

public import Idealize.ShloMosaic.PureOps.Ideal.Laws
public import Idealize.ShloMosaic.Lib.Pointwise.Index
public import Idealize.ShloMosaic.Lib.Pointwise.Contract
public import Idealize.ShloMosaic.Lib.Pointwise.Reduce
public import Idealize.ShloMosaic.Lib.Pipeline.Value
public import Idealize.ShloMosaic.Lib.KernelVsHost
public import Idealize.ShloMosaic.Lib.Pipeline.FrameBody
public import proofs.«01_k».proof.Proof.Model

@[expose] public section

noncomputable section

namespace Cert.Mlp

open Idealize.ShloMosaic

/-- The array `v` holds the real numbers `f`. -/
def Is {s : Shape} (v : s.Idx → EReal) (f : s.Idx → ℝ) : Prop := ∀ i, v i = ((f i : ℝ) : EReal)

namespace Is

variable {s t : Shape} {φ ψ : FTy}

/-- The same reals written differently. -/
theorem congr {v : s.Idx → EReal} {f g : s.Idx → ℝ} (h : Is v f) (e : ∀ i, f i = g i) : Is v g :=
  fun i => (h i).trans (by rw [e i])

/-! ## Entry by entry -/

section Pointwise

variable {a b : FVec Ideal s φ} {f g : s.Idx → ℝ}

theorem add (ha : Is a f) (hb : Is b g) : Is (addf a b) (fun i => f i + g i) := fun i => by
  show a i + b i = _
  rw [ha i, hb i, EReal.coe_add]

theorem sub (ha : Is a f) (hb : Is b g) : Is (subf a b) (fun i => f i - g i) := fun i => by
  show a i - b i = _
  rw [ha i, hb i, EReal.coe_sub]

theorem mul (ha : Is a f) (hb : Is b g) : Is (mulf a b) (fun i => f i * g i) := fun i => by
  show a i * b i = _
  rw [ha i, hb i, EReal.coe_mul]

theorem max (ha : Is a f) (hb : Is b g) : Is (maximumf a b) (fun i => Max.max (f i) (g i)) := fun i => by
  show Max.max (a i) (b i) = _
  rw [ha i, hb i]
  exact (EReal.coe_strictMono.monotone.map_max).symm

/-- A quotient of reals by a real that is not zero. -/
theorem quot {x y : ℝ} (h : y ≠ 0) : Ideal.div (x : EReal) (y : EReal) = ((x / y : ℝ) : EReal) := by
  rw [Ideal.div, if_neg (by exact_mod_cast h), ← EReal.coe_inv, ← EReal.coe_mul, div_eq_mul_inv]

theorem div (ha : Is a f) (hb : Is b g) (h : ∀ i, g i ≠ 0) : Is (divf a b) (fun i => f i / g i) := fun i => by
  show Ideal.div (a i) (b i) = _
  rw [ha i, hb i, quot (h i)]

theorem hdiv (ha : Is a f) (hb : Is b g) (h : ∀ i, g i ≠ 0) : Is (Host.divf a b) (fun i => f i / g i) := fun i => by
  show Ideal.div (a i) (b i) = _
  rw [ha i, hb i, quot (h i)]

/-- The inverse square root of a positive real. -/
theorem invSqrt {x : ℝ} (h : 0 < x) : Ideal.rsqrt (x : EReal) = (((Real.sqrt x)⁻¹ : ℝ) : EReal) := by
  show (if x < 0 then (⊥ : EReal) else if x = 0 then ⊤ else _) = _
  rw [if_neg (not_lt.2 h.le), if_neg h.ne']

theorem rsqrt (ha : Is a f) (h : ∀ i, 0 < f i) : Is (Idealize.ShloMosaic.rsqrt a) (fun i => (Real.sqrt (f i))⁻¹) := fun i => by
  show Ideal.rsqrt (a i) = _
  rw [ha i, invSqrt (h i)]

theorem hrsqrt (ha : Is a f) (h : ∀ i, 0 < f i) : Is (Host.rsqrt a) (fun i => (Real.sqrt (f i))⁻¹) := fun i => by
  show Ideal.rsqrt (a i) = _
  rw [ha i, invSqrt (h i)]

theorem trunc (ha : Is a f) (h : ψ.bits < φ.bits) : Is (truncf ψ a h) f := fun i => ha i

theorem ext (ha : Is a f) (h : φ.bits < ψ.bits) : Is (extf ψ a h) f := fun i => ha i

/-- A choice by the sign of `a`. -/
theorem ifPos {z x y : FVec Ideal s φ} {gx gy : s.Idx → ℝ} (ha : Is a f) (hz : Is z fun _ => 0) (hx : Is x gx) (hy : Is y gy) :
    Is (select (cmpf .ogt a z) x y) (fun i => if 0 < f i then gx i else gy i) := fun i => by
  show (if (Ideal.cmp .ogt (a i) (z i)) = 1#1 then x i else y i) = ((if 0 < f i then gx i else gy i : ℝ) : EReal)
  rw [ha i, hz i, hx i, hy i]
  by_cases h : 0 < f i
  · rw [if_pos h, if_pos]
    simp [Ideal.cmp, h]
  · rw [if_neg h, if_neg]
    simp [Ideal.cmp, h]

end Pointwise

/-! ## Constants -/

theorem splat {x : Ideal φ} {r : ℝ} (h : x = ((r : ℝ) : EReal)) : Is (broadcast s x) (fun _ => r) := fun _ => h

theorem const {w : BitVec φ.bits} {r : ℝ} (h : Ideal.ofBits φ w = ((r : ℝ) : EReal)) :
    Is (constant (F := Ideal) s φ w) (fun _ => r) := fun _ => h

theorem word_zero : Ideal.ofBits .f32 0x00000000#32 = ((0 : ℝ) : EReal) := by simp [Ideal.ofBits, Ideal.ieee]
theorem word_one : Ideal.ofBits .f32 0x3F800000#32 = ((1 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_inv1024 : Ideal.ofBits .f32 0x3A800000#32 = ((1 / 1024 : ℝ) : EReal) := by
  simp [Ideal.ofBits, Ideal.ieee, -EReal.coe_mul]; norm_num
theorem word_eps : Ideal.ofBits .f32 0x358637BD#32 = ((eps : ℝ) : EReal) := by
  simp [Ideal.ofBits, Ideal.ieee, -EReal.coe_mul, eps]

/-! ## Layout -/

theorem bcast {v : s.Idx → EReal} {f : s.Idx → ℝ} (hv : Is v f) (h : s.Broadcasts t) (g : t.Idx → s.Idx)
    (hg : ∀ j (a : Fin s.rank), (g j a).val = if s.size a = 1 then 0 else
      (j ⟨a.val + (t.rank - s.rank), by have := h.1; have := a.isLt; omega⟩).val) :
    Is (broadcastTo t v h) (fun j => f (g j)) := fun j => by
  rw [broadcastTo_apply v h j (g j) (hg j), hv]

theorem bcastIn {v : s.Idx → EReal} {f : s.Idx → ℝ} (hv : Is v f) (dims : Fin s.rank → Fin t.rank)
    (h : s.BroadcastsInDim t dims) (g : t.Idx → s.Idx)
    (hg : ∀ j (a : Fin s.rank), (g j a).val = if s.size a = 1 then 0 else (j (dims a)).val) :
    Is (broadcastInDim t dims h v) (fun j => f (g j)) := fun j => by
  rw [broadcastInDim_apply dims h v j (g j) (hg j), hv]

theorem cast {v : s.Idx → EReal} {f : s.Idx → ℝ} (hv : Is v f) (h : s.ShapeCasts t) (g : t.Idx → s.Idx)
    (hg : ∀ j, (s.rowMajor (g j)).val = (t.rowMajor j).val) : Is (shapeCast t v h) (fun j => f (g j)) := fun j => by
  rw [shapeCast_apply v h j (g j) (hg j), hv]

theorem slice {v : s.Idx → EReal} {f : s.Idx → ℝ} (hv : Is v f) (off : Fin s.rank → ℕ) (h : s.Slices off t) (g : t.Idx → s.Idx)
    (hg : ∀ j (a : Fin s.rank), (g j a).val = off a + (j (a.cast h.1.symm)).val) :
    Is (extractStridedSlice t off v h) (fun j => f (g j)) := fun j => by
  rw [extractStridedSlice_apply off v h j (g j) (hg j), hv]

/-- A load of a rectangle. -/
theorem load {v : Vec Ideal s .f32} {f : s.Idx → ℝ} (hv : Is v f) (off size : Fin s.rank → ℕ)
    (inb : ∀ a, off a + size a ≤ s.size a) (g : (⟨s.rank, size⟩ : Shape).Idx → s.Idx)
    (hg : ∀ j (a : Fin s.rank), (g j a).val = off a + (j a).val) :
    Is (View.ld (Val := Elt Ideal) (e' := .f32) v (Rect.unit off size inb)) (fun j => f (g j)) := fun j => by
  rw [View.ld_unit]
  exact (extractStridedSlice_apply (t := ⟨s.rank, size⟩) off v ⟨rfl, inb⟩ j (g j) (hg j)).trans (hv _)

/-- A load of a rectangle of half-width floats. -/
theorem loadB {v : Vec Ideal s .bf16} {f : s.Idx → ℝ} (hv : Is v f) (off size : Fin s.rank → ℕ)
    (inb : ∀ a, off a + size a ≤ s.size a) (g : (⟨s.rank, size⟩ : Shape).Idx → s.Idx)
    (hg : ∀ j (a : Fin s.rank), (g j a).val = off a + (j a).val) :
    Is (View.ld (Val := Elt Ideal) (e' := .bf16) v (Rect.unit off size inb)) (fun j => f (g j)) := fun j => by
  rw [View.ld_unit]
  exact (extractStridedSlice_apply (t := ⟨s.rank, size⟩) off v ⟨rfl, inb⟩ j (g j) (hg j)).trans (hv _)

section Rank2

variable {n k : ℕ}

/-- One row repeated over `n` rows. -/
theorem row {v : (⟨2, ![1, k]⟩ : Shape).Idx → EReal} {f : (⟨2, ![1, k]⟩ : Shape).Idx → ℝ} (hv : Is v f)
    (h : (⟨2, ![1, k]⟩ : Shape).Broadcasts ⟨2, ![n, k]⟩) :
    Is (broadcastTo ⟨2, ![n, k]⟩ v h) (fun j => f (ix2 0 (j 1))) :=
  bcast hv h (fun j => ix2 0 (j 1)) fun j a => by
    match a with
    | ⟨0, _⟩ => rfl
    | ⟨1, _⟩ =>
      have := (j 1).isLt
      show (j 1).val = if k = 1 then 0 else (j 1).val
      split
      · next hk => have : (j 1).val < k := (j 1).isLt; omega
      · rfl

/-- One column repeated over `k` columns. -/
theorem col {v : (⟨2, ![n, 1]⟩ : Shape).Idx → EReal} {f : (⟨2, ![n, 1]⟩ : Shape).Idx → ℝ} (hv : Is v f)
    (h : (⟨2, ![n, 1]⟩ : Shape).Broadcasts ⟨2, ![n, k]⟩) :
    Is (broadcastTo ⟨2, ![n, k]⟩ v h) (fun j => f (ix2 (j 0) 0)) :=
  bcast hv h (fun j => ix2 (j 0) 0) fun j a => by
    match a with
    | ⟨0, _⟩ =>
      show (j 0).val = if n = 1 then 0 else (j 0).val
      split
      · next hk => have : (j 0).val < n := (j 0).isLt; omega
      · rfl
    | ⟨1, _⟩ => rfl

/-- One entry repeated over a row. -/
theorem one {v : (⟨2, ![1, 1]⟩ : Shape).Idx → EReal} {f : (⟨2, ![1, 1]⟩ : Shape).Idx → ℝ} (hv : Is v f)
    (h : (⟨2, ![1, 1]⟩ : Shape).Broadcasts ⟨2, ![n, k]⟩) :
    Is (broadcastTo ⟨2, ![n, k]⟩ v h) (fun _ => f (ix2 0 0)) :=
  bcast hv h (fun _ => ix2 0 0) fun j a => by
    match a with
    | ⟨0, _⟩ => rfl
    | ⟨1, _⟩ => rfl

/-- A list of `n` numbers as a column. -/
theorem asCol {v : (⟨1, ![n]⟩ : Shape).Idx → EReal} {f : (⟨1, ![n]⟩ : Shape).Idx → ℝ} (hv : Is v f)
    (h : (⟨1, ![n]⟩ : Shape).ShapeCasts ⟨2, ![n, 1]⟩) : Is (shapeCast ⟨2, ![n, 1]⟩ v h) (fun j => f (ix1 (j 0))) :=
  cast hv h (fun j => ix1 (j 0)) fun j => by
    rw [Shape.rowMajor_val_one, Shape.rowMajor_val_two]
    have : (j 1).val < 1 := (j 1).isLt
    show (j 0).val = (j 0).val * 1 + (j 1).val
    omega

/-- A list of `k` numbers as a row. -/
theorem asRow {v : (⟨1, ![k]⟩ : Shape).Idx → EReal} {f : (⟨1, ![k]⟩ : Shape).Idx → ℝ} (hv : Is v f)
    (h : (⟨1, ![k]⟩ : Shape).ShapeCasts ⟨2, ![1, k]⟩) : Is (shapeCast ⟨2, ![1, k]⟩ v h) (fun j => f (ix1 (j 1))) :=
  cast hv h (fun j => ix1 (j 1)) fun j => by
    rw [Shape.rowMajor_val_one, Shape.rowMajor_val_two]
    have : (j 0).val < 1 := (j 0).isLt
    have h0 : (j 0).val = 0 := by omega
    show (j 1).val = (j 0).val * k + (j 1).val
    rw [h0]; omega

/-- A row as a list of `k` numbers. -/
theorem unRow {v : (⟨2, ![1, k]⟩ : Shape).Idx → EReal} {f : (⟨2, ![1, k]⟩ : Shape).Idx → ℝ} (hv : Is v f)
    (h : (⟨2, ![1, k]⟩ : Shape).ShapeCasts ⟨1, ![k]⟩) : Is (shapeCast ⟨1, ![k]⟩ v h) (fun j => f (ix2 0 (j 0))) :=
  cast hv h (fun j => ix2 0 (j 0)) fun j => by
    rw [Shape.rowMajor_val_one, Shape.rowMajor_val_two]
    show 0 * k + (j 0).val = (j 0).val
    omega

/-- A leading axis of one entry dropped. -/
theorem dropUnit {v : (⟨3, ![1, n, k]⟩ : Shape).Idx → EReal} {f : (⟨3, ![1, n, k]⟩ : Shape).Idx → ℝ} (hv : Is v f)
    (h : (⟨3, ![1, n, k]⟩ : Shape).ShapeCasts ⟨2, ![n, k]⟩) :
    Is (shapeCast ⟨2, ![n, k]⟩ v h) (fun j => f (ix3 0 (j 0) (j 1))) :=
  cast hv h (fun j => ix3 0 (j 0) (j 1)) fun j => by
    rw [Shape.rowMajor_val_three, Shape.rowMajor_val_two]
    show (0 * n + (j 0).val) * k + (j 1).val = (j 0).val * k + (j 1).val
    rw [Nat.zero_mul, Nat.zero_add]

/-- A leading axis of one entry added. -/
theorem addUnit {v : (⟨2, ![n, k]⟩ : Shape).Idx → EReal} {f : (⟨2, ![n, k]⟩ : Shape).Idx → ℝ} (hv : Is v f)
    (h : (⟨2, ![n, k]⟩ : Shape).ShapeCasts ⟨3, ![1, n, k]⟩) :
    Is (shapeCast ⟨3, ![1, n, k]⟩ v h) (fun j => f (ix2 (j 1) (j 2))) :=
  cast hv h (fun j => ix2 (j 1) (j 2)) fun j => by
    rw [Shape.rowMajor_val_three, Shape.rowMajor_val_two]
    have : (j 0).val < 1 := (j 0).isLt
    have h0 : (j 0).val = 0 := by omega
    show (j 1).val * k + (j 2).val = ((j 0).val * n + (j 1).val) * k + (j 2).val
    rw [h0, Nat.zero_mul, Nat.zero_add]

theorem same {v : s.Idx → EReal} {f : s.Idx → ℝ} (hv : Is v f) (h : s.ShapeCasts s) : Is (shapeCast s v h) f := by
  rw [shapeCast_self]; exact hv

/-! ## Sums along an axis -/

/-- Each row summed. -/
theorem sumRow {v : FVec Ideal ⟨2, ![n, k]⟩ φ} {f : (⟨2, ![n, k]⟩ : Shape).Idx → ℝ} (hv : Is v f) (acc : BitVec φ.bits)
    (h : (⟨2, ![n, k]⟩ : Shape).Reduces [1] ⟨1, ![n]⟩) (hφ : FKind.Formats φ) (hacc : acc = FKind.add.neutral φ hφ) :
    Is (multiReduction .add [1] ⟨1, ![n]⟩ v acc h hφ hacc) (fun j => ∑ c : Fin k, f (ix2 (j 0) c)) := fun j => by
  rw [coe_sum]
  refine (Ideal.reduceAdd_r2_a1 h v j).trans (Finset.sum_congr rfl fun c _ => ?_)
  exact hv _

/-- Each column summed. -/
theorem sumCol {v : FVec Ideal ⟨2, ![n, k]⟩ φ} {f : (⟨2, ![n, k]⟩ : Shape).Idx → ℝ} (hv : Is v f) (acc : BitVec φ.bits)
    (h : (⟨2, ![n, k]⟩ : Shape).Reduces [0] ⟨1, ![k]⟩) (hφ : FKind.Formats φ) (hacc : acc = FKind.add.neutral φ hφ) :
    Is (multiReduction .add [0] ⟨1, ![k]⟩ v acc h hφ hacc) (fun j => ∑ r : Fin n, f (ix2 r (j 0))) := fun j => by
  rw [coe_sum]
  refine (Ideal.reduceAdd_r2_a0 h v j).trans (Finset.sum_congr rfl fun c _ => ?_)
  exact hv _

/-- Each row summed, on the host. -/
theorem hsumRow {v : FVec Ideal ⟨2, ![n, k]⟩ φ} {f : (⟨2, ![n, k]⟩ : Shape).Idx → ℝ} (hv : Is v f) {u : Shape}
    {z : FVec Ideal u φ} (hz : Is z fun _ => 0) (h : (⟨2, ![n, k]⟩ : Shape).ReducesTo [1] ⟨1, ![n]⟩) (hu : 0 < u.numel) :
    Is (Host.reduceAdd v z h hu) (fun j => ∑ c : Fin k, f (ix2 (j 0) c)) := fun j => by
  rw [coe_sum]
  refine (Ideal.hostReduceAdd_r2_a1 h v _ j).trans ?_
  rw [hz, EReal.coe_zero, zero_add]
  exact Finset.sum_congr rfl fun c _ => hv _

/-- Each column summed, on the host. -/
theorem hsumCol {v : FVec Ideal ⟨2, ![n, k]⟩ φ} {f : (⟨2, ![n, k]⟩ : Shape).Idx → ℝ} (hv : Is v f) {u : Shape}
    {z : FVec Ideal u φ} (hz : Is z fun _ => 0) (h : (⟨2, ![n, k]⟩ : Shape).ReducesTo [0] ⟨1, ![k]⟩) (hu : 0 < u.numel) :
    Is (Host.reduceAdd v z h hu) (fun j => ∑ r : Fin n, f (ix2 r (j 0))) := fun j => by
  rw [coe_sum]
  refine (Ideal.hostReduceAdd_r2_a0 h v _ j).trans ?_
  rw [hz, EReal.coe_zero, zero_add]
  exact Finset.sum_congr rfl fun c _ => hv _

/-- A list summed, on the host. -/
theorem hsumAll {v : FVec Ideal ⟨1, ![n]⟩ φ} {f : (⟨1, ![n]⟩ : Shape).Idx → ℝ} (hv : Is v f) {u : Shape}
    {z : FVec Ideal u φ} (hz : Is z fun _ => 0) (h : (⟨1, ![n]⟩ : Shape).ReducesTo [0] ⟨0, ![]⟩) (hu : 0 < u.numel) :
    Is (Host.reduceAdd v z h hu) (fun _ => ∑ r : Fin n, f (ix1 r)) := fun j => by
  rw [coe_sum]
  refine (Ideal.hostReduceAdd_r1_a0 h v _ j).trans ?_
  rw [hz, EReal.coe_zero, zero_add]
  exact Finset.sum_congr rfl fun c _ => hv _

end Rank2

/-! ## Products of matrices -/

section Dot

variable {sl sr so : Shape} {φ₁ φ₂ : FTy} {lhs : FVec Ideal sl φ₁} {rhs : FVec Ideal sr φ₂} {f : sl.Idx → ℝ} {g : sr.Idx → ℝ}

/-- A product accumulated from zero, over one contracted axis of `K` entries. -/
theorem dot (hl : Is lhs f) (hr : Is rhs g) (d : DotDims sl sr so) (prec : Option ContractPrecision) {a : Fin sl.rank}
    (hc : d.lhsContracting = [a]) {K : ℕ} (hK : sl.size a = K) (L : so.Idx → Fin K → sl.Idx) (R : so.Idx → Fin K → sr.Idx)
    (hL : ∀ j c, d.lhsIdx j (d.contrIdx₁ hc hK c) = L j c) (hR : ∀ j c, d.rhsIdx j (d.contrIdx₁ hc hK c) = R j c) :
    Is (matmul d prec lhs rhs (constant so .f32 0x00000000#32)) (fun j => ∑ c, f (L j c) * g (R j c)) := fun j => by
  rw [coe_sum]
  refine (Ideal.matmul_constant_zero_apply d prec lhs rhs j).trans ?_
  rw [d.sum_contr₁ hc hK]
  refine Finset.sum_congr rfl fun c _ => ?_
  rw [hL, hR, hl, hr, EReal.coe_mul]

/-- A product on the host. -/
theorem hdot (hl : Is lhs f) (hr : Is rhs g) (d : DotDims sl sr so) (prec : Option ContractPrecision) {a : Fin sl.rank}
    (hc : d.lhsContracting = [a]) {K : ℕ} (hK : sl.size a = K) (L : so.Idx → Fin K → sl.Idx) (R : so.Idx → Fin K → sr.Idx)
    (hL : ∀ j c, d.lhsIdx j (d.contrIdx₁ hc hK c) = L j c) (hR : ∀ j c, d.rhsIdx j (d.contrIdx₁ hc hK c) = R j c) :
    Is (Host.dotGeneral d prec lhs rhs) (fun j => ∑ c, f (L j c) * g (R j c)) := fun j => by
  rw [coe_sum]
  refine (Ideal.dotGeneral_apply d prec _ lhs rhs j).trans ?_
  rw [d.sum_contr₁ hc hK]
  refine Finset.sum_congr rfl fun c _ => ?_
  rw [hL, hR, hl, hr, EReal.coe_mul]

end Dot

end Is

end Cert.Mlp

end
-- ==== Proof.TileFwd.lean ====
/-
  One tile of the kernel over the real numbers, forwards: from the blocks it reads to the residual stream after the
  MLP. `Reads T A b` says that the tile's blocks hold the rows `256·b … 256·b + 255` of the arrays `A`.
-/
module

public import proofs.«01_k».proof.Proof.Reals
public import proofs.«01_k».proof.Proof.Tile

@[expose] public section

set_option maxRecDepth 16384

noncomputable section

namespace Cert.Mlp

open Idealize.ShloMosaic Cert.KernelIdeal Cert.KernelIdeal.Gen

/-- Row `a` of tile `b`, as a row of the whole array. -/
def rowAt (b : Fin 16) (a : Fin 256) : Fin 4096 := ⟨256 * b.val + a.val, by omega⟩

/-- Column `f` of the `s`-th block of 1024 columns. -/
def colAt (s : Fin 4) (f : Fin 1024) : Fin 4096 := ⟨1024 * s.val + f.val, by omega⟩

/-- A sum over 4096 columns, block by block. -/
theorem sum_four (g : Fin 4096 → ℝ) :
    ∑ f, g f = 0 + ∑ f, g (colAt 0 f) + ∑ f, g (colAt 1 f) + ∑ f, g (colAt 2 f) + ∑ f, g (colAt 3 f) := by
  have h := sum_blocks 4 1024 g
  rw [Fin.sum_univ_four] at h
  rw [zero_add]
  refine h.trans ?_
  refine congrArg₂ (· + ·) (congrArg₂ (· + ·) (congrArg₂ (· + ·) ?_ ?_) ?_) ?_ <;>
    exact Finset.sum_congr rfl fun f _ => congrArg g (Fin.ext rfl)

/-- The tile's blocks hold the rows of `A` that belong to it, and the rows next to them. -/
structure Reads (T : TileIn Ideal) (A : Ins) (b : Fin 16) : Prop where
  i : (T.i 0).val = b.val
  o : Is T.o fun j => A.o (rowAt b (j 0)) (j 1)
  gb : Is T.gb fun j => A.gb (rowAt b (j 0)) (j 1)
  gc : Is T.gc fun j => A.gc (rowAt b (j 0)) (j 1)
  xi : Is T.xi fun j => A.xi (rowAt b (j 0)) (j 1)
  gcp : ∀ h : 0 < b.val, ∀ c, T.gcp (ix2 7 c) = (A.gc ⟨256 * b.val - 1, by omega⟩ c : EReal)
  xip : ∀ h : 0 < b.val, ∀ c, T.xip (ix2 7 c) = (A.xi ⟨256 * b.val - 1, by omega⟩ c : EReal)
  gcn : ∀ h : b.val < 15, ∀ c, T.gcn (ix2 0 c) = (A.gc ⟨256 * b.val + 256, by omega⟩ c : EReal)
  xin : ∀ h : b.val < 15, ∀ c, T.xin (ix2 0 c) = (A.xi ⟨256 * b.val + 256, by omega⟩ c : EReal)
  cw0 : Is T.cw0 fun j => A.w 0 (j 1)
  cw1 : Is T.cw1 fun j => A.w 1 (j 1)
  cw2 : Is T.cw2 fun j => A.w 2 (j 1)
  wo : Is T.wo fun j => A.wo (j 0) (j 1)
  x : Is T.x fun j => A.x (rowAt b (j 0)) (j 1)
  tgt : Is T.tgt fun j => A.tgt (rowAt b (j 0)) (j 1)
  g1 : Is T.g1 fun j => A.g1 (j 1)
  sh2 : Is T.sh2 fun j => A.sh2 (j 1)
  sc2 : Is T.sc2 fun j => A.sc2 (j 1)
  g2 : Is T.g2 fun j => A.g2 (j 1)
  gf : Is T.gf fun j => A.gf (j 1)
  w1 : Is T.w1 fun j => A.w1 (j 1) (colAt (j 0) (j 2))
  w2 : Is T.w2 fun j => A.w2 (j 0) (j 1)

/-! ## The matrix products of a tile -/

theorem idx_ext {n k : ℕ} {i j : (⟨2, ![n, k]⟩ : Shape).Idx} (h0 : i 0 = j 0) (h1 : i 1 = j 1) : i = j := by
  rw [eq_ix2 i, eq_ix2 j, h0, h1]

section Dots

variable {φ₁ φ₂ : FTy}

theorem dot_half {l : FVec Ideal S256x512 φ₁} {r : FVec Ideal S512x1024 φ₂} {f : S256x512.Idx → ℝ} {g : S512x1024.Idx → ℝ}
    (hl : Is l f) (hr : Is r g) :
    Is (matmul dot_S256x512_S512x1024_S256x1024_1_0_0_1_n_n none l r (constant S256x1024 .f32 0x00000000#32))
      (fun j => ∑ c : Fin 512, f (ix2 (j 0) c) * g (ix2 c (j 1))) :=
  Is.dot hl hr dot_S256x512_S512x1024_S256x1024_1_0_0_1_n_n none (a := 1) rfl rfl (fun j c => ix2 (j 0) c) (fun j c => ix2 c (j 1))
    (fun _ _ => idx_ext rfl rfl) (fun _ _ => idx_ext rfl rfl)

theorem dot_full {l : FVec Ideal S256x1024 φ₁} {r : FVec Ideal S1024x1024 φ₂} {f : S256x1024.Idx → ℝ} {g : S1024x1024.Idx → ℝ}
    (hl : Is l f) (hr : Is r g) :
    Is (matmul dot_S256x1024_S1024x1024_S256x1024_1_0_0_1_n_n none l r (constant S256x1024 .f32 0x00000000#32))
      (fun j => ∑ c : Fin 1024, f (ix2 (j 0) c) * g (ix2 c (j 1))) :=
  Is.dot hl hr dot_S256x1024_S1024x1024_S256x1024_1_0_0_1_n_n none (a := 1) rfl rfl (fun j c => ix2 (j 0) c) (fun j c => ix2 c (j 1))
    (fun _ _ => idx_ext rfl rfl) (fun _ _ => idx_ext rfl rfl)

theorem dot_back {l : FVec Ideal S256x1024 φ₁} {r : FVec Ideal S1024x1024 φ₂} {f : S256x1024.Idx → ℝ} {g : S1024x1024.Idx → ℝ}
    (hl : Is l f) (hr : Is r g) :
    Is (matmul dot_S256x1024_S1024x1024_S256x1024_1_1_0_0_n_n none l r (constant S256x1024 .f32 0x00000000#32))
      (fun j => ∑ c : Fin 1024, f (ix2 (j 0) c) * g (ix2 (j 1) c)) :=
  Is.dot hl hr dot_S256x1024_S1024x1024_S256x1024_1_1_0_0_n_n none (a := 1) rfl rfl (fun j c => ix2 (j 0) c) (fun j c => ix2 (j 1) c)
    (fun _ _ => idx_ext rfl rfl) (fun _ _ => idx_ext rfl rfl)

theorem dot_backHalf {l : FVec Ideal S256x1024 φ₁} {r : FVec Ideal S512x1024 φ₂} {f : S256x1024.Idx → ℝ} {g : S512x1024.Idx → ℝ}
    (hl : Is l f) (hr : Is r g) :
    Is (matmul dot_S256x1024_S512x1024_S256x512_1_1_0_0_n_n none l r (constant S256x512 .f32 0x00000000#32))
      (fun j => ∑ c : Fin 1024, f (ix2 (j 0) c) * g (ix2 (j 1) c)) :=
  Is.dot hl hr dot_S256x1024_S512x1024_S256x512_1_1_0_0_n_n none (a := 1) rfl rfl (fun j c => ix2 (j 0) c) (fun j c => ix2 (j 1) c)
    (fun _ _ => idx_ext rfl rfl) (fun _ _ => idx_ext rfl rfl)

end Dots

/-- One entry of a load of a rectangle. -/
theorem ld_at {s : Shape} (v : Vec Ideal s .f32) (off size : Fin s.rank → ℕ) (inb : ∀ a, off a + size a ≤ s.size a)
    (j : (⟨s.rank, size⟩ : Shape).Idx) (i : s.Idx) (hi : ∀ a : Fin s.rank, (i a).val = off a + (j a).val) :
    View.ld (Val := Elt Ideal) (e' := .f32) v (Rect.unit off size inb) j = v i := by
  rw [View.ld_unit]
  exact extractStridedSlice_apply (t := ⟨s.rank, size⟩) off v ⟨rfl, inb⟩ j i hi

/-! ## Rows moved by one -/

/-- The test of the tile's number against a word. -/
theorem after_first : ∀ b : Fin 16, Scalar.cmpi .sgt (BitVec.ofNat 32 b.val) 0#32 = if 0 < b.val then 1#1 else 0#1 := by decide
theorem before_last : ∀ b : Fin 16, Scalar.cmpi .slt (BitVec.ofNat 32 b.val) 15#32 = if b.val < 15 then 1#1 else 0#1 := by decide

/-- A row kept or replaced by zeros. -/
theorem Is.keep {c : BitVec 1} {p : Prop} [Decidable p] (hc : c = if p then 1#1 else 0#1) {n k : ℕ} {v : FVec Ideal ⟨2, ![n, k]⟩ .f32}
    {f : (⟨2, ![n, k]⟩ : Shape).Idx → ℝ} (hv : p → Is v f) :
    Is (Scalar.select c v (broadcast ⟨2, ![n, k]⟩ (Scalar.ofBits .f32 0x00000000#32 : Ideal .f32))) (fun j => if p then f j else 0) := by
  by_cases h : p
  · simp only [hc, h, if_true]; exact hv h
  · simp only [hc, h, if_false]; exact Is.splat Is.word_zero

/-- One row put in place of row `r` of a tile. -/
theorem Is.put {r : ℕ} (hr : r < 256) {k : ℕ} {x y : FVec Ideal ⟨2, ![256, k]⟩ .f32} {f g : (⟨2, ![256, k]⟩ : Shape).Idx → ℝ}
    (hx : Is x f) (hy : Is y g) (h : (⟨2, ![256, k]⟩ : Shape).Iotas .tc 32 [0]) :
    Is (select (cmpi .eq (iota .tc ⟨2, ![256, k]⟩ 32 [0] h) (broadcast ⟨2, ![256, k]⟩ (BitVec.ofNat 32 r))) x y)
      (fun j => if (j 0).val = r then f j else g j) := fun j => by
  show (if IntOp.cmpi .eq (iota .tc ⟨2, ![256, k]⟩ 32 [0] h j) (BitVec.ofNat 32 r) = 1#1 then x j else y j)
    = ((if (j 0).val = r then f j else g j : ℝ) : EReal)
  rw [iota_single_apply, hx j, hy j]
  have h0 : (j 0).val < 256 := (j 0).isLt
  have e : IntOp.cmpi .eq (BitVec.ofNat 32 (j 0).val) (BitVec.ofNat 32 r) = 1#1 ↔ (j 0).val = r := by
    have : (BitVec.ofNat 32 (j 0).val = BitVec.ofNat 32 r) ↔ (j 0).val = r := by
      rw [← BitVec.toNat_inj, BitVec.toNat_ofNat, BitVec.toNat_ofNat, Nat.mod_eq_of_lt (by omega), Nat.mod_eq_of_lt (by omega)]
    rw [← this]
    show BitVec.ofBool (BitVec.ofNat 32 (j 0).val == BitVec.ofNat 32 r) = 1#1 ↔ _
    by_cases q : BitVec.ofNat 32 (j 0).val = BitVec.ofNat 32 r
    · rw [q, beq_self_eq_true]; simp
    · rw [beq_false_of_ne q]; simp [q]
  by_cases q : (j 0).val = r
  · rw [if_pos q, if_pos (e.2 q)]
  · rw [if_neg q, if_neg (fun w => q (e.1 w))]

/-- A tile's rows turned by `r`. -/
theorem Is.turn {r : ℕ} (hr : r < 256) {x : FVec Ideal S256x512 .f32} {f : S256x512.Idx → ℝ} (hx : Is x f)
    (h : S256x512.Rotates 0 none) :
    Is (dynamicRotate 0 (BitVec.ofNat 32 r) none x h)
      (fun j => f (ix2 ⟨((j 0).val + 256 - r) % 256, Nat.mod_lt _ (by omega)⟩ (j 1))) := fun j => by
  rw [dynamicRotate_apply 0 (BitVec.ofNat 32 r) x h j (ix2 ⟨((j 0).val + 256 - r) % 256, Nat.mod_lt _ (by omega)⟩ (j 1)), hx]
  intro a
  have e : (BitVec.ofNat 32 r).toNat % 256 = r := by
    rw [BitVec.toNat_ofNat, Nat.mod_eq_of_lt (by omega : r < 2 ^ 32), Nat.mod_eq_of_lt hr]
  match a with
  | ⟨0, _⟩ => show ((j 0).val + 256 - r) % 256 = ((j 0).val + 256 - (BitVec.ofNat 32 r).toNat % 256) % 256; rw [e]
  | ⟨1, _⟩ => rfl

theorem um_pos (A : Ins) {t : Fin 4096} {j : Fin 512} (h : 0 < t.val) : A.um t j = A.u ⟨t.val - 1, by omega⟩ j := dif_pos h
theorem um_neg (A : Ins) {t : Fin 4096} {j : Fin 512} (h : ¬ 0 < t.val) : A.um t j = 0 := dif_neg h
theorem up_pos (A : Ins) {t : Fin 4096} {j : Fin 512} (h : t.val + 1 < 4096) : A.up t j = A.u ⟨t.val + 1, h⟩ j := dif_pos h
theorem up_neg (A : Ins) {t : Fin 4096} {j : Fin 512} (h : ¬ t.val + 1 < 4096) : A.up t j = 0 := dif_neg h

/-! ## The tile's values -/

namespace Reads

variable {T : TileIn Ideal} {A : Ins} {b : Fin 16} (H : Reads T A b)

include H

theorem all512_o : Is (all512 T.o) fun j => A.o (rowAt b (j 0)) (j 1) := by
  rw [all512, View.ld_unit_zero (by decide)]; exact H.o
theorem all512_gb : Is (all512 T.gb) fun j => A.gb (rowAt b (j 0)) (j 1) := by
  rw [all512, View.ld_unit_zero (by decide)]; exact H.gb
theorem all512_gc : Is (all512 T.gc) fun j => A.gc (rowAt b (j 0)) (j 1) := by
  rw [all512, View.ld_unit_zero (by decide)]; exact H.gc
theorem all512_xi : Is (all512 T.xi) fun j => A.xi (rowAt b (j 0)) (j 1) := by
  rw [all512, View.ld_unit_zero (by decide)]; exact H.xi
theorem all1024_x : Is (all1024 T.x) fun j => A.x (rowAt b (j 0)) (j 1) := by
  rw [all1024, View.ld_unit_zero (by decide)]; exact H.x
theorem all1024_tgt : Is (all1024 T.tgt) fun j => A.tgt (rowAt b (j 0)) (j 1) := by
  rw [all1024, View.ld_unit_zero (by decide)]; exact H.tgt
theorem allGain_gf : Is (allGain T.gf) fun j => A.gf (j 1) := by
  rw [allGain, View.ld_unit_zero (by decide)]; exact H.gf

theorem woA : Is T.woA fun j => A.wo ⟨(j 0).val, by have : (j 0).val < 512 := (j 0).isLt; omega⟩ (j 1) :=
  Is.loadB H.wo ![0, 0] S512x1024.size _ (fun j => ix2 ⟨(j 0).val, by have : (j 0).val < 512 := (j 0).isLt; omega⟩ (j 1))
    fun j a => by match a with
      | ⟨0, _⟩ => exact (Nat.zero_add _).symm
      | ⟨1, _⟩ => exact (Nat.zero_add _).symm
theorem woB : Is T.woB fun j => A.wo ⟨512 + (j 0).val, by have : (j 0).val < 512 := (j 0).isLt; omega⟩ (j 1) :=
  Is.loadB H.wo ![512, 0] S512x1024.size _ (fun j => ix2 ⟨512 + (j 0).val, by have : (j 0).val < 512 := (j 0).isLt; omega⟩ (j 1))
    fun j a => by match a with
      | ⟨0, _⟩ => rfl
      | ⟨1, _⟩ => exact (Nat.zero_add _).symm

theorem w1s (s : Fin 4) (inb) : Is (View.ld T.w1 (Rect.unit (s := S4x1024x1024) ![s.val, 0, 0] S1x1024x1024.size inb))
    fun j => A.w1 (j 1) (colAt s (j 2)) :=
  Is.loadB H.w1 ![s.val, 0, 0] S1x1024x1024.size inb (fun j => ix3 s (j 1) (j 2))
    fun j a => by match a with
      | ⟨0, _⟩ => have : (j 0).val < 1 := (j 0).isLt; show s.val = s.val + (j 0).val; omega
      | ⟨1, _⟩ => exact (Nat.zero_add _).symm
      | ⟨2, _⟩ => exact (Nat.zero_add _).symm

/-- A shard of the first matrix, as the body uses it. -/
theorem w1m (s : Fin 4) (inb) (h : S1x1024x1024.ShapeCasts S1024x1024) :
    Is (shapeCast S1024x1024 (View.ld T.w1 (Rect.unit (s := S4x1024x1024) ![s.val, 0, 0] S1x1024x1024.size inb)) h)
      fun j => A.w1 (j 0) (colAt s (j 1)) :=
  Is.dropUnit (H.w1s s inb) h

theorem w2s (s : Fin 4) (inb) : Is (View.ld T.w2 (Rect.unit (s := S4096x1024) ![1024 * s.val, 0] S1024x1024.size inb))
    fun j : S1024x1024.Idx => A.w2 (colAt s (j 0)) (j 1) :=
  Is.loadB H.w2 ![1024 * s.val, 0] S1024x1024.size inb (fun j : S1024x1024.Idx => ix2 (colAt s (j 0)) (j 1))
    fun j a => by match a with
      | ⟨0, _⟩ => rfl
      | ⟨1, _⟩ => exact (Nat.zero_add _).symm

theorem u : Is T.u fun j => A.u (rowAt b (j 0)) (j 1) := H.all512_gc.mul H.all512_xi

theorem uNext : Is T.uNext fun j => if h : b.val < 15 then A.u ⟨256 * b.val + 256, by omega⟩ (j 1) else 0 := by
  refine Is.congr (f := fun j => if b.val < 15 then (if h : b.val < 15 then A.u ⟨256 * b.val + 256, by omega⟩ (j 1) else 0) else 0)
    (Is.keep (p := b.val < 15) ?_ fun h => ?_) fun j => ?_
  · rw [H.i]; exact before_last b
  · refine Is.congr (f := fun j => A.gc ⟨256 * b.val + 256, by omega⟩ (j 1) * A.xi ⟨256 * b.val + 256, by omega⟩ (j 1))
      (Is.mul (fun j => ?_) (fun j => ?_)) fun j => by rw [dif_pos h]; rfl
    · exact (ld_at T.gcn ![0, 0] S1x512.size _ j (ix2 0 (j 1)) fun a => by
        match a with
        | ⟨0, _⟩ => have : (j 0).val < 1 := (j 0).isLt; show 0 = 0 + (j 0).val; omega
        | ⟨1, _⟩ => exact (Nat.zero_add _).symm).trans (H.gcn h (j 1))
    · exact (ld_at T.xin ![0, 0] S1x512.size _ j (ix2 0 (j 1)) fun a => by
        match a with
        | ⟨0, _⟩ => have : (j 0).val < 1 := (j 0).isLt; show 0 = 0 + (j 0).val; omega
        | ⟨1, _⟩ => exact (Nat.zero_add _).symm).trans (H.xin h (j 1))
  · by_cases h : b.val < 15 <;> simp [h]

/-- The row before the tile. -/
theorem before : Is (Scalar.select (Scalar.cmpi .sgt (BitVec.ofNat 32 (T.i 0).val) 0#32)
      (mulf (F := Ideal) (s := S1x512) (φ := .f32) (View.ld T.gcp (Rect.unit (s := S8x512) ![7, 0] S1x512.size inb_S8x512_S1x512_7_0))
        (View.ld T.xip (Rect.unit (s := S8x512) ![7, 0] S1x512.size inb_S8x512_S1x512_7_0)))
      (broadcast S1x512 (Scalar.ofBits .f32 0x00000000#32 : Ideal .f32)))
    fun j => if h : 0 < b.val then A.u ⟨256 * b.val - 1, by omega⟩ (j 1) else 0 := by
  refine Is.congr (f := fun j => if 0 < b.val then (if h : 0 < b.val then A.u ⟨256 * b.val - 1, by omega⟩ (j 1) else 0) else 0)
    (Is.keep (p := 0 < b.val) ?_ fun h => ?_) fun j => ?_
  · rw [H.i]; exact after_first b
  · refine Is.congr (f := fun j => A.gc ⟨256 * b.val - 1, by omega⟩ (j 1) * A.xi ⟨256 * b.val - 1, by omega⟩ (j 1))
      (Is.mul (fun j => ?_) (fun j => ?_)) fun j => by rw [dif_pos h]; rfl
    · exact (ld_at T.gcp ![7, 0] S1x512.size _ j (ix2 7 (j 1)) fun a => by
        match a with
        | ⟨0, _⟩ => have : (j 0).val < 1 := (j 0).isLt; show 7 = 7 + (j 0).val; omega
        | ⟨1, _⟩ => exact (Nat.zero_add _).symm).trans (H.gcp h (j 1))
    · exact (ld_at T.xip ![7, 0] S1x512.size _ j (ix2 7 (j 1)) fun a => by
        match a with
        | ⟨0, _⟩ => have : (j 0).val < 1 := (j 0).isLt; show 7 = 7 + (j 0).val; omega
        | ⟨1, _⟩ => exact (Nat.zero_add _).symm).trans (H.xip h (j 1))
  · by_cases h : 0 < b.val <;> simp [h]

theorem uPrev : Is T.uPrev fun j => A.um (rowAt b (j 0)) (j 1) := by
  refine Is.congr (Is.put (r := 0) (by norm_num) (Is.row (Is.same H.before _) _) (Is.turn (r := 1) (by norm_num) H.u _) _) fun j => ?_
  have h0 : (j 0).val < 256 := (j 0).isLt
  show _ = A.um (rowAt b (j 0)) (j 1)
  by_cases h : (j 0).val = 0
  · rw [if_pos h]
    by_cases hb : 0 < b.val
    · rw [dif_pos hb]; refine Eq.trans ?_ (um_pos A (show 0 < (rowAt b (j 0)).val from by show 0 < 256 * b.val + (j 0).val; omega)).symm
      exact congrArg (fun t => A.u t (j 1)) (Fin.ext (by show 256 * b.val - 1 = 256 * b.val + (j 0).val - 1; omega))
    · rw [dif_neg hb]; exact (um_neg A (show ¬ 0 < (rowAt b (j 0)).val from by show ¬ 0 < 256 * b.val + (j 0).val; omega)).symm
  · rw [if_neg h]; refine Eq.trans ?_ (um_pos A (show 0 < (rowAt b (j 0)).val from by show 0 < 256 * b.val + (j 0).val; omega)).symm
    exact congrArg (fun t => A.u t (j 1)) (Fin.ext (by
      show 256 * b.val + ((j 0).val + 256 - 1) % 256 = 256 * b.val + (j 0).val - 1
      omega))

/-- The convolution's input moved up by one row. -/
theorem after : Is (select (cmpi .eq TileIn.rows (broadcast S256x512 255#32))
      (broadcastTo S256x512 (shapeCast S1x512 T.uNext shapeCasts_S1x512_S1x512) broadcasts_S1x512_S256x512)
      (dynamicRotate 0 255#32 none T.u rotates_S256x512_d0))
    fun j => A.up (rowAt b (j 0)) (j 1) := by
  refine Is.congr (Is.put (r := 255) (by norm_num) (Is.row (Is.same H.uNext _) _) (Is.turn (r := 255) (by norm_num) H.u _) _) fun j => ?_
  have h0 : (j 0).val < 256 := (j 0).isLt
  have hb := b.isLt
  show _ = A.up (rowAt b (j 0)) (j 1)
  by_cases h : (j 0).val = 255
  · rw [if_pos h]
    by_cases hb : b.val < 15
    · rw [dif_pos hb]; refine Eq.trans ?_ (up_pos A (show (rowAt b (j 0)).val + 1 < 4096 from by show 256 * b.val + (j 0).val + 1 < 4096; omega)).symm
      exact congrArg (fun t => A.u t (j 1)) (Fin.ext (by show 256 * b.val + 256 = 256 * b.val + (j 0).val + 1; omega))
    · rw [dif_neg hb]; exact (up_neg A (show ¬ (rowAt b (j 0)).val + 1 < 4096 from by show ¬ 256 * b.val + (j 0).val + 1 < 4096; omega)).symm
  · rw [if_neg h]; refine Eq.trans ?_ (up_pos A (show (rowAt b (j 0)).val + 1 < 4096 from by show 256 * b.val + (j 0).val + 1 < 4096; omega)).symm
    exact congrArg (fun t => A.u t (j 1)) (Fin.ext (by
      show 256 * b.val + ((j 0).val + 256 - 255) % 256 = 256 * b.val + (j 0).val + 1
      omega))

theorem yv : Is T.yv fun j => A.yv (rowAt b (j 0)) (j 1) :=
  (((H.cw0.row _).mul H.uPrev).add ((H.cw1.row _).mul H.u)).add ((H.cw2.row _).mul H.after)

theorem conv : Is T.conv fun j => A.conv (rowAt b (j 0)) (j 1) := (H.all512_gb.mul H.yv).trunc _

theorem y1 : Is T.y1 fun j => A.y1 (rowAt b (j 0)) (j 1) := (dot_half H.all512_o H.woA).add (dot_half H.conv H.woB)

theorem x1 : Is T.x1 fun j => A.x1 (rowAt b (j 0)) (j 1) := H.all1024_x.add ((H.g1.row _).mul H.y1)

theorem ms2 : Is T.ms2 fun j => (∑ d, A.x1 (rowAt b (j 0)) d * A.x1 (rowAt b (j 0)) d) / 1024 :=
  (((H.x1.mul H.x1).sumRow _ _ _ _).asCol _).div (Is.splat Is.word_1024) fun _ => by norm_num

theorem r2 : Is T.r2 fun j => A.r2 (rowAt b (j 0)) :=
  (H.ms2.add (Is.splat Is.word_eps)).rsqrt fun j => A.m2_pos (rowAt b (j 0))

theorem xn1 : Is T.xn1 fun j => A.xn1 (rowAt b (j 0)) (j 1) := H.x1.mul (H.r2.col _)

theorem h2 : Is T.h2 fun j => A.h2 (rowAt b (j 0)) (j 1) :=
  ((H.xn1.mul (((Is.splat Is.word_one).add H.sc2).row _)).add (H.sh2.row _)).trunc _

theorem a0 : Is T.a0 fun j => A.ra (rowAt b (j 0)) (colAt 0 (j 1)) :=
  (dot_full H.h2 (H.w1m 0 _ _)).max (Is.splat Is.word_zero)
theorem a1 : Is T.a1 fun j => A.ra (rowAt b (j 0)) (colAt 1 (j 1)) :=
  (dot_full H.h2 (H.w1m 1 _ _)).max (Is.splat Is.word_zero)
theorem a2 : Is T.a2 fun j => A.ra (rowAt b (j 0)) (colAt 2 (j 1)) :=
  (dot_full H.h2 (H.w1m 2 _ _)).max (Is.splat Is.word_zero)
theorem a3 : Is T.a3 fun j => A.ra (rowAt b (j 0)) (colAt 3 (j 1)) :=
  (dot_full H.h2 (H.w1m 3 _ _)).max (Is.splat Is.word_zero)

theorem k0 : Is T.k0 fun j => A.ra (rowAt b (j 1)) (colAt 0 (j 2)) := H.a0.addUnit _
theorem k1 : Is T.k1 fun j => A.ra (rowAt b (j 1)) (colAt 1 (j 2)) := H.a1.addUnit _
theorem k2 : Is T.k2 fun j => A.ra (rowAt b (j 1)) (colAt 2 (j 2)) := H.a2.addUnit _
theorem k3 : Is T.k3 fun j => A.ra (rowAt b (j 1)) (colAt 3 (j 2)) := H.a3.addUnit _

theorem q0 : Is T.q0 fun j => A.r (rowAt b (j 0)) (colAt 0 (j 1)) := (H.a0.mul H.a0).trunc _
theorem q1 : Is T.q1 fun j => A.r (rowAt b (j 0)) (colAt 1 (j 1)) := (H.a1.mul H.a1).trunc _
theorem q2 : Is T.q2 fun j => A.r (rowAt b (j 0)) (colAt 2 (j 1)) := (H.a2.mul H.a2).trunc _
theorem q3 : Is T.q3 fun j => A.r (rowAt b (j 0)) (colAt 3 (j 1)) := (H.a3.mul H.a3).trunc _

theorem y2a : Is T.y2a fun j => 0 + ∑ f, A.r (rowAt b (j 0)) (colAt 0 f) * A.w2 (colAt 0 f) (j 1) :=
  (Is.splat Is.word_zero).add (dot_full H.q0 (H.w2s 0 _))

theorem y2c : Is T.y2c fun j => 0 + ∑ f, A.r (rowAt b (j 0)) (colAt 0 f) * A.w2 (colAt 0 f) (j 1)
      + ∑ f, A.r (rowAt b (j 0)) (colAt 1 f) * A.w2 (colAt 1 f) (j 1)
      + ∑ f, A.r (rowAt b (j 0)) (colAt 2 f) * A.w2 (colAt 2 f) (j 1) :=
  (H.y2a.add (dot_full H.q1 (H.w2s 1 _))).add (dot_full H.q2 (H.w2s 2 _))

theorem y2 : Is T.y2 fun j => A.y2 (rowAt b (j 0)) (j 1) :=
  (H.y2c.add (dot_full H.q3 (H.w2s 3 _))).congr fun j =>
    (sum_four fun f => A.r (rowAt b (j 0)) f * A.w2 f (j 1)).symm

end Reads

end Cert.Mlp

end
-- ==== Proof.TileBack.lean ====
/-
  One tile of the kernel over the real numbers, backwards: the loss and the gradients of everything the tile computes
  forwards, and the six rows of sums it adds to.
-/
module

public import proofs.«01_k».proof.Proof.TileFwd

@[expose] public section

set_option maxRecDepth 16384

noncomputable section

namespace Cert.Mlp

open Idealize.ShloMosaic Cert.KernelIdeal Cert.KernelIdeal.Gen

namespace Reads

variable {T : TileIn Ideal} {A : Ins} {b : Fin 16} (H : Reads T A b)

include H

/-! ## The final norm and the loss -/

theorem x2 : Is (k0_pay30 T.g2 T.x1 T.y2c T.a3 T.w2s3) fun j => A.x2 (rowAt b (j 0)) (j 1) :=
  H.x1.add ((H.g2.row _).mul H.y2)

theorem r3 : Is T.r3 fun j => A.r3 (rowAt b (j 0)) :=
  (((((H.x2.mul H.x2).sumRow _ _ _ _).asCol _).div (Is.splat Is.word_1024) fun _ => by norm_num).add
    (Is.splat Is.word_eps)).rsqrt fun j => A.m3_pos (rowAt b (j 0))

theorem xn3 : Is T.xn3 fun j => A.xn3 (rowAt b (j 0)) (j 1) := H.x2.mul (H.r3.col _)

theorem diff : Is (k0_pay33 T.g2 T.x1 T.y2c T.a3 T.w2s3 (allGain T.gf) (all1024 T.tgt)) fun j => A.diff (rowAt b (j 0)) (j 1) :=
  (H.xn3.mul (H.allGain_gf.row _)).sub H.all1024_tgt

theorem lossT : Is T.lossT fun _ => ∑ r, A.part 4 (rowAt b r) 0 :=
  (((Is.splat Is.word_half).mul (((((H.diff.mul H.diff).sumRow _ _ _ _).asCol _).sumCol _ _ _ _).asCol _)).mul
    (Is.splat Is.word_inv1024)).congr fun _ => by
    show (1 / 2 : ℝ) * (∑ r : Fin 256, ∑ c : Fin 1024, A.diff (rowAt b r) c * A.diff (rowAt b r) c) * (1 / 1024)
      = ∑ r : Fin 256, (1 / 2) * ((∑ c : Fin 1024, A.diff (rowAt b r) c * A.diff (rowAt b r) c) / 1024)
    rw [← Finset.mul_sum, ← Finset.sum_div]
    ring

theorem dy : Is T.dy fun j => A.dy (rowAt b (j 0)) (j 1) :=
  (H.diff.mul (Is.splat Is.word_inv1024)).congr fun _ => mul_one_div _ _

theorem dxn3 : Is T.dxn3 fun j => A.dxn3 (rowAt b (j 0)) (j 1) := H.dy.mul (H.allGain_gf.row _)

theorem dxn3x : Is T.dxn3x fun j => A.dxn3 (rowAt b (j 0)) (j 1) * A.xn3 (rowAt b (j 0)) (j 1) := H.dxn3.mul H.xn3

theorem dx2 : Is T.dx2 fun j => A.dx2 (rowAt b (j 0)) (j 1) :=
  (H.r3.col _).mul (H.dxn3.sub (H.xn3.mul
    ((((H.dxn3x.sumRow _ _ _ _).asCol _).div (Is.splat Is.word_1024) fun _ => by norm_num).col _)))

/-! ## The MLP -/

theorem dy2 : Is T.dy2 fun j => A.dy2 (rowAt b (j 0)) (j 1) := (H.dx2.mul (H.g2.row _)).trunc _

theorem da0 : Is T.da0 fun j => A.da (rowAt b (j 0)) (colAt 0 (j 1)) :=
  (((Is.splat Is.word_two).mul (H.k0.dropUnit _)).mul (dot_back H.dy2 (H.w2s 0 _))).trunc _
theorem dq1 : Is T.dq1 fun j => A.dr (rowAt b (j 0)) (colAt 1 (j 1)) := dot_back H.dy2 (H.w2s 1 _)
theorem tw1 : Is T.tw1 fun j => 2 * A.ra (rowAt b (j 0)) (colAt 1 (j 1)) := (Is.splat Is.word_two).mul (H.k1.dropUnit _)
theorem da1 : Is T.da1 fun j => A.da (rowAt b (j 0)) (colAt 1 (j 1)) := (H.tw1.mul H.dq1).trunc _
theorem da2 : Is T.da2 fun j => A.da (rowAt b (j 0)) (colAt 2 (j 1)) :=
  (((Is.splat Is.word_two).mul (H.k2.dropUnit _)).mul (dot_back H.dy2 (H.w2s 2 _))).trunc _
theorem da3 : Is T.da3 fun j => A.da (rowAt b (j 0)) (colAt 3 (j 1)) :=
  (((Is.splat Is.word_two).mul (H.k3.dropUnit _)).mul (dot_back H.dy2 (H.w2s 3 _))).trunc _

theorem dh2a : Is T.dh2a fun j => 0 + ∑ f, A.da (rowAt b (j 0)) (colAt 0 f) * A.w1 (j 1) (colAt 0 f) :=
  (Is.splat Is.word_zero).add (dot_back H.da0 (H.w1m 0 _ _))

theorem dh2c : Is T.dh2c fun j => 0 + ∑ f, A.da (rowAt b (j 0)) (colAt 0 f) * A.w1 (j 1) (colAt 0 f)
      + ∑ f, A.da (rowAt b (j 0)) (colAt 1 f) * A.w1 (j 1) (colAt 1 f)
      + ∑ f, A.da (rowAt b (j 0)) (colAt 2 f) * A.w1 (j 1) (colAt 2 f) :=
  (H.dh2a.add (dot_back H.da1 (H.w1m 1 _ _))).add (dot_back H.da2 (H.w1m 2 _ _))

theorem dh2 : Is T.dh2 fun j => A.dh2 (rowAt b (j 0)) (j 1) :=
  (H.dh2c.add (dot_back H.da3 (H.w1m 3 _ _))).congr fun j =>
    (sum_four fun f => A.da (rowAt b (j 0)) f * A.w1 (j 1) f).symm

/-! ## The adaptive norm and the mixer's output -/

theorem dxn1 : Is (mulf T.dh2 (broadcastTo S256x1024 (addf (broadcast S1x1024 (Scalar.ofBits .f32 0x3F800000#32)) T.sc2)
      broadcasts_S1x1024_S256x1024)) fun j => A.dxn1 (rowAt b (j 0)) (j 1) :=
  H.dh2.mul (((Is.splat Is.word_one).add H.sc2).row _)

theorem dx1 : Is T.dx1 fun j => A.dx1 (rowAt b (j 0)) (j 1) :=
  H.dx2.add ((H.r2.col _).mul (H.dxn1.sub (H.xn1.mul
    (((((H.dxn1.mul H.xn1).sumRow _ _ _ _).asCol _).div (Is.splat Is.word_1024) fun _ => by norm_num).col _))))

theorem dy1 : Is T.dy1 fun j => A.dy1 (rowAt b (j 0)) (j 1) := (H.dx1.mul (H.g1.row _)).trunc _

theorem dO : Is T.dO fun j => A.dO (rowAt b (j 0)) (j 1) := (dot_backHalf H.dy1 H.woA).trunc _

theorem dconv : Is (k0_pay52 T.g1 T.sc2 T.r2 T.xn1 T.dx2 T.dh2c T.da3 T.w1s3 T.woB) fun j => A.dconv (rowAt b (j 0)) (j 1) :=
  dot_backHalf H.dy1 H.woB

theorem dgb : Is T.dgb fun j => A.dgb (rowAt b (j 0)) (j 1) := H.dconv.mul H.yv

theorem dyv : Is T.dyv fun j => A.dyv (rowAt b (j 0)) (j 1) := H.dconv.mul H.all512_gb

end Reads

end Cert.Mlp

end
-- ==== Proof.TileOut.lean ====
/-
  One tile of the kernel over the real numbers: the blocks written piece by piece. The four column pieces of the
  squares and of the hidden layer's gradient are one block, and the six rows laid over the accumulator add the tile's
  tokens to it.
-/
module

public import proofs.«01_k».proof.Proof.TileBack
public import proofs.«01_k».proof.Proof.Pieces

@[expose] public section

set_option maxRecDepth 16384

noncomputable section

namespace Cert.Mlp

open Idealize.ShloMosaic Cert.KernelIdeal Cert.KernelIdeal.Gen

/-- Pieces that all agree with one function, laid over contents that agree with it elsewhere. -/
theorem layered_apply {s : Shape} {e : EltTy} (d : Vec Ideal s e) (G : s.Idx → Elt Ideal e) (y : s.Idx) :
    ∀ (L : List (View.Piece (Elt Ideal) s e)) (_ : ∀ p ∈ L, ∀ x : p.1.shape.Idx, p.2 x = G (p.1.emb x))
      (_ : (∀ p ∈ L, y ∉ p.1.set) → d y = G y), layered d L y = G y
  | [], _, h => h fun _ hp => absurd hp List.not_mem_nil
  | p :: L, hL, h => by
    show p.1.overlay (layered d L) p.2 y = G y
    by_cases hm : y ∈ p.1.set
    · obtain ⟨x, rfl⟩ := p.1.exists_idx_of_mem hm
      rw [show p.1.idx x = p.1.emb x from rfl, Rect.overlay_emb]
      exact hL p List.mem_cons_self x
    · rw [Rect.overlay_of_not_mem _ _ _ hm]
      refine layered_apply d G y L (fun q hq => hL q (List.mem_cons_of_mem _ hq)) fun hn => h fun q hq => ?_
      rcases List.mem_cons.mp hq with rfl | hq'
      · exact hm
      · exact hn q hq'

namespace Reads

variable {T : TileIn Ideal} {A : Ins} {b : Fin 16} (H : Reads T A b)

/-- A column piece of a block of 4096 columns holds its columns. -/
theorem colPiece {v : Vec Ideal S256x1024 .bf16} {f : Fin 256 → Fin 4096 → ℝ} (s : Fin 4) (hv : Is v fun j => f (j 0) (colAt s (j 1)))
    (inb : ∀ a, (![0, 1024 * s.val] : Fin 2 → ℕ) a + S256x1024.size a ≤ S256x4096.size a) (x : S256x1024.Idx) :
    v x = ((f ((Rect.unit (s := S256x4096) ![0, 1024 * s.val] S256x1024.size inb).emb x 0)
      ((Rect.unit (s := S256x4096) ![0, 1024 * s.val] S256x1024.size inb).emb x 1) : ℝ) : EReal) := by
  rw [hv x]
  refine congrArg _ (congrArg₂ f (Fin.ext ?_) (Fin.ext ?_))
  · show (x 0).val = 0 + 1 * (x 0).val; omega
  · show 1024 * s.val + (x 1).val = 1024 * s.val + 1 * (x 1).val; omega

include H

theorem act : Is T.act fun j => A.r (rowAt b (j 0)) (j 1) := fun y => by
  refine View.canon_apply_of_pieces (S := S256x4096) (e := .bf16) (fun j => (((A.r (rowAt b (j 0)) (j 1) : ℝ) : EReal) : Elt Ideal .bf16)) T.qPieces (fun p hp => ?_) y (cover_qPieces T y)
  · rcases List.mem_cons.mp hp with rfl | hp
    · exact colPiece (f := fun i k => A.r (rowAt b i) k) 3 H.q3 inb_S256x4096_S256x1024_0_3072
    rcases List.mem_cons.mp hp with rfl | hp
    · exact colPiece (f := fun i k => A.r (rowAt b i) k) 2 H.q2 inb_S256x4096_S256x1024_0_2048
    rcases List.mem_cons.mp hp with rfl | hp
    · exact colPiece (f := fun i k => A.r (rowAt b i) k) 1 H.q1 inb_S256x4096_S256x1024_0_1024
    rcases List.mem_cons.mp hp with rfl | hp
    · exact colPiece (f := fun i k => A.r (rowAt b i) k) 0 H.q0 inb_S256x4096_S256x1024_0_0
    exact absurd hp List.not_mem_nil

theorem da : Is T.da fun j => A.da (rowAt b (j 0)) (j 1) := fun y => by
  refine View.canon_apply_of_pieces (S := S256x4096) (e := .bf16) (fun j => (((A.da (rowAt b (j 0)) (j 1) : ℝ) : EReal) : Elt Ideal .bf16)) T.daPieces (fun p hp => ?_) y (cover_daPieces T y)
  · rcases List.mem_cons.mp hp with rfl | hp
    · exact colPiece (f := fun i k => A.da (rowAt b i) k) 3 H.da3 inb_S256x4096_S256x1024_0_3072
    rcases List.mem_cons.mp hp with rfl | hp
    · exact colPiece (f := fun i k => A.da (rowAt b i) k) 2 H.da2 inb_S256x4096_S256x1024_0_2048
    rcases List.mem_cons.mp hp with rfl | hp
    · exact colPiece (f := fun i k => A.da (rowAt b i) k) 1 H.da1 inb_S256x4096_S256x1024_0_1024
    rcases List.mem_cons.mp hp with rfl | hp
    · exact colPiece (f := fun i k => A.da (rowAt b i) k) 0 H.da0 inb_S256x4096_S256x1024_0_0
    exact absurd hp List.not_mem_nil

/-! ## The accumulator -/

variable {d : Vec Ideal S8x1024 .f32} {f : S8x1024.Idx → ℝ} (hd : Is d f)

omit H in
include hd in
/-- A row of the accumulator. -/
theorem accRow (k : Fin 8) (inb) : Is (View.ld (Val := Elt Ideal) (e' := .f32) d
    (Rect.unit (s := S8x1024) ![k.val, 0] S1x1024.size inb)) fun j : S1x1024.Idx => f (ix2 k (j 1)) :=
  Is.load hd ![k.val, 0] S1x1024.size inb (fun j : S1x1024.Idx => ix2 k (j 1)) fun j a => by
    match a with
    | ⟨0, _⟩ => have : (j 0).val < 1 := (j 0).isLt; show k.val = k.val + (j 0).val; omega
    | ⟨1, _⟩ => exact (Nat.zero_add _).symm

include hd

theorem accGain : Is (T.accGain d) fun j => f (ix2 0 (j 1)) + ∑ r, A.part 0 (rowAt b r) (j 1) :=
  (Is.same (accRow hd 0 _) _).add (((H.dy.mul H.xn3).sumCol _ _ _ _).asRow _)
theorem accG2 : Is (T.accG2 d) fun j => f (ix2 1 (j 1)) + ∑ r, A.part 1 (rowAt b r) (j 1) :=
  (Is.same (accRow hd 1 _) _).add (((H.dx2.mul H.y2).sumCol _ _ _ _).asRow _)
theorem accSh2 : Is (T.accSh2 d) fun j => f (ix2 2 (j 1)) + ∑ r, A.part 2 (rowAt b r) (j 1) :=
  (Is.same (accRow hd 2 _) _).add ((H.dh2.sumCol _ _ _ _).asRow _)
theorem accSc2 : Is (T.accSc2 d) fun j => f (ix2 3 (j 1)) + ∑ r, A.part 3 (rowAt b r) (j 1) :=
  (Is.same (accRow hd 3 _) _).add (((H.dh2.mul H.xn1).sumCol 0x00000000#32 reduces_S256x1024_S1024 (.inl rfl) rfl).asRow _)
theorem accLoss : Is (T.accLoss d) fun j => f (ix2 4 (j 1)) + ∑ r, A.part 4 (rowAt b r) (j 1) :=
  (Is.same (accRow hd 4 _) _).add ((H.lossT.same _).one _)
theorem accG1 : Is (T.accG1 d) fun j => f (ix2 5 (j 1)) + ∑ r, A.part 5 (rowAt b r) (j 1) :=
  (Is.same (accRow hd 5 _) _).add (((H.dx1.mul H.y1).sumCol _ _ _ _).asRow _)

omit H hd in
/-- A row piece of the accumulator holds its row. -/
theorem rowPiece {v : Vec Ideal S1x1024 .f32} {g : Fin 8 → Fin 1024 → ℝ} (k : Fin 8) (hv : Is v fun j => g k (j 1))
    (inb : ∀ a, (![k.val, 0] : Fin 2 → ℕ) a + S1x1024.size a ≤ S8x1024.size a) (x : S1x1024.Idx) :
    v x = ((g ((Rect.unit (s := S8x1024) ![k.val, 0] S1x1024.size inb).emb x 0)
      ((Rect.unit (s := S8x1024) ![k.val, 0] S1x1024.size inb).emb x 1) : ℝ) : EReal) := by
  rw [hv x]
  have : (x 0).val < 1 := (x 0).isLt
  refine congrArg _ (congrArg₂ g (Fin.ext ?_) (Fin.ext ?_))
  · show k.val = k.val + 1 * (x 0).val; omega
  · show (x 1).val = 0 + 1 * (x 1).val; omega

omit H hd in
theorem mem_rowPiece (y : S8x1024.Idx) (k : ℕ) (inb : ∀ a, (![k, 0] : Fin 2 → ℕ) a + S1x1024.size a ≤ S8x1024.size a)
    (h : (y 0).val = k) : y ∈ (Rect.unit (s := S8x1024) ![k, 0] S1x1024.size inb).set :=
  Rect.mem_set_unit.2 fun a => by
    match a with
    | ⟨0, _⟩ => show k ≤ (y 0).val ∧ (y 0).val < k + 1; omega
    | ⟨1, _⟩ => have : (y 1).val < 1024 := (y 1).isLt; show 0 ≤ (y 1).val ∧ (y 1).val < 0 + 1024; omega

/-- The six rows laid over the accumulator. -/
theorem accLayered : Is (layered d (T.accPieces d)) fun j => f j + ∑ r, A.part (j 0) (rowAt b r) (j 1) := fun y => by
  have e : ∀ j : S8x1024.Idx, f j = f (ix2 (j 0) (j 1)) := fun j => congrArg f (eq_ix2 j)
  refine (layered_apply d (fun j => ((f (ix2 (j 0) (j 1)) + ∑ r, A.part (j 0) (rowAt b r) (j 1) : ℝ) : EReal)) y (T.accPieces d)
    (fun p hp => ?_) fun hn => ?_).trans (by rw [← e])
  · rcases List.mem_cons.mp hp with rfl | hp
    · exact rowPiece (g := fun k c => f (ix2 k c) + ∑ r, A.part k (rowAt b r) c) 4 (H.accLoss hd) inb_S8x1024_S1x1024_4_0
    rcases List.mem_cons.mp hp with rfl | hp
    · exact rowPiece (g := fun k c => f (ix2 k c) + ∑ r, A.part k (rowAt b r) c) 3 (H.accSc2 hd) inb_S8x1024_S1x1024_3_0
    rcases List.mem_cons.mp hp with rfl | hp
    · exact rowPiece (g := fun k c => f (ix2 k c) + ∑ r, A.part k (rowAt b r) c) 2 (H.accSh2 hd) inb_S8x1024_S1x1024_2_0
    rcases List.mem_cons.mp hp with rfl | hp
    · exact rowPiece (g := fun k c => f (ix2 k c) + ∑ r, A.part k (rowAt b r) c) 1 (H.accG2 hd) inb_S8x1024_S1x1024_1_0
    rcases List.mem_cons.mp hp with rfl | hp
    · exact rowPiece (g := fun k c => f (ix2 k c) + ∑ r, A.part k (rowAt b r) c) 0 (H.accGain hd) inb_S8x1024_S1x1024_0_0
    rcases List.mem_cons.mp hp with rfl | hp
    · exact rowPiece (g := fun k c => f (ix2 k c) + ∑ r, A.part k (rowAt b r) c) 5 (H.accG1 hd) inb_S8x1024_S1x1024_5_0
    exact absurd hp List.not_mem_nil
  · unfold TileIn.accPieces at hn
    rw [List.forall_mem_cons, List.forall_mem_cons, List.forall_mem_cons, List.forall_mem_cons, List.forall_mem_cons,
      List.forall_mem_cons] at hn
    have hz : ∀ r, A.part (y 0) (rowAt b r) (y 1) = 0 := fun r => by
      have h8 : (y 0).val < 8 := (y 0).isLt
      have h : (y 0).val = 0 ∨ (y 0).val = 1 ∨ (y 0).val = 2 ∨ (y 0).val = 3 ∨ (y 0).val = 4 ∨ (y 0).val = 5
          ∨ (y 0).val = 6 ∨ (y 0).val = 7 := by omega
      rcases h with h | h | h | h | h | h | h | h
      · exact absurd (mem_rowPiece y 0 inb_S8x1024_S1x1024_0_0 h) (hn.2.2.2.2.1)
      · exact absurd (mem_rowPiece y 1 inb_S8x1024_S1x1024_1_0 h) (hn.2.2.2.1)
      · exact absurd (mem_rowPiece y 2 inb_S8x1024_S1x1024_2_0 h) (hn.2.2.1)
      · exact absurd (mem_rowPiece y 3 inb_S8x1024_S1x1024_3_0 h) (hn.2.1)
      · exact absurd (mem_rowPiece y 4 inb_S8x1024_S1x1024_4_0 h) (hn.1)
      · exact absurd (mem_rowPiece y 5 inb_S8x1024_S1x1024_5_0 h) (hn.2.2.2.2.2.1)
      · exact congrArg (fun k : Fin 8 => A.part k (rowAt b r) (y 1)) (Fin.ext h : y 0 = (⟨6, by decide⟩ : Fin 8))
      · exact congrArg (fun k : Fin 8 => A.part k (rowAt b r) (y 1)) (Fin.ext h : y 0 = (⟨7, by decide⟩ : Fin 8))
    show d y = ((f (ix2 (y 0) (y 1)) + ∑ r, A.part (y 0) (rowAt b r) (y 1) : ℝ) : EReal)
    rw [Finset.sum_eq_zero fun r _ => hz r, add_zero, ← e, hd y]

/-- The accumulator after the tile: the tile's tokens added to what it held, or to zeros at the first tile. -/
theorem acc : Is (T.acc d) fun j => (if b.val = 0 then 0 else f j) + ∑ r, A.part (j 0) (rowAt b r) (j 1) := by
  refine H.accLayered (d := T.acc0 d) ?_
  unfold TileIn.acc0
  rw [H.i]
  by_cases h : b.val = 0
  · simp only [if_pos h]; exact Is.splat Is.word_zero
  · simp only [if_neg h]; exact hd

end Reads

end Cert.Mlp

end
-- ==== Proof.Args.lean ====
/-
  The ten arguments as arrays of reals, and what the arrays of the step's dense half are in them.
-/
module

public import proofs.«01_k».proof.Proof.Reals

@[expose] public section

noncomputable section

namespace Cert.Mlp

open Idealize.ShloMosaic

/-- The indices of a matrix, and of a stack of matrices. -/
abbrev Mat (n k : ℕ) : Type := (⟨2, ![n, k]⟩ : Shape).Idx
abbrev Stack (s n k : ℕ) : Type := (⟨3, ![s, n, k]⟩ : Shape).Idx

/-- The ten arguments as arrays of reals. -/
structure Args where
  o : Mat 4096 512 → ℝ
  z : Mat 4352 2048 → ℝ
  x : Mat 4096 1024 → ℝ
  tgt : Mat 4096 1024 → ℝ
  md : Mat 8 1024 → ℝ
  gf : Mat 1 1024 → ℝ
  cw : Mat 8 512 → ℝ
  wo : Mat 1024 1024 → ℝ
  w1 : Stack 4 1024 1024 → ℝ
  w2 : Mat 4096 1024 → ℝ

/-- The arrays of the step's dense half, out of the arguments: three groups of columns of `z`, four rows of `md`, three
    rows of `cw`, and the first matrix of the MLP put together from its four shards. -/
def Args.ins (X : Args) : Ins where
  o t j := X.o (ix2 t j)
  gb t j := X.z (ix2 ⟨t.val, by omega⟩ ⟨512 + j.val, by omega⟩)
  gc t j := X.z (ix2 ⟨t.val, by omega⟩ ⟨1024 + j.val, by omega⟩)
  xi t j := X.z (ix2 ⟨t.val, by omega⟩ ⟨1536 + j.val, by omega⟩)
  x t d := X.x (ix2 t d)
  tgt t d := X.tgt (ix2 t d)
  g1 d := X.md (ix2 0 d)
  sh2 d := X.md (ix2 1 d)
  sc2 d := X.md (ix2 2 d)
  g2 d := X.md (ix2 3 d)
  gf d := X.gf (ix2 0 d)
  w k j := X.cw (ix2 ⟨k.val, by omega⟩ j)
  wo k d := X.wo (ix2 k d)
  w1 d f := X.w1 (ix3 ⟨f.val / 1024, by omega⟩ d ⟨f.val % 1024, by omega⟩)
  w2 f d := X.w2 (ix2 f d)

/-- The ten arrays hold the reals `X`. -/
structure Args.Are (X : Args) (a0 : Mat 4096 512 → EReal) (a1 : Mat 4352 2048 → EReal) (a2 a3 : Mat 4096 1024 → EReal)
    (a4 : Mat 8 1024 → EReal) (a5 : Mat 1 1024 → EReal) (a6 : Mat 8 512 → EReal) (a7 : Mat 1024 1024 → EReal)
    (a8 : Stack 4 1024 1024 → EReal) (a9 : Mat 4096 1024 → EReal) : Prop where
  o : Is a0 X.o
  z : Is a1 X.z
  x : Is a2 X.x
  tgt : Is a3 X.tgt
  md : Is a4 X.md
  gf : Is a5 X.gf
  cw : Is a6 X.cw
  wo : Is a7 X.wo
  w1 : Is a8 X.w1
  w2 : Is a9 X.w2

/-- A matrix of reals as an array of extended reals. -/
abbrev arr {n k : ℕ} (f : Fin n → Fin k → ℝ) : Mat n k → EReal := fun j => (f (j 0) (j 1) : EReal)

end Cert.Mlp

end
-- ==== Proof.Blocks.lean ====
/-
  From the arguments of the kernel to its tiles: the blocks grid point `t` reads hold the rows `256·t … 256·t + 255`
  of the arguments.
-/
module

public import proofs.«01_k».proof.Proof.Frame
public import proofs.«01_k».proof.Proof.TileOut
public import proofs.«01_k».proof.Proof.Args
public import Idealize.ShloMosaic.Lib.Pipeline.ValueKit.Geometry

@[expose] public section

set_option maxRecDepth 16384

noncomputable section

namespace Cert.Mlp

open Idealize.ShloMosaic Idealize.ShloMosaic.TcCoe Cert.KernelIdeal Cert.KernelIdeal.Gen

/-! ## Which block a window is at -/

theorem at_0 : ∀ t : Fin cfg0.N, win0_0.index t = ![t.val, 0] := (by decide +kernel : ∀ t : Fin grid0.N, win0_0.index t = ![t.val, 0])
theorem at_1 : ∀ t : Fin cfg0.N, win0_1.index t = ![t.val, 1] := (by decide +kernel : ∀ t : Fin grid0.N, win0_1.index t = ![t.val, 1])
theorem at_2 : ∀ t : Fin cfg0.N, win0_2.index t = ![t.val, 2] := (by decide +kernel : ∀ t : Fin grid0.N, win0_2.index t = ![t.val, 2])
theorem at_3 : ∀ t : Fin cfg0.N, win0_3.index t = ![t.val, 3] := (by decide +kernel : ∀ t : Fin grid0.N, win0_3.index t = ![t.val, 3])
theorem at_4 : ∀ t : Fin cfg0.N, win0_4.index t = ![32 * t.val - 1, 2] := (by decide +kernel : ∀ t : Fin grid0.N, win0_4.index t = ![32 * t.val - 1, 2])
theorem at_5 : ∀ t : Fin cfg0.N, win0_5.index t = ![32 * t.val - 1, 3] := (by decide +kernel : ∀ t : Fin grid0.N, win0_5.index t = ![32 * t.val - 1, 3])
theorem at_6 : ∀ t : Fin cfg0.N, win0_6.index t = ![32 * t.val + 32, 2] := (by decide +kernel : ∀ t : Fin grid0.N, win0_6.index t = ![32 * t.val + 32, 2])
theorem at_7 : ∀ t : Fin cfg0.N, win0_7.index t = ![32 * t.val + 32, 3] := (by decide +kernel : ∀ t : Fin grid0.N, win0_7.index t = ![32 * t.val + 32, 3])
theorem at_8 : ∀ t : Fin cfg0.N, win0_8.index t = ![0, 0] := (by decide +kernel : ∀ t : Fin grid0.N, win0_8.index t = ![0, 0])
theorem at_9 : ∀ t : Fin cfg0.N, win0_9.index t = ![0, 0] := (by decide +kernel : ∀ t : Fin grid0.N, win0_9.index t = ![0, 0])
theorem at_10 : ∀ t : Fin cfg0.N, win0_10.index t = ![t.val, 0] := (by decide +kernel : ∀ t : Fin grid0.N, win0_10.index t = ![t.val, 0])
theorem at_11 : ∀ t : Fin cfg0.N, win0_11.index t = ![t.val, 0] := (by decide +kernel : ∀ t : Fin grid0.N, win0_11.index t = ![t.val, 0])
theorem at_12 : ∀ t : Fin cfg0.N, win0_12.index t = ![0, 0] := (by decide +kernel : ∀ t : Fin grid0.N, win0_12.index t = ![0, 0])
theorem at_13 : ∀ t : Fin cfg0.N, win0_13.index t = ![0, 0] := (by decide +kernel : ∀ t : Fin grid0.N, win0_13.index t = ![0, 0])
theorem at_14 : ∀ t : Fin cfg0.N, win0_14.index t = ![0, 0, 0] := (by decide +kernel : ∀ t : Fin grid0.N, win0_14.index t = ![0, 0, 0])
theorem at_15 : ∀ t : Fin cfg0.N, win0_15.index t = ![0, 0] := (by decide +kernel : ∀ t : Fin grid0.N, win0_15.index t = ![0, 0])

/-- A grid point's coordinate is its number. -/
theorem coord_val : ∀ t : Fin cfg0.N, ((grid0.coords t) 0).val = t.val := (by decide +kernel : ∀ t : Fin grid0.N, ((grid0.coords t) 0).val = t.val)

theorem point_lt (t : Fin cfg0.N) : t.val < 16 := t.isLt

/-- A grid point as the number of a tile. -/
def tileNo (t : Fin cfg0.N) : Fin 16 := ⟨t.val, point_lt t⟩

/-! ## The tiles -/

variable (m : (ℓ : Loc nD τ sig) → Buf (Elt Ideal) ℓ) (c : Dev nD)

/-- The kernel's arguments on a device hold the reals `X`. -/
abbrev Holds (X : Args) : Prop :=
  X.Are (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))

variable {m c} {X : Args} (h : Holds m c X) (t : Fin cfg0.N)

include h

omit h in
theorem rowAt_tileNo (a : Fin 256) : (rowAt (tileNo t) a).val = t.val * 256 + a.val := by
  show 256 * t.val + a.val = _
  omega

theorem block_o : Is (tileIn m c t).o fun j => X.ins.o (rowAt (tileNo t) (j 0)) (j 1) := fun j => by
  show iblk m c 0 t j = _
  blk_simp [iblk, V]
  refine (h.o _).trans (congrArg (fun i => ((X.o i : ℝ) : EReal)) ?_)
  blk_ext [at_0]
  exact (rowAt_tileNo t _).symm

theorem block_gb : Is (tileIn m c t).gb fun j => X.ins.gb (rowAt (tileNo t) (j 0)) (j 1) := fun j => by
  show iblk m c 1 t j = _
  blk_simp [iblk, V]
  refine (h.z _).trans (congrArg (fun i => ((X.z i : ℝ) : EReal)) ?_)
  blk_ext [at_1]
  exact (rowAt_tileNo t _).symm

theorem block_gc : Is (tileIn m c t).gc fun j => X.ins.gc (rowAt (tileNo t) (j 0)) (j 1) := fun j => by
  show iblk m c 2 t j = _
  blk_simp [iblk, V]
  refine (h.z _).trans (congrArg (fun i => ((X.z i : ℝ) : EReal)) ?_)
  blk_ext [at_2]
  exact (rowAt_tileNo t _).symm

theorem block_xi : Is (tileIn m c t).xi fun j => X.ins.xi (rowAt (tileNo t) (j 0)) (j 1) := fun j => by
  show iblk m c 3 t j = _
  blk_simp [iblk, V]
  refine (h.z _).trans (congrArg (fun i => ((X.z i : ℝ) : EReal)) ?_)
  blk_ext [at_3]
  exact (rowAt_tileNo t _).symm

theorem block_x : Is (tileIn m c t).x fun j => X.ins.x (rowAt (tileNo t) (j 0)) (j 1) := fun j => by
  show iblk m c 10 t j = _
  blk_simp [iblk, V]
  refine (h.x _).trans (congrArg (fun i => ((X.x i : ℝ) : EReal)) ?_)
  blk_ext [at_10]
  exact (rowAt_tileNo t _).symm

theorem block_tgt : Is (tileIn m c t).tgt fun j => X.ins.tgt (rowAt (tileNo t) (j 0)) (j 1) := fun j => by
  show iblk m c 11 t j = _
  blk_simp [iblk, V]
  refine (h.tgt _).trans (congrArg (fun i => ((X.tgt i : ℝ) : EReal)) ?_)
  blk_ext [at_11]
  exact (rowAt_tileNo t _).symm

theorem block_gcp (hb : 0 < t.val) (k : Fin 512) :
    (tileIn m c t).gcp (ix2 7 k) = (X.ins.gc ⟨256 * t.val - 1, by have := point_lt t; omega⟩ k : EReal) := by
  show iblk m c 4 t (ix2 7 k) = _
  blk_simp [iblk, V]
  refine (h.z _).trans (congrArg (fun i => ((X.z i : ℝ) : EReal)) ?_)
  blk_ext [at_4]

theorem block_xip (hb : 0 < t.val) (k : Fin 512) :
    (tileIn m c t).xip (ix2 7 k) = (X.ins.xi ⟨256 * t.val - 1, by have := point_lt t; omega⟩ k : EReal) := by
  show iblk m c 5 t (ix2 7 k) = _
  blk_simp [iblk, V]
  refine (h.z _).trans (congrArg (fun i => ((X.z i : ℝ) : EReal)) ?_)
  blk_ext [at_5]

theorem block_gcn (hb : t.val < 15) (k : Fin 512) :
    (tileIn m c t).gcn (ix2 0 k) = (X.ins.gc ⟨256 * t.val + 256, by omega⟩ k : EReal) := by
  show iblk m c 6 t (ix2 0 k) = _
  blk_simp [iblk, V]
  refine (h.z _).trans (congrArg (fun i => ((X.z i : ℝ) : EReal)) ?_)
  blk_ext [at_6]

theorem block_xin (hb : t.val < 15) (k : Fin 512) :
    (tileIn m c t).xin (ix2 0 k) = (X.ins.xi ⟨256 * t.val + 256, by omega⟩ k : EReal) := by
  show iblk m c 7 t (ix2 0 k) = _
  blk_simp [iblk, V]
  refine (h.z _).trans (congrArg (fun i => ((X.z i : ℝ) : EReal)) ?_)
  blk_ext [at_7]

theorem block_cw : Is (tileIn m c t).cw X.cw := fun j => by
  show iblk m c 8 t j = _
  blk_simp [iblk, V]
  refine (h.cw _).trans (congrArg (fun i => ((X.cw i : ℝ) : EReal)) ?_)
  blk_ext [at_8]

theorem block_wo : Is (tileIn m c t).wo X.wo := fun j => by
  show iblk m c 9 t j = _
  blk_simp [iblk, V]
  refine (h.wo _).trans (congrArg (fun i => ((X.wo i : ℝ) : EReal)) ?_)
  blk_ext [at_9]

theorem block_md : Is (tileIn m c t).md X.md := fun j => by
  show iblk m c 12 t j = _
  blk_simp [iblk, V]
  refine (h.md _).trans (congrArg (fun i => ((X.md i : ℝ) : EReal)) ?_)
  blk_ext [at_12]

theorem block_gf : Is (tileIn m c t).gf X.gf := fun j => by
  show iblk m c 13 t j = _
  blk_simp [iblk, V]
  refine (h.gf _).trans (congrArg (fun i => ((X.gf i : ℝ) : EReal)) ?_)
  blk_ext [at_13]

theorem block_w1 : Is (tileIn m c t).w1 X.w1 := fun j => by
  show iblk m c 14 t j = _
  blk_simp [iblk, V]
  refine (h.w1 _).trans (congrArg (fun i => ((X.w1 i : ℝ) : EReal)) ?_)
  blk_ext [at_14]

theorem block_w2 : Is (tileIn m c t).w2 X.w2 := fun j => by
  show iblk m c 15 t j = _
  blk_simp [iblk, V]
  refine (h.w2 _).trans (congrArg (fun i => ((X.w2 i : ℝ) : EReal)) ?_)
  blk_ext [at_15]

theorem row_g1 : Is (tileIn m c t).g1 fun j => X.ins.g1 (j 1) :=
  (Is.load (block_md h t) ![0, 0] S1x1024.size inb_S8x1024_S1x1024_0_0 (fun j => ix2 0 (j 1))
    (fun j a => by fin_cases a <;> first | rfl | (have := (j 0).isLt; simp_all))).congr fun j => rfl

theorem row_sh2 : Is (tileIn m c t).sh2 fun j => X.ins.sh2 (j 1) :=
  (Is.load (block_md h t) ![1, 0] S1x1024.size inb_S8x1024_S1x1024_1_0 (fun j => ix2 1 (j 1))
    (fun j a => by fin_cases a <;> first | rfl | (have := (j 0).isLt; simp_all))).congr fun j => rfl

theorem row_sc2 : Is (tileIn m c t).sc2 fun j => X.ins.sc2 (j 1) :=
  (Is.load (block_md h t) ![2, 0] S1x1024.size inb_S8x1024_S1x1024_2_0 (fun j => ix2 2 (j 1))
    (fun j a => by fin_cases a <;> first | rfl | (have := (j 0).isLt; simp_all))).congr fun j => rfl

theorem row_g2 : Is (tileIn m c t).g2 fun j => X.ins.g2 (j 1) :=
  (Is.load (block_md h t) ![3, 0] S1x1024.size inb_S8x1024_S1x1024_3_0 (fun j => ix2 3 (j 1))
    (fun j a => by fin_cases a <;> first | rfl | (have := (j 0).isLt; simp_all))).congr fun j => rfl

theorem row_cw0 : Is (tileIn m c t).cw0 fun j => X.ins.w 0 (j 1) :=
  (Is.load (block_cw h t) ![0, 0] S1x512.size inb_S8x512_S1x512_0_0 (fun j => ix2 0 (j 1))
    (fun j a => by fin_cases a <;> first | rfl | (have := (j 0).isLt; simp_all))).congr fun j => rfl

theorem row_cw1 : Is (tileIn m c t).cw1 fun j => X.ins.w 1 (j 1) :=
  (Is.load (block_cw h t) ![1, 0] S1x512.size inb_S8x512_S1x512_1_0 (fun j => ix2 1 (j 1))
    (fun j a => by fin_cases a <;> first | rfl | (have := (j 0).isLt; simp_all))).congr fun j => rfl

theorem row_cw2 : Is (tileIn m c t).cw2 fun j => X.ins.w 2 (j 1) :=
  (Is.load (block_cw h t) ![2, 0] S1x512.size inb_S8x512_S1x512_2_0 (fun j => ix2 2 (j 1))
    (fun j a => by fin_cases a <;> first | rfl | (have := (j 0).isLt; simp_all))).congr fun j => rfl

/-- A grid point's tile holds the rows of its number. -/
theorem reads : Reads (tileIn m c t) X.ins (tileNo t) where
  i := coord_val t
  o := block_o h t
  gb := block_gb h t
  gc := block_gc h t
  xi := block_xi h t
  gcp hb k := block_gcp h t hb k
  xip hb k := block_xip h t hb k
  gcn hb k := block_gcn h t hb k
  xin hb k := block_xin h t hb k
  cw0 := row_cw0 h t
  cw1 := row_cw1 h t
  cw2 := row_cw2 h t
  wo := (block_wo h t).congr fun j => congrArg X.wo (eq_ix2 j)
  x := block_x h t
  tgt := block_tgt h t
  g1 := row_g1 h t
  sh2 := row_sh2 h t
  sc2 := row_sc2 h t
  g2 := row_g2 h t
  gf := (block_gf h t).congr fun j => congrArg X.gf (idx_ext (Fin.ext (by have := (j 0).isLt; simp_all)) rfl)
  w1 := (block_w1 h t).congr fun j => congrArg X.w1 (by
    funext a
    fin_cases a
    · exact Fin.ext (by show (j 0).val = (1024 * (j 0).val + (j 2).val) / 1024; have : (j 2).val < 1024 := (j 2).isLt; omega)
    · rfl
    · exact Fin.ext (by show (j 2).val = (1024 * (j 0).val + (j 2).val) % 1024; have : (j 2).val < 1024 := (j 2).isLt; omega))
  w2 := (block_w2 h t).congr fun j => congrArg X.w2 (eq_ix2 j)

end Cert.Mlp

end
-- ==== Proof.Arrays.lean ====
/-
  The arrays the kernel leaves: the tiles' rows put together, and the accumulator after the last tile.
-/
module

public import proofs.«01_k».proof.Proof.Blocks

@[expose] public section

set_option maxRecDepth 16384

noncomputable section

namespace Cert.Mlp

open Idealize.ShloMosaic Idealize.ShloMosaic.TcCoe Cert.KernelIdeal Cert.KernelIdeal.Gen

theorem at_16 : ∀ t : Fin cfg0.N, win0_16.index t = ![t.val, 0] := (by decide +kernel : ∀ t : Fin grid0.N, win0_16.index t = ![t.val, 0])
theorem at_17 : ∀ t : Fin cfg0.N, win0_17.index t = ![t.val, 0] := (by decide +kernel : ∀ t : Fin grid0.N, win0_17.index t = ![t.val, 0])
theorem at_18 : ∀ t : Fin cfg0.N, win0_18.index t = ![t.val, 0] := (by decide +kernel : ∀ t : Fin grid0.N, win0_18.index t = ![t.val, 0])
theorem at_19 : ∀ t : Fin cfg0.N, win0_19.index t = ![t.val, 0] := (by decide +kernel : ∀ t : Fin grid0.N, win0_19.index t = ![t.val, 0])
theorem at_20 : ∀ t : Fin cfg0.N, win0_20.index t = ![t.val, 0] := (by decide +kernel : ∀ t : Fin grid0.N, win0_20.index t = ![t.val, 0])
theorem at_21 : ∀ t : Fin cfg0.N, win0_21.index t = ![t.val, 0] := (by decide +kernel : ∀ t : Fin grid0.N, win0_21.index t = ![t.val, 0])
theorem at_23 : ∀ t : Fin cfg0.N, win0_23.index t = ![t.val, 0] := (by decide +kernel : ∀ t : Fin grid0.N, win0_23.index t = ![t.val, 0])
theorem at_24 : ∀ t : Fin cfg0.N, win0_24.index t = ![t.val, 0] := (by decide +kernel : ∀ t : Fin grid0.N, win0_24.index t = ![t.val, 0])
theorem at_25 : ∀ t : Fin cfg0.N, win0_25.index t = ![t.val, 0] := (by decide +kernel : ∀ t : Fin grid0.N, win0_25.index t = ![t.val, 0])
theorem at_26 : ∀ t : Fin cfg0.N, win0_26.index t = ![t.val, 0] := (by decide +kernel : ∀ t : Fin grid0.N, win0_26.index t = ![t.val, 0])

/-- The last grid point. -/
def lastPoint : Fin cfg0.N := ⟨15, by decide⟩

variable {m : (ℓ : Loc nD τ sig) → Buf (Elt Ideal) ℓ} {c : Dev nD} {X : Args} (h : Holds m c X)

/-- The row of the array a row of point `t`'s block lands on. -/
theorem row_eq (t : Fin cfg0.N) (a : Fin 256) (i : Fin 4096) (hi : i.val = t.val * 256 + a.val) : rowAt (tileNo t) a = i :=
  Fin.ext ((rowAt_tileNo t a).trans hi.symm)

include h

/-! ## The ten arrays written tile by tile -/

theorem final_16 (i : S4096x4096.Idx) : (dats m 0 c).arrAt 16 cfg0.N i = (X.ins.r (i 0) (i 1) : EReal) := by
  refine (dats m 0 c).arrAt_forall_of_covers 16 (fun (i : S4096x4096.Idx) v => v = (X.ins.r (i 0) (i 1) : EReal))
    (by decide +kernel) (fun t hf y => ?_) i
  blk_simp
  rw [after_16]
  refine ((reads h t).act _).trans (congrArg₂ (fun a b => ((X.ins.r a b : ℝ) : EReal)) (row_eq t _ _ ?_) (Fin.ext ?_))
  · blk_simp [at_16]
  · blk_simp [at_16]

theorem final_17 (i : S4096x4096.Idx) : (dats m 0 c).arrAt 17 cfg0.N i = (X.ins.da (i 0) (i 1) : EReal) := by
  refine (dats m 0 c).arrAt_forall_of_covers 17 (fun (i : S4096x4096.Idx) v => v = (X.ins.da (i 0) (i 1) : EReal))
    (by decide +kernel) (fun t hf y => ?_) i
  blk_simp
  rw [after_17]
  refine ((reads h t).da _).trans (congrArg₂ (fun a b => ((X.ins.da a b : ℝ) : EReal)) (row_eq t _ _ ?_) (Fin.ext ?_))
  · blk_simp [at_17]
  · blk_simp [at_17]

theorem final_18 (i : S4096x1024.Idx) : (dats m 0 c).arrAt 18 cfg0.N i = (X.ins.h2 (i 0) (i 1) : EReal) := by
  refine (dats m 0 c).arrAt_forall_of_covers 18 (fun (i : S4096x1024.Idx) v => v = (X.ins.h2 (i 0) (i 1) : EReal))
    (by decide +kernel) (fun t hf y => ?_) i
  blk_simp
  rw [after_18]
  refine ((reads h t).h2 _).trans (congrArg₂ (fun a b => ((X.ins.h2 a b : ℝ) : EReal)) (row_eq t _ _ ?_) (Fin.ext ?_))
  · blk_simp [at_18]
  · blk_simp [at_18]

theorem final_19 (i : S4096x1024.Idx) : (dats m 0 c).arrAt 19 cfg0.N i = (X.ins.dy2 (i 0) (i 1) : EReal) := by
  refine (dats m 0 c).arrAt_forall_of_covers 19 (fun (i : S4096x1024.Idx) v => v = (X.ins.dy2 (i 0) (i 1) : EReal))
    (by decide +kernel) (fun t hf y => ?_) i
  blk_simp
  rw [after_19]
  refine ((reads h t).dy2 _).trans (congrArg₂ (fun a b => ((X.ins.dy2 a b : ℝ) : EReal)) (row_eq t _ _ ?_) (Fin.ext ?_))
  · blk_simp [at_19]
  · blk_simp [at_19]

theorem final_20 (i : S4096x1024.Idx) : (dats m 0 c).arrAt 20 cfg0.N i = (X.ins.dx1 (i 0) (i 1) : EReal) := by
  refine (dats m 0 c).arrAt_forall_of_covers 20 (fun (i : S4096x1024.Idx) v => v = (X.ins.dx1 (i 0) (i 1) : EReal))
    (by decide +kernel) (fun t hf y => ?_) i
  blk_simp
  rw [after_20]
  refine ((reads h t).dx1 _).trans (congrArg₂ (fun a b => ((X.ins.dx1 a b : ℝ) : EReal)) (row_eq t _ _ ?_) (Fin.ext ?_))
  · blk_simp [at_20]
  · blk_simp [at_20]

theorem final_21 (i : S4096x512.Idx) : (dats m 0 c).arrAt 21 cfg0.N i = (X.ins.conv (i 0) (i 1) : EReal) := by
  refine (dats m 0 c).arrAt_forall_of_covers 21 (fun (i : S4096x512.Idx) v => v = (X.ins.conv (i 0) (i 1) : EReal))
    (by decide +kernel) (fun t hf y => ?_) i
  blk_simp
  rw [after_21]
  refine ((reads h t).conv _).trans (congrArg₂ (fun a b => ((X.ins.conv a b : ℝ) : EReal)) (row_eq t _ _ ?_) (Fin.ext ?_))
  · blk_simp [at_21]
  · blk_simp [at_21]

theorem final_23 (i : S4096x1024.Idx) : (dats m 0 c).arrAt 23 cfg0.N i = (X.ins.dy1 (i 0) (i 1) : EReal) := by
  refine (dats m 0 c).arrAt_forall_of_covers 23 (fun (i : S4096x1024.Idx) v => v = (X.ins.dy1 (i 0) (i 1) : EReal))
    (by decide +kernel) (fun t hf y => ?_) i
  blk_simp
  rw [after_23]
  refine ((reads h t).dy1 _).trans (congrArg₂ (fun a b => ((X.ins.dy1 a b : ℝ) : EReal)) (row_eq t _ _ ?_) (Fin.ext ?_))
  · blk_simp [at_23]
  · blk_simp [at_23]

theorem final_24 (i : S4096x512.Idx) : (dats m 0 c).arrAt 24 cfg0.N i = (X.ins.dO (i 0) (i 1) : EReal) := by
  refine (dats m 0 c).arrAt_forall_of_covers 24 (fun (i : S4096x512.Idx) v => v = (X.ins.dO (i 0) (i 1) : EReal))
    (by decide +kernel) (fun t hf y => ?_) i
  blk_simp
  rw [after_24]
  refine ((reads h t).dO _).trans (congrArg₂ (fun a b => ((X.ins.dO a b : ℝ) : EReal)) (row_eq t _ _ ?_) (Fin.ext ?_))
  · blk_simp [at_24]
  · blk_simp [at_24]

theorem final_25 (i : S4096x512.Idx) : (dats m 0 c).arrAt 25 cfg0.N i = (X.ins.dgb (i 0) (i 1) : EReal) := by
  refine (dats m 0 c).arrAt_forall_of_covers 25 (fun (i : S4096x512.Idx) v => v = (X.ins.dgb (i 0) (i 1) : EReal))
    (by decide +kernel) (fun t hf y => ?_) i
  blk_simp
  rw [after_25]
  refine ((reads h t).dgb _).trans (congrArg₂ (fun a b => ((X.ins.dgb a b : ℝ) : EReal)) (row_eq t _ _ ?_) (Fin.ext ?_))
  · blk_simp [at_25]
  · blk_simp [at_25]

theorem final_26 (i : S4096x512.Idx) : (dats m 0 c).arrAt 26 cfg0.N i = (X.ins.dyv (i 0) (i 1) : EReal) := by
  refine (dats m 0 c).arrAt_forall_of_covers 26 (fun (i : S4096x512.Idx) v => v = (X.ins.dyv (i 0) (i 1) : EReal))
    (by decide +kernel) (fun t hf y => ?_) i
  blk_simp
  rw [after_26]
  refine ((reads h t).dyv _).trans (congrArg₂ (fun a b => ((X.ins.dyv a b : ℝ) : EReal)) (row_eq t _ _ ?_) (Fin.ext ?_))
  · blk_simp [at_26]
  · blk_simp [at_26]

/-! ## The accumulator -/

/-- What tile `b` adds to row `k`, column `d` of the accumulator. -/
def Ins.tileSum (A : Ins) (k : Fin 8) (d : Fin 1024) (b : Fin 16) : ℝ := ∑ r, A.part k (rowAt b r) d

/-- After point `n` the accumulator holds the sums of the tiles so far. -/
theorem acc_is : ∀ (n : ℕ) (hn : n < cfg0.N), Is (accAt m c n hn)
    fun j => ∑ b : Fin (n + 1), X.ins.tileSum (j 0) (j 1) ⟨b.val, by have : n < 16 := hn; omega⟩
  | 0, hn => by
    have hz : Is (k0_pay3 (F := Ideal)) fun _ => 0 := Is.splat Is.word_zero
    have e : accAt (F := Ideal) m c 0 hn = (tileIn (F := Ideal) m c ⟨0, hn⟩).acc (k0_pay3 (F := Ideal)) := by rw [accAt]
    rw [e]
    refine Is.congr ((reads h ⟨0, hn⟩).acc hz) fun j => ?_
    rw [Fin.sum_univ_one, ite_self, zero_add]
    rfl
  | n + 1, hn => by
    have e : accAt (F := Ideal) m c (n + 1) hn
        = (tileIn (F := Ideal) m c ⟨n + 1, hn⟩).acc (accAt (F := Ideal) m c n (Nat.lt_of_succ_lt hn)) := by rw [accAt]
    rw [e]
    refine Is.congr ((reads h ⟨n + 1, hn⟩).acc (acc_is n (Nat.lt_of_succ_lt hn))) fun j => ?_
    rw [if_neg (show (tileNo ⟨n + 1, hn⟩).val ≠ 0 from Nat.succ_ne_zero n)]
    exact (Fin.sum_univ_castSucc fun b : Fin (n + 1 + 1) =>
      X.ins.tileSum (j 0) (j 1) ⟨b.val, by have : n + 1 < 16 := hn; omega⟩).symm

theorem final_22 (i : S8x1024.Idx) : (dats m 0 c).arrAt 22 cfg0.N i = (X.ins.acc (i 0) (i 1) : EReal) := by
  refine ((dats m 0 c).arrAt_emb_eq_after_last 22 lastPoint (by decide +kernel) i).trans ?_
  rw [after_22, cast_eq]
  have e := acc_is h lastPoint.val lastPoint.isLt i
  refine Eq.trans e ?_
  refine congrArg (fun r : ℝ => (r : EReal)) ?_
  unfold Ins.acc
  rw [sum_blocks 16 256 fun t => X.ins.part (i 0) t (i 1)]
  refine Finset.sum_congr rfl fun b _ => Finset.sum_congr rfl fun r _ => ?_
  exact congrArg (fun t => X.ins.part (i 0) t (i 1)) (Fin.ext (by show 256 * b.val + r.val = b.val * 256 + r.val; omega))

end Cert.Mlp

end
-- ==== Proof.KernelValues.lean ====
/-
  What the kernel's run leaves in its eleven result arrays, over the reals.
-/
module

public import proofs.«01_k».proof.Proof.Arrays

@[expose] public section

set_option maxRecDepth 16384

noncomputable section

namespace Cert.Mlp

open Idealize.ShloMosaic Idealize.ShloMosaic.TcCoe Idealize.SL.Sem Cert.KernelIdeal Cert.KernelIdeal.Gen

set_option maxHeartbeats 2000000 in
/-- On every device, from arguments that hold the reals `X`: the run ends with each result at the model's array and the
    arguments unchanged. -/
theorem kernel_values (m : (ℓ : Loc nD τ sig) → Buf (Elt Ideal) ℓ) (ρ : Dev nD → PrngReg) (X : Dev nD → Args)
    (hX : ∀ c, Holds m c (X c)) :
    θ_run defs (onTc (τ := τ) (main (F := Ideal))) ⟨m, fun _ => 0, ρ⟩ fun r => ∀ c : Dev nD,
      r.2.mem ((c.tc : Thread nD τ).loc main_v0_0) = (arr (X c).ins.r)
      ∧ r.2.mem ((c.tc : Thread nD τ).loc main_v0_1) = (arr (X c).ins.da)
      ∧ r.2.mem ((c.tc : Thread nD τ).loc main_v0_2) = (arr (X c).ins.h2)
      ∧ r.2.mem ((c.tc : Thread nD τ).loc main_v0_3) = (arr (X c).ins.dy2)
      ∧ r.2.mem ((c.tc : Thread nD τ).loc main_v0_4) = (arr (X c).ins.dx1)
      ∧ r.2.mem ((c.tc : Thread nD τ).loc main_v0_5) = (arr (X c).ins.conv)
      ∧ r.2.mem ((c.tc : Thread nD τ).loc main_v0_6) = (arr (X c).ins.acc)
      ∧ r.2.mem ((c.tc : Thread nD τ).loc main_v0_7) = (arr (X c).ins.dy1)
      ∧ r.2.mem ((c.tc : Thread nD τ).loc main_v0_8) = (arr (X c).ins.dO)
      ∧ r.2.mem ((c.tc : Thread nD τ).loc main_v0_9) = (arr (X c).ins.dgb)
      ∧ r.2.mem ((c.tc : Thread nD τ).loc main_v0_10) = (arr (X c).ins.dyv)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨(Pipeline.FramePost.out_eq h.1 c 16).trans (funext (final_16 (hX c))),
      (Pipeline.FramePost.out_eq h.1 c 17).trans (funext (final_17 (hX c))),
      (Pipeline.FramePost.out_eq h.1 c 18).trans (funext (final_18 (hX c))),
      (Pipeline.FramePost.out_eq h.1 c 19).trans (funext (final_19 (hX c))),
      (Pipeline.FramePost.out_eq h.1 c 20).trans (funext (final_20 (hX c))),
      (Pipeline.FramePost.out_eq h.1 c 21).trans (funext (final_21 (hX c))),
      (Pipeline.FramePost.out_eq h.1 c 22).trans (funext (final_22 (hX c))),
      (Pipeline.FramePost.out_eq h.1 c 23).trans (funext (final_23 (hX c))),
      (Pipeline.FramePost.out_eq h.1 c 24).trans (funext (final_24 (hX c))),
      (Pipeline.FramePost.out_eq h.1 c 25).trans (funext (final_25 (hX c))),
      (Pipeline.FramePost.out_eq h.1 c 26).trans (funext (final_26 (hX c))), h.2.1 c⟩)
    (θ_run_and (run_post m ρ) (kernel_frame m ρ))

end Cert.Mlp

end
-- ==== Proof.HostOps.lean ====
/-
  The host's layout operations over arrays of reals: rows, columns and numbers repeated, slices, matrices put side by
  side, and a matrix framed by zeros.
-/
module

public import proofs.«01_k».proof.Proof.Args

@[expose] public section

noncomputable section

namespace Cert.Mlp

open Idealize.ShloMosaic

namespace Is

variable {n k : ℕ} {φ : FTy}

/-- One row repeated over `n` rows. -/
theorem rowIn {v : Mat 1 k → EReal} {f : Mat 1 k → ℝ} (hv : Is v f)
    (h : (⟨2, ![1, k]⟩ : Shape).BroadcastsInDim ⟨2, ![n, k]⟩ ![0, 1]) :
    Is (broadcastInDim ⟨2, ![n, k]⟩ ![0, 1] h v) (fun j => f (ix2 0 (j 1))) :=
  bcastIn hv _ h (fun j => ix2 0 (j 1)) fun j a => by
    match a with
    | ⟨0, _⟩ => rfl
    | ⟨1, _⟩ =>
      show (j 1).val = if k = 1 then 0 else (j 1).val
      split
      · next hk => have : (j 1).val < k := (j 1).isLt; omega
      · rfl

/-- One column repeated over `k` columns. -/
theorem colIn {v : Mat n 1 → EReal} {f : Mat n 1 → ℝ} (hv : Is v f)
    (h : (⟨2, ![n, 1]⟩ : Shape).BroadcastsInDim ⟨2, ![n, k]⟩ ![0, 1]) :
    Is (broadcastInDim ⟨2, ![n, k]⟩ ![0, 1] h v) (fun j => f (ix2 (j 0) 0)) :=
  bcastIn hv _ h (fun j => ix2 (j 0) 0) fun j a => by
    match a with
    | ⟨0, _⟩ =>
      show (j 0).val = if n = 1 then 0 else (j 0).val
      split
      · next hk => have : (j 0).val < n := (j 0).isLt; omega
      · rfl
    | ⟨1, _⟩ => rfl

/-- A list as a row. -/
theorem listRow {v : (⟨1, ![k]⟩ : Shape).Idx → EReal} {f : (⟨1, ![k]⟩ : Shape).Idx → ℝ} (hv : Is v f)
    (h : (⟨1, ![k]⟩ : Shape).BroadcastsInDim ⟨2, ![n, k]⟩ ![1]) :
    Is (broadcastInDim ⟨2, ![n, k]⟩ ![1] h v) (fun j => f (ix1 (j 1))) :=
  bcastIn hv _ h (fun j => ix1 (j 1)) fun j a => by
    match a with
    | ⟨0, _⟩ =>
      show (j 1).val = if k = 1 then 0 else (j 1).val
      split
      · next hk => have : (j 1).val < k := (j 1).isLt; omega
      · rfl

/-- A list as a column, repeated. -/
theorem listCol {v : (⟨1, ![n]⟩ : Shape).Idx → EReal} {f : (⟨1, ![n]⟩ : Shape).Idx → ℝ} (hv : Is v f)
    (h : (⟨1, ![n]⟩ : Shape).BroadcastsInDim ⟨2, ![n, k]⟩ ![0]) :
    Is (broadcastInDim ⟨2, ![n, k]⟩ ![0] h v) (fun j => f (ix1 (j 0))) :=
  bcastIn hv _ h (fun j => ix1 (j 0)) fun j a => by
    match a with
    | ⟨0, _⟩ =>
      show (j 0).val = if n = 1 then 0 else (j 0).val
      split
      · next hk => have : (j 0).val < n := (j 0).isLt; omega
      · rfl

/-- A number repeated. -/
theorem number {t : Shape} {v : (⟨0, ![]⟩ : Shape).Idx → EReal} {r : ℝ} (hv : Is v fun _ => r)
    (h : (⟨0, ![]⟩ : Shape).BroadcastsInDim t ![]) : Is (broadcastInDim t ![] h v) (fun _ => r) :=
  bcastIn hv _ h (fun _ => fun a => a.elim0) fun _ a => a.elim0

/-- A constant repeated. -/
theorem constIn {t : Shape} {w : BitVec φ.bits} {r : ℝ} (e : Ideal.ofBits φ w = ((r : ℝ) : EReal))
    (h : (⟨0, ![]⟩ : Shape).BroadcastsInDim t ![]) :
    Is (broadcastInDim t ![] h (constant (F := Ideal) ⟨0, ![]⟩ φ w)) (fun _ => r) := number (Is.const e) h

/-- A window of a matrix. -/
theorem window {n' k' : ℕ} {v : Mat n k → EReal} {f : Mat n k → ℝ} (hv : Is v f) (r c : ℕ)
    (h : (⟨2, ![n, k]⟩ : Shape).Slices ![r, c] ⟨2, ![n', k']⟩) (hr : r + n' ≤ n) (hc : c + k' ≤ k) :
    Is (extractStridedSlice ⟨2, ![n', k']⟩ ![r, c] v h)
      (fun j => f (ix2 ⟨r + (j 0).val, by have : (j 0).val < n' := (j 0).isLt; omega⟩
        ⟨c + (j 1).val, by have : (j 1).val < k' := (j 1).isLt; omega⟩)) :=
  slice hv _ h (fun j => ix2 ⟨r + (j 0).val, by have : (j 0).val < n' := (j 0).isLt; omega⟩
        ⟨c + (j 1).val, by have : (j 1).val < k' := (j 1).isLt; omega⟩) fun j a => by
    match a with
    | ⟨0, _⟩ => rfl
    | ⟨1, _⟩ => rfl

/-- Row `r` of a matrix as a list. -/
theorem pick {v : Mat n k → EReal} {f : Mat n k → ℝ} (hv : Is v f) (r : Fin n)
    (h : (⟨2, ![n, k]⟩ : Shape).Slices ![r.val, 0] ⟨2, ![1, k]⟩) (h' : (⟨2, ![1, k]⟩ : Shape).ShapeCasts ⟨1, ![k]⟩) :
    Is (shapeCast ⟨1, ![k]⟩ (extractStridedSlice ⟨2, ![1, k]⟩ ![r.val, 0] v h) h') (fun j => f (ix2 r (j 0))) :=
  (((hv.window r.val 0 h (by omega) (by omega))).unRow h').congr fun j =>
    congrArg f (congrArg₂ ix2 (Fin.ext rfl) (Fin.ext (Nat.zero_add _)))

/-- Row `r` of a matrix. -/
theorem pickRow {m : ℕ} {v : Mat n k → EReal} {f : Mat n k → ℝ} (hv : Is v f) (r : Fin n)
    (h : (⟨2, ![n, k]⟩ : Shape).Slices ![r.val, 0] ⟨2, ![1, k]⟩) (h' : (⟨2, ![1, k]⟩ : Shape).ShapeCasts ⟨1, ![k]⟩)
    (h'' : (⟨1, ![k]⟩ : Shape).BroadcastsInDim ⟨2, ![m, k]⟩ ![1]) :
    Is (broadcastInDim ⟨2, ![m, k]⟩ ![1] h'' (shapeCast ⟨1, ![k]⟩ (extractStridedSlice ⟨2, ![1, k]⟩ ![r.val, 0] v h) h'))
      (fun j => f (ix2 r (j 1))) :=
  (hv.pick r h h').listRow h''

/-- Two matrices side by side. -/
theorem beside {k₁ k₂ : ℕ} {x : Mat n k₁ → EReal} {y : Mat n k₂ → EReal} {f : Fin n → Fin k₁ → ℝ} {g : Fin n → Fin k₂ → ℝ}
    (hx : Is x fun j => f (j 0) (j 1)) (hy : Is y fun j => g (j 0) (j 1)) (hk : k = k₁ + k₂)
    (h : Shape.Concatenates [⟨2, ![n, k₁]⟩, ⟨2, ![n, k₂]⟩] ⟨2, ![n, k]⟩ 1) :
    Is (concatenate (⟨2, ![n, k]⟩ : Shape) 1 [⟨⟨2, ![n, k₁]⟩, x⟩, ⟨⟨2, ![n, k₂]⟩, y⟩] h)
      (fun j => if c : (j 1).val < k₁ then f (j 0) ⟨(j 1).val, c⟩
        else g (j 0) ⟨(j 1).val - k₁, by have : (j 1).val < k := (j 1).isLt; omega⟩) := fun j => by
  by_cases c : (j 1).val < k₁
  · refine Eq.trans ?_ (congrArg (fun r : ℝ => (r : EReal)) (dif_pos c).symm)
    exact (concatenate_pair_apply_left (t := ⟨2, ![n, k]⟩) 1 x y h j rfl (ix2 (j 0) ⟨(j 1).val, c⟩) fun b => by
      match b with
      | ⟨0, _⟩ => rfl
      | ⟨1, _⟩ => rfl).trans (hx _)
  · refine Eq.trans ?_ (congrArg (fun r : ℝ => (r : EReal)) (dif_neg c).symm)
    refine (concatenate_pair_apply_right (t := ⟨2, ![n, k]⟩) 1 x y h j rfl rfl
      (ix2 (j 0) ⟨(j 1).val - k₁, by have : (j 1).val < k := (j 1).isLt; omega⟩) (fun b hb => ?_) ?_).trans (hy _)
    · match b with
      | ⟨0, _⟩ => rfl
      | ⟨1, _⟩ => exact absurd rfl hb
    · show (j 1).val - k₁ + k₁ = (j 1).val
      omega

/-- Four square matrices side by side. -/
theorem besideFour {x0 x1 x2 x3 : Mat 1024 1024 → EReal} {g : Fin 4 → Fin 1024 → Fin 1024 → ℝ}
    (h0 : Is x0 fun j => g 0 (j 0) (j 1)) (h1 : Is x1 fun j => g 1 (j 0) (j 1)) (h2 : Is x2 fun j => g 2 (j 0) (j 1))
    (h3 : Is x3 fun j => g 3 (j 0) (j 1))
    (h : Shape.Concatenates [⟨2, ![1024, 1024]⟩, ⟨2, ![1024, 1024]⟩, ⟨2, ![1024, 1024]⟩, ⟨2, ![1024, 1024]⟩] ⟨2, ![1024, 4096]⟩ 1) :
    Is (concatenate (⟨2, ![1024, 4096]⟩ : Shape) 1 [⟨⟨2, ![1024, 1024]⟩, x0⟩, ⟨⟨2, ![1024, 1024]⟩, x1⟩, ⟨⟨2, ![1024, 1024]⟩, x2⟩,
        ⟨⟨2, ![1024, 1024]⟩, x3⟩] h)
      (fun j => g ⟨(j 1).val / 1024, by have : (j 1).val < 4096 := (j 1).isLt; omega⟩ (j 0) ⟨(j 1).val % 1024, by omega⟩) := fun j => by
  have hj : (j 1).val < 4096 := (j 1).isLt
  have key : ∀ (k : ℕ) (hk : k < 4) (x : Mat 1024 1024 → EReal) (hx : Is x fun j => g ⟨k, hk⟩ (j 0) (j 1))
      (hxk : ([⟨⟨2, ![1024, 1024]⟩, x0⟩, ⟨⟨2, ![1024, 1024]⟩, x1⟩, ⟨⟨2, ![1024, 1024]⟩, x2⟩, ⟨⟨2, ![1024, 1024]⟩, x3⟩] :
        List ((s : Shape) × (s.Idx → EReal)))[k]'hk = ⟨⟨2, ![1024, 1024]⟩, x⟩) (hd : (j 1).val / 1024 = k)
      (hpre : (((([⟨⟨2, ![1024, 1024]⟩, x0⟩, ⟨⟨2, ![1024, 1024]⟩, x1⟩, ⟨⟨2, ![1024, 1024]⟩, x2⟩, ⟨⟨2, ![1024, 1024]⟩, x3⟩] :
        List ((s : Shape) × (s.Idx → EReal))).take k).map (·.1)).map fun s : Shape =>
          if h : s.rank = 2 then s.size (Fin.cast h.symm 1) else 0).sum = 1024 * k),
      concatenate (⟨2, ![1024, 4096]⟩ : Shape) 1 [⟨⟨2, ![1024, 1024]⟩, x0⟩, ⟨⟨2, ![1024, 1024]⟩, x1⟩, ⟨⟨2, ![1024, 1024]⟩, x2⟩,
        ⟨⟨2, ![1024, 1024]⟩, x3⟩] h j
        = ((g ⟨(j 1).val / 1024, by omega⟩ (j 0) ⟨(j 1).val % 1024, by omega⟩ : ℝ) : EReal) := by
    intro k hk x hx hxk hd hpre
    subst hd
    refine (concatenate_apply_piece (t := ⟨2, ![1024, 4096]⟩) 1 [⟨⟨2, ![1024, 1024]⟩, x0⟩, ⟨⟨2, ![1024, 1024]⟩, x1⟩,
        ⟨⟨2, ![1024, 1024]⟩, x2⟩, ⟨⟨2, ![1024, 1024]⟩, x3⟩] h j _ hk ⟨2, ![1024, 1024]⟩ x hxk rfl _ hpre
      (ix2 (j 0) ⟨(j 1).val % 1024, by omega⟩) (fun b hb => ?_) ?_).trans (hx _)
    · match b with
      | ⟨0, _⟩ => rfl
      | ⟨1, _⟩ => exact absurd rfl hb
    · show 1024 * ((j 1).val / 1024) + (j 1).val % 1024 = (j 1).val
      omega
  have hs : (j 1).val / 1024 = 0 ∨ (j 1).val / 1024 = 1 ∨ (j 1).val / 1024 = 2 ∨ (j 1).val / 1024 = 3 := by omega
  rcases hs with hd | hd | hd | hd
  · exact key 0 (by decide) x0 h0 rfl hd rfl
  · exact key 1 (by decide) x1 h1 rfl hd rfl
  · exact key 2 (by decide) x2 h2 rfl hd rfl
  · exact key 3 (by decide) x3 h3 rfl hd rfl

/-- Eight rows one under the other. -/
theorem eightRows {x0 x1 x2 x3 x4 x5 x6 x7 : Mat 1 1024 → EReal} {g : Fin 8 → Fin 1024 → ℝ}
    (h0 : Is x0 fun j => g 0 (j 1)) (h1 : Is x1 fun j => g 1 (j 1)) (h2 : Is x2 fun j => g 2 (j 1)) (h3 : Is x3 fun j => g 3 (j 1))
    (h4 : Is x4 fun j => g 4 (j 1)) (h5 : Is x5 fun j => g 5 (j 1)) (h6 : Is x6 fun j => g 6 (j 1)) (h7 : Is x7 fun j => g 7 (j 1))
    (h : Shape.Concatenates [⟨2, ![1, 1024]⟩, ⟨2, ![1, 1024]⟩, ⟨2, ![1, 1024]⟩, ⟨2, ![1, 1024]⟩, ⟨2, ![1, 1024]⟩, ⟨2, ![1, 1024]⟩,
      ⟨2, ![1, 1024]⟩, ⟨2, ![1, 1024]⟩] ⟨2, ![8, 1024]⟩ 0) :
    Is (concatenate (⟨2, ![8, 1024]⟩ : Shape) 0 [⟨⟨2, ![1, 1024]⟩, x0⟩, ⟨⟨2, ![1, 1024]⟩, x1⟩, ⟨⟨2, ![1, 1024]⟩, x2⟩,
        ⟨⟨2, ![1, 1024]⟩, x3⟩, ⟨⟨2, ![1, 1024]⟩, x4⟩, ⟨⟨2, ![1, 1024]⟩, x5⟩, ⟨⟨2, ![1, 1024]⟩, x6⟩, ⟨⟨2, ![1, 1024]⟩, x7⟩] h)
      (fun j => g (j 0) (j 1)) := fun j => by
  have key : ∀ (k : ℕ) (hk : k < 8) (x : Mat 1 1024 → EReal) (hx : Is x fun j => g ⟨k, hk⟩ (j 1))
      (hxk : ([⟨⟨2, ![1, 1024]⟩, x0⟩, ⟨⟨2, ![1, 1024]⟩, x1⟩, ⟨⟨2, ![1, 1024]⟩, x2⟩, ⟨⟨2, ![1, 1024]⟩, x3⟩, ⟨⟨2, ![1, 1024]⟩, x4⟩,
        ⟨⟨2, ![1, 1024]⟩, x5⟩, ⟨⟨2, ![1, 1024]⟩, x6⟩, ⟨⟨2, ![1, 1024]⟩, x7⟩] :
        List ((s : Shape) × (s.Idx → EReal)))[k]'hk = ⟨⟨2, ![1, 1024]⟩, x⟩) (hd : (j 0).val = k)
      (hpre : (((([⟨⟨2, ![1, 1024]⟩, x0⟩, ⟨⟨2, ![1, 1024]⟩, x1⟩, ⟨⟨2, ![1, 1024]⟩, x2⟩, ⟨⟨2, ![1, 1024]⟩, x3⟩, ⟨⟨2, ![1, 1024]⟩, x4⟩,
        ⟨⟨2, ![1, 1024]⟩, x5⟩, ⟨⟨2, ![1, 1024]⟩, x6⟩, ⟨⟨2, ![1, 1024]⟩, x7⟩] :
        List ((s : Shape) × (s.Idx → EReal))).take k).map (·.1)).map fun s : Shape =>
          if h : s.rank = 2 then s.size (Fin.cast h.symm 0) else 0).sum = k),
      concatenate (⟨2, ![8, 1024]⟩ : Shape) 0 [⟨⟨2, ![1, 1024]⟩, x0⟩, ⟨⟨2, ![1, 1024]⟩, x1⟩, ⟨⟨2, ![1, 1024]⟩, x2⟩,
        ⟨⟨2, ![1, 1024]⟩, x3⟩, ⟨⟨2, ![1, 1024]⟩, x4⟩, ⟨⟨2, ![1, 1024]⟩, x5⟩, ⟨⟨2, ![1, 1024]⟩, x6⟩, ⟨⟨2, ![1, 1024]⟩, x7⟩] h j
        = ((g (j 0) (j 1) : ℝ) : EReal) := by
    intro k hk x hx hxk hd hpre
    subst hd
    refine (concatenate_apply_piece (t := ⟨2, ![8, 1024]⟩) 0 [⟨⟨2, ![1, 1024]⟩, x0⟩, ⟨⟨2, ![1, 1024]⟩, x1⟩, ⟨⟨2, ![1, 1024]⟩, x2⟩,
        ⟨⟨2, ![1, 1024]⟩, x3⟩, ⟨⟨2, ![1, 1024]⟩, x4⟩, ⟨⟨2, ![1, 1024]⟩, x5⟩, ⟨⟨2, ![1, 1024]⟩, x6⟩, ⟨⟨2, ![1, 1024]⟩, x7⟩] h j _ hk ⟨2, ![1, 1024]⟩ x hxk rfl _ hpre
      (ix2 0 (j 1)) (fun b hb => ?_) ?_).trans (hx _)
    · match b with
      | ⟨0, _⟩ => exact absurd rfl hb
      | ⟨1, _⟩ => rfl
    · show (j 0).val + 0 = (j 0).val
      omega
  have hj : (j 0).val < 8 := (j 0).isLt
  have hs : (j 0).val = 0 ∨ (j 0).val = 1 ∨ (j 0).val = 2 ∨ (j 0).val = 3 ∨ (j 0).val = 4 ∨ (j 0).val = 5 ∨ (j 0).val = 6 ∨ (j 0).val = 7 := by
    omega
  rcases hs with hd | hd | hd | hd | hd | hd | hd | hd
  · exact key 0 (by decide) x0 h0 rfl hd rfl
  · exact key 1 (by decide) x1 h1 rfl hd rfl
  · exact key 2 (by decide) x2 h2 rfl hd rfl
  · exact key 3 (by decide) x3 h3 rfl hd rfl
  · exact key 4 (by decide) x4 h4 rfl hd rfl
  · exact key 5 (by decide) x5 h5 rfl hd rfl
  · exact key 6 (by decide) x6 h6 rfl hd rfl
  · exact key 7 (by decide) x7 h7 rfl hd rfl

/-- A matrix with a row of zeros above and a row of zeros below. -/
theorem framed {v : Mat n k → EReal} {f : Fin n → Fin k → ℝ} (hv : Is v fun j => f (j 0) (j 1)) {u : Shape} {z : u.Idx → EReal}
    (hz : Is z fun _ => 0) {n' : ℕ} (hn : n' = n + 2)
    (h : (⟨2, ![n, k]⟩ : Shape).Pads ![1, 0] ![1, 0] ![0, 0] ⟨2, ![n', k]⟩) (hu : 0 < u.numel) :
    Is (pad ⟨2, ![n', k]⟩ ![1, 0] ![1, 0] ![0, 0] v z h hu)
      (fun j => if c : 0 < (j 0).val ∧ (j 0).val ≤ n then f ⟨(j 0).val - 1, by omega⟩ (j 1) else 0) := fun j => by
  by_cases c : 0 < (j 0).val ∧ (j 0).val ≤ n
  · refine Eq.trans ?_ (congrArg (fun r : ℝ => (r : EReal)) (dif_pos c).symm)
    exact (pad_apply_of_inside (t := ⟨2, ![n', k]⟩) ![1, 0] ![1, 0] ![0, 0] v z h hu j (ix2 ⟨(j 0).val - 1, by omega⟩ (j 1)) fun a => by
      match a with
      | ⟨0, _⟩ => show (j 0).val = 1 + ((j 0).val - 1) * (0 + 1); omega
      | ⟨1, _⟩ => show (j 1).val = 0 + (j 1).val * (0 + 1); omega).trans (hv _)
  · refine Eq.trans ?_ (congrArg (fun r : ℝ => (r : EReal)) (dif_neg c).symm)
    refine (pad_apply_of_not_inside (t := ⟨2, ![n', k]⟩) ![1, 0] ![1, 0] ![0, 0] v z h hu j 0 fun hc => c ?_).trans (hz _)
    have h1 : 1 ≤ (j 0).val := hc.1
    have h2 : ((j 0).val - 1) / (0 + 1) < n := hc.2.2
    rw [Nat.zero_add, Nat.div_one] at h2
    omega

end Is

end Cert.Mlp

end
-- ==== Proof.RefFwd.lean ====
/-
  The reference read over the reals, forward: every named array of the reference holds the model's array.
-/
module

public import proofs.«01_k».proof.Proof.HostOps
public import proofs.«01_k».proof.Proof.Gen.ReferenceIdeal.Run

@[expose] public section

set_option maxRecDepth 16384

noncomputable section

namespace Cert.Mlp.Ref

open Idealize.ShloMosaic Idealize.ShloMosaic.TcCoe
open Cert.ReferenceIdeal Cert.ReferenceIdeal.Gen Cert.ReferenceIdeal.Value

/-! ## The products -/

section Dots

variable {φ₁ φ₂ : FTy}

theorem pair_ext {n k : ℕ} {i j : Mat n k} (h0 : i 0 = j 0) (h1 : i 1 = j 1) : i = j := by
  rw [eq_ix2 i, eq_ix2 j, h0, h1]

theorem dot_out {l : FVec Ideal S4096x1024 φ₁} {r : FVec Ideal S1024x1024 φ₂} {f : Fin 4096 → Fin 1024 → ℝ}
    {g : Fin 1024 → Fin 1024 → ℝ} (hl : Is l fun j => f (j 0) (j 1)) (hr : Is r fun j => g (j 0) (j 1)) :
    Is (Host.dotGeneral dot_S4096x1024_S1024x1024_S4096x1024_1_0_0_1_n_n none l r) (fun j => ∑ c, f (j 0) c * g c (j 1)) :=
  Is.hdot hl hr dot_S4096x1024_S1024x1024_S4096x1024_1_0_0_1_n_n none (a := 1) rfl rfl (fun j c => ix2 (j 0) c) (fun j c => ix2 c (j 1))
    (fun _ _ => pair_ext rfl rfl) (fun _ _ => pair_ext rfl rfl)

theorem dot_up {l : FVec Ideal S4096x1024 φ₁} {r : FVec Ideal S1024x4096 φ₂} {f : Fin 4096 → Fin 1024 → ℝ}
    {g : Fin 1024 → Fin 4096 → ℝ} (hl : Is l fun j => f (j 0) (j 1)) (hr : Is r fun j => g (j 0) (j 1)) :
    Is (Host.dotGeneral dot_S4096x1024_S1024x4096_S4096x4096_1_0_0_1_n_n none l r) (fun j => ∑ c, f (j 0) c * g c (j 1)) :=
  Is.hdot hl hr dot_S4096x1024_S1024x4096_S4096x4096_1_0_0_1_n_n none (a := 1) rfl rfl (fun j c => ix2 (j 0) c) (fun j c => ix2 c (j 1))
    (fun _ _ => pair_ext rfl rfl) (fun _ _ => pair_ext rfl rfl)

theorem dot_down {l : FVec Ideal S4096x4096 φ₁} {r : FVec Ideal S4096x1024 φ₂} {f : Fin 4096 → Fin 4096 → ℝ}
    {g : Fin 4096 → Fin 1024 → ℝ} (hl : Is l fun j => f (j 0) (j 1)) (hr : Is r fun j => g (j 0) (j 1)) :
    Is (Host.dotGeneral dot_S4096x4096_S4096x1024_S4096x1024_1_0_0_1_n_n none l r) (fun j => ∑ c, f (j 0) c * g c (j 1)) :=
  Is.hdot hl hr dot_S4096x4096_S4096x1024_S4096x1024_1_0_0_1_n_n none (a := 1) rfl rfl (fun j c => ix2 (j 0) c) (fun j c => ix2 c (j 1))
    (fun _ _ => pair_ext rfl rfl) (fun _ _ => pair_ext rfl rfl)

theorem dot_downT {l : FVec Ideal S4096x1024 φ₁} {r : FVec Ideal S4096x1024 φ₂} {f : Fin 4096 → Fin 1024 → ℝ}
    {g : Fin 4096 → Fin 1024 → ℝ} (hl : Is l fun j => f (j 0) (j 1)) (hr : Is r fun j => g (j 0) (j 1)) :
    Is (Host.dotGeneral dot_S4096x1024_S4096x1024_S4096x4096_1_1_0_0_n_n none l r) (fun j => ∑ c, f (j 0) c * g (j 1) c) :=
  Is.hdot hl hr dot_S4096x1024_S4096x1024_S4096x4096_1_1_0_0_n_n none (a := 1) rfl rfl (fun j c => ix2 (j 0) c) (fun j c => ix2 (j 1) c)
    (fun _ _ => pair_ext rfl rfl) (fun _ _ => pair_ext rfl rfl)

theorem dot_upT {l : FVec Ideal S4096x4096 φ₁} {r : FVec Ideal S1024x4096 φ₂} {f : Fin 4096 → Fin 4096 → ℝ}
    {g : Fin 1024 → Fin 4096 → ℝ} (hl : Is l fun j => f (j 0) (j 1)) (hr : Is r fun j => g (j 0) (j 1)) :
    Is (Host.dotGeneral dot_S4096x4096_S1024x4096_S4096x1024_1_1_0_0_n_n none l r) (fun j => ∑ c, f (j 0) c * g (j 1) c) :=
  Is.hdot hl hr dot_S4096x4096_S1024x4096_S4096x1024_1_1_0_0_n_n none (a := 1) rfl rfl (fun j c => ix2 (j 0) c) (fun j c => ix2 (j 1) c)
    (fun _ _ => pair_ext rfl rfl) (fun _ _ => pair_ext rfl rfl)

theorem dot_outT {l : FVec Ideal S4096x1024 φ₁} {r : FVec Ideal S1024x1024 φ₂} {f : Fin 4096 → Fin 1024 → ℝ}
    {g : Fin 1024 → Fin 1024 → ℝ} (hl : Is l fun j => f (j 0) (j 1)) (hr : Is r fun j => g (j 0) (j 1)) :
    Is (Host.dotGeneral dot_S4096x1024_S1024x1024_S4096x1024_1_1_0_0_n_n none l r) (fun j => ∑ c, f (j 0) c * g (j 1) c) :=
  Is.hdot hl hr dot_S4096x1024_S1024x1024_S4096x1024_1_1_0_0_n_n none (a := 1) rfl rfl (fun j c => ix2 (j 0) c) (fun j c => ix2 (j 1) c)
    (fun _ _ => pair_ext rfl rfl) (fun _ _ => pair_ext rfl rfl)

end Dots

/-! ## What the reference writes differently -/

/-- The convolution's input with a row of zeros before it and one after it. -/
def _root_.Cert.Mlp.Ins.uf (A : Ins) (i : Fin 4098) (j : Fin 512) : ℝ :=
  if c : 0 < i.val ∧ i.val ≤ 4096 then A.u ⟨i.val - 1, by omega⟩ j else 0

theorem uf_before (A : Ins) (t : Fin 4096) (j : Fin 512) (i : Fin 4098) (hi : i.val = t.val) : A.uf i j = A.um t j := by
  unfold Ins.uf Ins.um
  by_cases c : 0 < t.val
  · rw [dif_pos c, dif_pos (by omega)]
    exact congrArg (A.u · j) (Fin.ext (by show i.val - 1 = t.val - 1; omega))
  · rw [dif_neg c, dif_neg (by omega)]

theorem uf_at (A : Ins) (t : Fin 4096) (j : Fin 512) (i : Fin 4098) (hi : i.val = 1 + t.val) : A.uf i j = A.u t j := by
  unfold Ins.uf
  rw [dif_pos (by omega)]
  exact congrArg (A.u · j) (Fin.ext (by show i.val - 1 = t.val; omega))

theorem uf_after (A : Ins) (t : Fin 4096) (j : Fin 512) (i : Fin 4098) (hi : i.val = 2 + t.val) : A.uf i j = A.up t j := by
  unfold Ins.uf Ins.up
  by_cases c : t.val + 1 < 4096
  · rw [dif_pos c, dif_pos (by omega)]
    exact congrArg (A.u · j) (Fin.ext (by show i.val - 1 = t.val + 1; omega))
  · rw [dif_neg c, dif_neg (by omega)]

/-- Attention rows and convolution rows side by side. -/
def _root_.Cert.Mlp.Ins.cat (A : Ins) (t : Fin 4096) (k : Fin 1024) : ℝ :=
  if c : k.val < 512 then A.o t ⟨k.val, c⟩ else A.conv t ⟨k.val - 512, by omega⟩

theorem sum_halves (f : Fin 1024 → ℝ) :
    ∑ k, f k = ∑ k : Fin 512, f ⟨k.val, by omega⟩ + ∑ k : Fin 512, f ⟨512 + k.val, by omega⟩ :=
  Fin.sum_univ_add (a := 512) (b := 512) f

theorem sum_cat (A : Ins) (t : Fin 4096) (d : Fin 1024) : ∑ k, A.cat t k * A.wo k d = A.y1 t d := by
  rw [sum_halves]
  unfold Ins.y1
  refine congrArg₂ (· + ·) (Finset.sum_congr rfl fun k _ => ?_) (Finset.sum_congr rfl fun k _ => ?_)
  · rw [Ins.cat, dif_pos (show k.val < 512 from k.isLt)]
  · rw [Ins.cat, dif_neg (show ¬ 512 + k.val < 512 by omega)]
    exact congrArg (A.conv t · * _) (Fin.ext (Nat.add_sub_cancel_left ..))

/-! ## The arrays -/

variable (V0 : Valuation τ sig (Elt Ideal)) {X : Args}

/-- The reference's arguments hold the reals `X`. -/
abbrev Holds (X : Args) : Prop :=
  X.Are (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9))

variable {V0} (h : Holds V0 X)

/-- A constant of zero as a number. -/
theorem zero : Is (constant (F := Ideal) S_ .f32 0x00000000#32) fun _ => 0 := Is.const Is.word_zero

include h

theorem v1 : Is (s := S1024x1024) (res_main_v1 V0) fun j => X.ins.wo (j 0) (j 1) :=
  (h.wo.ext _).congr fun j => congrArg X.wo (eq_ix2 j)

theorem v2 : Is (s := S4096x1024) (res_main_v2 V0) fun j => X.ins.w2 (j 0) (j 1) :=
  (h.w2.ext _).congr fun j => congrArg X.w2 (eq_ix2 j)

theorem shard (s : Fin 4) (hs : (S4x1024x1024 : Shape).Slices ![s.val, 0, 0] S1x1024x1024) :
    Is (s := S1024x1024) (extf (F := Ideal) (φ := .bf16) .f32 (shapeCast S1024x1024 (extractStridedSlice S1x1024x1024 ![s.val, 0, 0]
      (V0 (Proc.devRef .tc main_arg8)) hs) shapeCasts_S1x1024x1024_S1024x1024) bitsLt_bf16_f32)
      fun j => X.w1 (ix3 s (j 0) (j 1)) :=
  (((h.w1.slice ![s.val, 0, 0] hs (fun j => ix3 s (j 1) (j 2)) fun j a => by
    match a with
    | ⟨0, _⟩ => have : (j 0).val < 1 := (j 0).isLt; show s.val = s.val + (j 0).val; omega
    | ⟨1, _⟩ => exact (Nat.zero_add _).symm
    | ⟨2, _⟩ => exact (Nat.zero_add _).symm).dropUnit shapeCasts_S1x1024x1024_S1024x1024).ext bitsLt_bf16_f32)

theorem v15 : Is (s := S1024x4096) (res_main_v15 V0) fun j => X.ins.w1 (j 0) (j 1) :=
  Is.besideFour (g := fun s d f => X.w1 (ix3 s d f)) (shard h 0 _) (shard h 1 _) (shard h 2 _) (shard h 3 _) _

theorem v16 : Is (s := S4096x512) (res_main_v16 V0) fun j => X.ins.gb (j 0) (j 1) :=
  (h.z.window 0 512 slices_S4352x2048_S4096x512_0_512 (by decide) (by decide)).congr fun j =>
    congrArg X.z (congrArg₂ ix2 (Fin.ext (Nat.zero_add _)) rfl)

theorem gc : Is (s := S4096x512) (extractStridedSlice S4096x512 ![0, 1024] (V0 (Proc.devRef .tc main_arg1))
    slices_S4352x2048_S4096x512_0_1024) fun j => X.ins.gc (j 0) (j 1) :=
  (h.z.window 0 1024 slices_S4352x2048_S4096x512_0_1024 (by decide) (by decide)).congr fun j =>
    congrArg X.z (congrArg₂ ix2 (Fin.ext (Nat.zero_add _)) rfl)

theorem xi : Is (s := S4096x512) (extractStridedSlice S4096x512 ![0, 1536] (V0 (Proc.devRef .tc main_arg1))
    slices_S4352x2048_S4096x512_0_1536) fun j => X.ins.xi (j 0) (j 1) :=
  (h.z.window 0 1536 slices_S4352x2048_S4096x512_0_1536 (by decide) (by decide)).congr fun j =>
    congrArg X.z (congrArg₂ ix2 (Fin.ext (Nat.zero_add _)) rfl)

theorem v20 : Is (s := S4098x512) (res_main_v20 V0) fun j => X.ins.uf (j 0) (j 1) :=
  Is.framed (f := X.ins.u) (Is.mul (φ := .f32) (gc h) (xi h)) (fun _ => by
    show ((((0#32 : BitVec 32).toInt : ℝ)) : EReal) = _
    norm_num) rfl _ _

theorem tap (k : Fin 3) (h₁ : (S8x512 : Shape).Slices ![k.val, 0] S1x512) (h₂ : (S4098x512 : Shape).Slices ![k.val, 0] S4096x512) :
    Is (mulf (F := Ideal) (s := S4096x512) (φ := .f32) (broadcastInDim S4096x512 ![0, 1] bcast_S1x512_S4096x512_0_1
      (broadcastInDim S1x512 ![1] bcast_S512_S1x512_1 (shapeCast S512 (extractStridedSlice S1x512 ![k.val, 0]
        (V0 (Proc.devRef .tc main_arg6)) h₁) shapeCasts_S1x512_S512)))
      (extractStridedSlice S4096x512 ![k.val, 0] (res_main_v20 V0) h₂))
      fun j => X.ins.w k (j 1) * X.ins.uf ⟨k.val + (j 0).val, by have : (j 0).val < 4096 := (j 0).isLt; omega⟩ (j 1) :=
  (((h.cw.pickRow ⟨k.val, by omega⟩ h₁ shapeCasts_S1x512_S512 bcast_S512_S1x512_1).rowIn bcast_S1x512_S4096x512_0_1).mul (φ := .f32)
    ((v20 h).window k.val 0 h₂ (by omega) (by decide))).congr fun j =>
    congrArg (X.ins.w k (j 1) * ·) (congrArg (X.ins.uf _) (Fin.ext (Nat.zero_add _)))

theorem v40 : Is (s := S4096x512) (res_main_v40 V0) fun j => X.ins.yv (j 0) (j 1) :=
  (((tap h 0 slices_S8x512_S1x512_0_0 slices_S4098x512_S4096x512_0_0).add
    (tap h 1 slices_S8x512_S1x512_1_0 slices_S4098x512_S4096x512_1_0)).add
    (tap h 2 slices_S8x512_S1x512_2_0 slices_S4098x512_S4096x512_2_0)).congr fun j => by
    rw [uf_before X.ins (j 0) (j 1) _ (Nat.zero_add _), uf_at X.ins (j 0) (j 1) _ rfl, uf_after X.ins (j 0) (j 1) _ rfl]
    rfl

theorem conv : Is (mulf (F := Ideal) (s := S4096x512) (φ := .f32) (res_main_v16 V0) (res_main_v40 V0))
    fun j => X.ins.conv (j 0) (j 1) := (v16 h).mul (v40 h)

theorem attn : Is (extf (F := Ideal) (s := S4096x512) (φ := .bf16) .f32 (V0 (Proc.devRef .tc main_arg0)) bitsLt_bf16_f32)
    fun j => X.ins.o (j 0) (j 1) := (h.o.ext _).congr fun j => congrArg X.o (eq_ix2 j)

theorem v56 : Is (s := S4096x1024) (res_main_v56 V0) fun j => X.ins.y1 (j 0) (j 1) :=
  ((dot_out (f := X.ins.cat) (Is.beside (attn h) (conv h) rfl concatenates_S4096x512_S4096x512_S4096x1024_d1) (v1 h)).add
    (Is.constIn Is.word_zero bcast_S_S4096x1024)).congr fun j => by rw [add_zero]; exact sum_cat X.ins (j 0) (j 1)

theorem v57 : Is (s := S1x1024) (res_main_v57 V0) fun j => X.ins.g1 (j 1) :=
  h.md.pickRow 0 slices_S8x1024_S1x1024_0_0 shapeCasts_S1x1024_S1024 bcast_S1024_S1x1024_1

theorem v60 : Is (s := S4096x1024) (res_main_v60 V0) fun j => X.ins.x1 (j 0) (j 1) :=
  (h.x.congr fun j => congrArg X.x (eq_ix2 j)).add (φ := .f32) (((v57 h).rowIn bcast_S1x1024_S4096x1024_0_1).mul (φ := .f32) (v56 h))

theorem v67 : Is (s := S4096x1) (res_main_v67 V0) fun j => X.ins.m2 (j 0) :=
  ((((((v60 h).mul (φ := .f32) (v60 h)).hsumRow zero reducesTo_S4096x1024_S4096_d1 h_S_).listCol bcast_S4096_S4096x1_0).hdiv (φ := .f32)
    (Is.constIn Is.word_1024 bcast_S_S4096x1) fun _ => by norm_num)).add (Is.constIn Is.word_eps bcast_S_S4096x1)

theorem v68 : Is (s := S4096x1) (res_main_v68 V0) fun j => X.ins.r2 (j 0) :=
  (v67 h).hrsqrt (φ := .f32) fun j => X.ins.m2_pos (j 0)

theorem v73 : Is (s := S4096x1024) (res_main_v73 V0) fun j => X.ins.xn1 (j 0) (j 1) :=
  (v60 h).mul (φ := .f32) ((v68 h).colIn bcast_S4096x1_S4096x1024_0_1)

theorem v76 : Is (s := S1x1024) (res_main_v76 V0) fun j => 1 + X.ins.sc2 (j 1) :=
  ((Is.constIn Is.word_one bcast_S_S1024).add (φ := .f32) (h.md.pick 2 slices_S8x1024_S1x1024_2_0 shapeCasts_S1x1024_S1024)).listRow
    bcast_S1024_S1x1024_1

theorem v81 : Is (s := S4096x1024) (res_main_v81 V0) fun j => X.ins.h2 (j 0) (j 1) :=
  ((v73 h).mul (φ := .f32) ((v76 h).rowIn bcast_S1x1024_S4096x1024_0_1)).add (φ := .f32)
    ((h.md.pickRow 1 slices_S8x1024_S1x1024_1_0 shapeCasts_S1x1024_S1024 bcast_S1024_S1x1024_1).rowIn bcast_S1x1024_S4096x1024_0_1)

theorem v83 : Is (s := S4096x4096) (res_main_v83 V0) fun j => X.ins.a (j 0) (j 1) :=
  ((dot_up (v81 h) (v15 h)).add (Is.constIn Is.word_zero bcast_S_S4096x4096)).congr fun _ => add_zero _

theorem v84 : Is (s := S4096x4096) (res_main_v84 V0) fun j => X.ins.ra (j 0) (j 1) :=
  (v83 h).max (φ := .f32) (Is.constIn Is.word_zero bcast_S_S4096x4096)

theorem v88 : Is (s := S4096x4096) (res_main_v88 V0) fun j => X.ins.r (j 0) (j 1) := (v84 h).mul (φ := .f32) (v84 h)

theorem v92 : Is (s := S4096x1024) (res_main_v92 V0) fun j => X.ins.y2 (j 0) (j 1) :=
  ((dot_down (v88 h) (v2 h)).add (Is.constIn Is.word_zero bcast_S_S4096x1024)).congr fun _ => add_zero _

theorem v93 : Is (s := S1x1024) (res_main_v93 V0) fun j => X.ins.g2 (j 1) :=
  h.md.pickRow 3 slices_S8x1024_S1x1024_3_0 shapeCasts_S1x1024_S1024 bcast_S1024_S1x1024_1

theorem v96 : Is (s := S4096x1024) (res_main_v96 V0) fun j => X.ins.x2 (j 0) (j 1) :=
  (v60 h).add (φ := .f32) (((v93 h).rowIn bcast_S1x1024_S4096x1024_0_1).mul (φ := .f32) (v92 h))

theorem v103 : Is (s := S4096x1) (res_main_v103 V0) fun j => X.ins.m3 (j 0) :=
  ((((((v96 h).mul (φ := .f32) (v96 h)).hsumRow zero reducesTo_S4096x1024_S4096_d1 h_S_).listCol bcast_S4096_S4096x1_0).hdiv (φ := .f32)
    (Is.constIn Is.word_1024 bcast_S_S4096x1) fun _ => by norm_num)).add (Is.constIn Is.word_eps bcast_S_S4096x1)

theorem v104 : Is (s := S4096x1) (res_main_v104 V0) fun j => X.ins.r3 (j 0) :=
  (v103 h).hrsqrt (φ := .f32) fun j => X.ins.m3_pos (j 0)

theorem v109 : Is (s := S4096x1024) (res_main_v109 V0) fun j => X.ins.xn3 (j 0) (j 1) :=
  (v96 h).mul (φ := .f32) ((v104 h).colIn bcast_S4096x1_S4096x1024_0_1)

theorem v110 : Is (s := S1x1024) (res_main_v110 V0) fun j => X.ins.gf (j 1) :=
  (h.gf.unRow shapeCasts_S1x1024_S1024).listRow bcast_S1024_S1x1024_1

theorem v113 : Is (s := S4096x1024) (res_main_v113 V0) fun j => X.ins.diff (j 0) (j 1) :=
  ((v109 h).mul (φ := .f32) ((v110 h).rowIn bcast_S1x1024_S4096x1024_0_1)).sub (φ := .f32)
    (h.tgt.congr fun j => congrArg X.tgt (eq_ix2 j))

end Cert.Mlp.Ref

end
-- ==== Proof.RefBack.lean ====
/-
  The reference read over the reals, backward: every gradient array the reference returns holds the model's array.
-/
module

public import proofs.«01_k».proof.Proof.RefFwd

@[expose] public section

set_option maxRecDepth 16384

noncomputable section

namespace Cert.Mlp.Ref

open Idealize.ShloMosaic Idealize.ShloMosaic.TcCoe
open Cert.ReferenceIdeal Cert.ReferenceIdeal.Gen Cert.ReferenceIdeal.Value

/-! ## Two shapes of term that occur more than once -/

/-- A norm's correction factor, one number per token, repeated along the row: `x` is the normalised array's
    numerator, `g` the gradient arriving, `q` the inverse root and `p` the mean square. -/
theorem spread {x g : FVec Ideal S4096x1024 .f32} {r m : FVec Ideal S4096x1 .f32} {fx fg : Fin 4096 → Fin 1024 → ℝ}
    {q p : Fin 4096 → ℝ} (hx : Is x fun j => fx (j 0) (j 1)) (hg : Is g fun j => fg (j 0) (j 1)) (hr : Is r fun j => q (j 0))
    (hm : Is m fun j => p (j 0)) (hp : ∀ t, p t ≠ 0) :
    Is (broadcastInDim S4096x1024 ![0] bcast_S4096_S4096x1024_0 (Host.reduceAdd (Host.divf (mulf (shapeCast S4096x1
      (Host.reduceAdd (mulf x g) (constant S_ .f32 0x00000000#32) reducesTo_S4096x1024_S4096_d1 h_S_) shapeCasts_S4096_S4096x1)
      (mulf (broadcastInDim S4096x1 ![] bcast_S_S4096x1 (constant S_ .f32 0xBF000000#32)) (Host.divf r m)))
      (broadcastInDim S4096x1 ![] bcast_S_S4096x1 (constant S_ .f32 0x44800000#32))) (constant S_ .f32 0x00000000#32)
      reducesTo_S4096x1_S4096_d1 h_S_))
      fun j => (∑ d, fx (j 0) d * fg (j 0) d) * (-(1 / 2) * (q (j 0) / p (j 0))) / 1024 :=
  (((((((hx.mul hg).hsumRow zero reducesTo_S4096x1024_S4096_d1 h_S_).asCol shapeCasts_S4096_S4096x1).mul (φ := .f32)
    ((Is.constIn Is.word_neg_half bcast_S_S4096x1).mul (hr.hdiv hm fun j => hp (j 0)))).hdiv (Is.constIn Is.word_1024 bcast_S_S4096x1)
    fun _ => by norm_num).hsumRow zero reducesTo_S4096x1_S4096_d1 h_S_).listCol bcast_S4096_S4096x1024_0).congr
    fun j => Fin.sum_univ_one _

/-- The sum of a matrix over its rows, as a row. -/
abbrev total (x : FVec Ideal S4096x1024 .f32) : FVec Ideal S1x1024 .f32 :=
  broadcastInDim S1x1024 ![1] bcast_S1024_S1x1024_1 (Host.reduceAdd (shapeCast S1x1024 (Host.reduceAdd x
    (constant S_ .f32 0x00000000#32) reducesTo_S4096x1024_S1024_d0 h_S_) shapeCasts_S1024_S1x1024)
    (constant S_ .f32 0x00000000#32) reducesTo_S1x1024_S1024_d0 h_S_)

theorem colSums {x : FVec Ideal S4096x1024 .f32} {f : Fin 4096 → Fin 1024 → ℝ} (hx : Is x fun j => f (j 0) (j 1)) :
    Is (total x) fun j => ∑ t, f t (j 1) :=
  ((((hx.hsumCol zero reducesTo_S4096x1024_S1024_d0 h_S_).asRow shapeCasts_S1024_S1x1024).hsumCol zero reducesTo_S1x1024_S1024_d0
    h_S_).listRow bcast_S1024_S1x1024_1).congr fun j => Fin.sum_univ_one _

/-- The loss, repeated along a row, as the reference computes it from the differences `x`. -/
abbrev lossRow (x : FVec Ideal S4096x1024 .f32) : FVec Ideal S1x1024 .f32 :=
  broadcastInDim S1x1024 ![1] bcast_S1024_S1x1024_1 (broadcastInDim S1024 ![] bcast_S_S1024 (mulf (constant S_ .f32 0x3F000000#32)
    (Host.reduceAdd (Host.divf (Host.reduceAdd (mulf x x) (constant S_ .f32 0x00000000#32) reducesTo_S4096x1024_S4096_d1 h_S_)
      (broadcastInDim S4096 ![] bcast_S_S4096 (constant S_ .f32 0x44800000#32))) (constant S_ .f32 0x00000000#32)
      reducesTo_S4096_S_d0 h_S_)))

/-- A row of zeros. -/
abbrev zeroRow : FVec Ideal S1x1024 .f32 :=
  broadcastInDim S1x1024 ![1] bcast_S1024_S1x1024_1 (broadcastInDim S1024 ![] bcast_S_S1024 (constant S_ .f32 0x00000000#32))

/-- The reference's gradient through the last norm is the folded one. -/
theorem back_x2 (A : Ins) (t : Fin 4096) (d : Fin 1024) :
    A.dxn3 t d * A.r3 t + A.x2 t d * ((∑ k, A.x2 t k * A.dxn3 t k) * (-(1 / 2) * (A.r3 t / A.m3 t)) / 1024)
      + (∑ k, A.x2 t k * A.dxn3 t k) * (-(1 / 2) * (A.r3 t / A.m3 t)) / 1024 * A.x2 t d = A.dx2 t d := by
  refine (norm_back (A.m3 t) (∑ k, A.x2 t k * A.dxn3 t k) (A.dxn3 t d) (A.x2 t d) (A.m3_pos t)).trans ?_
  rw [Finset.sum_mul]
  exact congrArg (fun s : ℝ => A.r3 t * (A.dxn3 t d - A.xn3 t d * (s / 1024))) (Finset.sum_congr rfl fun k _ => by
    show A.x2 t k * A.dxn3 t k * A.r3 t = A.dxn3 t k * (A.x2 t k * A.r3 t)
    ring)

/-- The reference's gradient through the adaptive norm is the folded one. -/
theorem back_x1 (A : Ins) (t : Fin 4096) (d : Fin 1024) :
    A.dx2 t d + A.dxn1 t d * A.r2 t + A.x1 t d * ((∑ k, A.x1 t k * A.dxn1 t k) * (-(1 / 2) * (A.r2 t / A.m2 t)) / 1024)
      + (∑ k, A.x1 t k * A.dxn1 t k) * (-(1 / 2) * (A.r2 t / A.m2 t)) / 1024 * A.x1 t d = A.dx1 t d := by
  rw [add_assoc (A.dx2 t d), add_assoc (A.dx2 t d)]
  refine congrArg (A.dx2 t d + ·) ?_
  refine (norm_back (A.m2 t) (∑ k, A.x1 t k * A.dxn1 t k) (A.dxn1 t d) (A.x1 t d) (A.m2_pos t)).trans ?_
  rw [Finset.sum_mul]
  exact congrArg (fun s : ℝ => A.r2 t * (A.dxn1 t d - A.xn1 t d * (s / 1024))) (Finset.sum_congr rfl fun k _ => by
    show A.x1 t k * A.dxn1 t k * A.r2 t = A.dxn1 t k * (A.x1 t k * A.r2 t)
    ring)

/-! ## The arrays -/

variable {V0 : Valuation τ sig (Elt Ideal)} {X : Args} (h : Holds V0 X)

include h

theorem v128 : Is (s := S4096x1024) (res_main_v128 V0) fun j => X.ins.dy (j 0) (j 1) :=
  ((((((Is.const Is.word_half).mul (φ := .f32) (Is.const Is.word_one)).number bcast_S_S4096).hdiv (φ := .f32)
    (Is.constIn Is.word_1024 bcast_S_S4096) fun _ => by norm_num).listCol bcast_S4096_S4096x1024_0).mul (φ := .f32)
    ((Is.constIn Is.word_two bcast_S_S4096x1024).mul (φ := .f32) (v113 h))).congr fun j => by
      show _ = X.ins.diff (j 0) (j 1) / 1024
      ring

theorem v133 : Is (s := S4096x1024) (res_main_v133 V0) fun j => X.ins.dxn3 (j 0) (j 1) :=
  (v128 h).mul (φ := .f32) ((v110 h).rowIn bcast_S1x1024_S4096x1024_0_1)

theorem v144 : Is (s := S4096x1024) (res_main_v144 V0) fun j =>
    (∑ d, X.ins.x2 (j 0) d * X.ins.dxn3 (j 0) d) * (-(1 / 2) * (X.ins.r3 (j 0) / X.ins.m3 (j 0))) / 1024 :=
  spread (v96 h) (v133 h) (v104 h) (v103 h) fun t => (X.ins.m3_pos t).ne'

theorem v148 : Is (s := S4096x1024) (res_main_v148 V0) fun j => X.ins.dx2 (j 0) (j 1) :=
  ((((v133 h).mul (φ := .f32) ((v104 h).colIn bcast_S4096x1_S4096x1024_0_1)).add (φ := .f32) ((v96 h).mul (φ := .f32) (v144 h))).add
    (φ := .f32) ((v144 h).mul (φ := .f32) (v96 h))).congr fun j => back_x2 X.ins (j 0) (j 1)

theorem v150 : Is (s := S4096x1024) (res_main_v150 V0) fun j => X.ins.dy2 (j 0) (j 1) :=
  (((v93 h).rowIn bcast_S1x1024_S4096x1024_0_1).mul (φ := .f32) (v148 h)).congr fun _ => mul_comm _ _

theorem v158 : Is (s := S4096x4096) (res_main_v158 V0) fun j => X.ins.da (j 0) (j 1) :=
  (Is.ifPos (φ := .f32) (v83 h) (Is.constIn Is.word_zero bcast_S_S4096x4096) ((dot_downT (v150 h) (v2 h)).mul (φ := .f32)
    ((Is.constIn Is.word_two bcast_S_S4096x4096).mul (φ := .f32) (v84 h))) (Is.constIn Is.word_zero bcast_S_S4096x4096)).congr
    fun j => by
      show (if 0 < X.ins.a (j 0) (j 1) then X.ins.dr (j 0) (j 1) * (2 * X.ins.ra (j 0) (j 1)) else 0)
        = 2 * X.ins.ra (j 0) (j 1) * X.ins.dr (j 0) (j 1)
      by_cases c : 0 < X.ins.a (j 0) (j 1)
      · rw [if_pos c, mul_comm]
      · rw [if_neg c, show X.ins.ra (j 0) (j 1) = 0 from max_eq_right (not_lt.mp c), mul_zero, zero_mul]

theorem v159 : Is (s := S4096x1024) (res_main_v159 V0) fun j => X.ins.dh2 (j 0) (j 1) := dot_upT (v158 h) (v15 h)

theorem v167 : Is (s := S4096x1024) (res_main_v167 V0) fun j => X.ins.dxn1 (j 0) (j 1) :=
  (v159 h).mul (φ := .f32) ((v76 h).rowIn bcast_S1x1024_S4096x1024_0_1)

theorem v179 : Is (s := S4096x1024) (res_main_v179 V0) fun j =>
    (∑ d, X.ins.x1 (j 0) d * X.ins.dxn1 (j 0) d) * (-(1 / 2) * (X.ins.r2 (j 0) / X.ins.m2 (j 0))) / 1024 :=
  spread (v60 h) (v167 h) (v68 h) (v67 h) fun t => (X.ins.m2_pos t).ne'

theorem v183 : Is (s := S4096x1024) (res_main_v183 V0) fun j => X.ins.dx1 (j 0) (j 1) :=
  ((((v148 h).add (φ := .f32) ((v167 h).mul (φ := .f32) ((v68 h).colIn bcast_S4096x1_S4096x1024_0_1))).add (φ := .f32)
    ((v60 h).mul (φ := .f32) (v179 h))).add (φ := .f32) ((v179 h).mul (φ := .f32) (v60 h))).congr
    fun j => back_x1 X.ins (j 0) (j 1)

theorem v185 : Is (s := S4096x1024) (res_main_v185 V0) fun j => X.ins.dy1 (j 0) (j 1) :=
  (((v57 h).rowIn bcast_S1x1024_S4096x1024_0_1).mul (φ := .f32) (v183 h)).congr fun _ => mul_comm _ _

theorem v190 : Is (s := S4096x1024) (res_main_v190 V0) fun j => X.ins.dcat (j 0) (j 1) := dot_outT (v185 h) (v1 h)

theorem v192 : Is (s := S4096x512) (res_main_v192 V0) fun j => X.ins.dconv (j 0) (j 1) :=
  ((v190 h).window 0 512 slices_S4096x1024_S4096x512_0_512 (by decide) (by decide)).congr fun j =>
    congrArg (X.ins.dcat · _) (Fin.ext (Nat.zero_add _))

theorem attnGrad : Is (extractStridedSlice S4096x512 ![0, 0] (res_main_v190 V0) slices_S4096x1024_S4096x512_0_0)
    fun j => X.ins.dO (j 0) (j 1) :=
  ((v190 h).window 0 0 slices_S4096x1024_S4096x512_0_0 (by decide) (by decide)).congr fun j =>
    congrArg₂ X.ins.dcat (Fin.ext (Nat.zero_add _)) (Fin.ext (Nat.zero_add _))

theorem gateGrad : Is (mulf (F := Ideal) (s := S4096x512) (φ := .f32) (res_main_v192 V0) (res_main_v40 V0))
    fun j => X.ins.dgb (j 0) (j 1) := (v192 h).mul (v40 h)

theorem convGrad : Is (mulf (F := Ideal) (s := S4096x512) (φ := .f32) (res_main_v16 V0) (res_main_v192 V0))
    fun j => X.ins.dyv (j 0) (j 1) := ((v16 h).mul (v192 h)).congr fun _ => mul_comm _ _

/-! ## The eight rows of sums -/

theorem row0 : Is (total (mulf (res_main_v109 V0) (res_main_v128 V0))) fun j : S1x1024.Idx => X.ins.acc 0 (j 1) :=
  (colSums (f := fun t d => X.ins.xn3 t d * X.ins.dy t d) ((v109 h).mul (φ := .f32) (v128 h))).congr fun j =>
    Finset.sum_congr rfl fun _ _ => mul_comm _ _

theorem row1 : Is (total (mulf (res_main_v148 V0) (res_main_v92 V0))) fun j : S1x1024.Idx => X.ins.acc 1 (j 1) :=
  colSums (f := fun t d => X.ins.dx2 t d * X.ins.y2 t d) ((v148 h).mul (φ := .f32) (v92 h))

theorem row2 : Is (total (res_main_v159 V0)) fun j : S1x1024.Idx => X.ins.acc 2 (j 1) := colSums (f := fun t d => X.ins.dh2 t d) (v159 h)

theorem row3 : Is (total (mulf (res_main_v73 V0) (res_main_v159 V0))) fun j : S1x1024.Idx => X.ins.acc 3 (j 1) :=
  (colSums (f := fun t d => X.ins.xn1 t d * X.ins.dh2 t d) ((v73 h).mul (φ := .f32) (v159 h))).congr fun j =>
    Finset.sum_congr rfl fun _ _ => mul_comm _ _

theorem row4 : Is (lossRow (res_main_v113 V0)) fun j : S1x1024.Idx => X.ins.acc 4 (j 1) :=
  (((Is.mul (φ := .f32) (Is.const Is.word_half) ((((((v113 h).mul (φ := .f32) (v113 h)).hsumRow zero reducesTo_S4096x1024_S4096_d1
    h_S_).hdiv (φ := .f32) (Is.constIn Is.word_1024 bcast_S_S4096) fun _ => by norm_num).hsumAll zero reducesTo_S4096_S_d0
    h_S_))).number bcast_S_S1024).listRow bcast_S1024_S1x1024_1).congr fun j =>
    Finset.mul_sum Finset.univ (fun t => (∑ e, X.ins.diff t e * X.ins.diff t e) / 1024) (1 / 2)

theorem row5 : Is (total (mulf (res_main_v183 V0) (res_main_v56 V0))) fun j : S1x1024.Idx => X.ins.acc 5 (j 1) :=
  colSums (f := fun t d => X.ins.dx1 t d * X.ins.y1 t d) ((v183 h).mul (φ := .f32) (v56 h))

omit h in
theorem row67 (k : Fin 8) (hk : ∀ t d, X.ins.part k t d = 0) :
    Is zeroRow fun j : S1x1024.Idx => X.ins.acc k (j 1) :=
  ((Is.constIn Is.word_zero bcast_S_S1024).listRow bcast_S1024_S1x1024_1).congr fun j =>
    (Finset.sum_eq_zero fun t _ => hk t (j 1)).symm

theorem sums : Is (concatenate S8x1024 0 [⟨S1x1024, total (mulf (res_main_v109 V0) (res_main_v128 V0))⟩,
      ⟨S1x1024, total (mulf (res_main_v148 V0) (res_main_v92 V0))⟩, ⟨S1x1024, total (res_main_v159 V0)⟩,
      ⟨S1x1024, total (mulf (res_main_v73 V0) (res_main_v159 V0))⟩, ⟨S1x1024, lossRow (res_main_v113 V0)⟩,
      ⟨S1x1024, total (mulf (res_main_v183 V0) (res_main_v56 V0))⟩, ⟨S1x1024, zeroRow⟩, ⟨S1x1024, zeroRow⟩]
      concatenates_S1x1024_S1x1024_S1x1024_S1x1024_S1x1024_S1x1024_S1x1024_S1x1024_S8x1024_d0)
    fun j => X.ins.acc (j 0) (j 1) :=
  Is.eightRows (g := X.ins.acc) (row0 h) (row1 h) (row2 h) (row3 h) (row4 h) (row5 h)
  (row67 6 fun _ _ => rfl) (row67 7 fun _ _ => rfl)
  concatenates_S1x1024_S1x1024_S1x1024_S1x1024_S1x1024_S1x1024_S1x1024_S1x1024_S8x1024_d0

end Cert.Mlp.Ref

end
-- ==== Proof.RefValues.lean ====
/-
  What the reference's run leaves in its eleven result arrays, over the reals.
-/
module

public import proofs.«01_k».proof.Proof.RefBack

@[expose] public section

set_option maxRecDepth 16384

noncomputable section

namespace Cert.Mlp

open Idealize.ShloMosaic Idealize.ShloMosaic.TcCoe Idealize.SL.Sem Cert.ReferenceIdeal Cert.ReferenceIdeal.Gen

set_option maxHeartbeats 2000000 in
/-- On every device, from arguments that hold the reals `X`: the run ends with each result at the model's array and the
    arguments unchanged. -/
theorem reference_values (m : (ℓ : Loc nD τ sig) → Buf (Elt Ideal) ℓ) (ρ : Dev nD → PrngReg) (X : Dev nD → Args)
    (hX : ∀ c, Ref.Holds (StableHlo.launchContents m c) (X c)) :
    θ_run defs (onTc (τ := τ) (main (F := Ideal))) ⟨m, fun _ => 0, ρ⟩ fun r => ∀ c : Dev nD,
      r.2.mem ((c.tc : Thread nD τ).loc main_v207) = (arr (X c).ins.r)
      ∧ r.2.mem ((c.tc : Thread nD τ).loc main_v208) = (arr (X c).ins.da)
      ∧ r.2.mem ((c.tc : Thread nD τ).loc main_v209) = (arr (X c).ins.h2)
      ∧ r.2.mem ((c.tc : Thread nD τ).loc main_v210) = (arr (X c).ins.dy2)
      ∧ r.2.mem ((c.tc : Thread nD τ).loc main_v183) = (arr (X c).ins.dx1)
      ∧ r.2.mem ((c.tc : Thread nD τ).loc main_v211) = (arr (X c).ins.conv)
      ∧ r.2.mem ((c.tc : Thread nD τ).loc main_v206) = (arr (X c).ins.acc)
      ∧ r.2.mem ((c.tc : Thread nD τ).loc main_v212) = (arr (X c).ins.dy1)
      ∧ r.2.mem ((c.tc : Thread nD τ).loc main_v213) = (arr (X c).ins.dO)
      ∧ r.2.mem ((c.tc : Thread nD τ).loc main_v194) = (arr (X c).ins.dgb)
      ∧ r.2.mem ((c.tc : Thread nD τ).loc main_v193) = (arr (X c).ins.dyv)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r H c => by
    have h := hX c
    obtain ⟨e0, e1, e2, e3, e4, e5, e6, e7, e8, e9, e10, rest⟩ := H c
    exact ⟨e0.trans (funext ((Ref.v88 h).trunc _)),
      e1.trans (funext ((Ref.v158 h).trunc _)),
      e2.trans (funext ((Ref.v81 h).trunc _)),
      e3.trans (funext ((Ref.v150 h).trunc _)),
      e4.trans (funext (Ref.v183 h)),
      e5.trans (funext ((Ref.conv h).trunc _)),
      e6.trans (funext (Ref.sums h)),
      e7.trans (funext ((Ref.v185 h).trunc _)),
      e8.trans (funext ((Ref.attnGrad h).trunc _)),
      e9.trans (funext (Ref.gateGrad h)),
      e10.trans (funext (Ref.convGrad h)), rest⟩)
    (Value.run m ρ)

end Cert.Mlp

end
-- ==== Proof.Finite.lean ====
/-
  The precondition read back: where it holds, every entry of the ten arguments is a real number.
-/
module

public import proofs.«01_k».proof.Proof.Args
public import proofs.«01_k».proof.Pre_finite
public import Idealize.ShloMosaic.Lib.ReduceAll

@[expose] public section

set_option maxRecDepth 16384

noncomputable section

namespace Cert.Mlp

open Idealize.ShloMosaic Cert.Pre_finite

theorem finite_facts : Cert.Pre_finite.Facts where
  bitsLt_bf16_f32 := by decide
  bcast_S_S4096x512 := by decide
  reducesTo_S4096x512_S_d0_1 := by decide
  h_S_ := by decide
  bcast_S_S4352x2048 := by decide
  reducesTo_S4352x2048_S_d0_1 := by decide
  bcast_S_S4096x1024 := by decide
  reducesTo_S4096x1024_S_d0_1 := by decide
  bcast_S_S8x1024 := by decide
  reducesTo_S8x1024_S_d0_1 := by decide
  bcast_S_S1x1024 := by decide
  reducesTo_S1x1024_S_d0_1 := by decide
  bcast_S_S8x512 := by decide
  reducesTo_S8x512_S_d0_1 := by decide
  bcast_S_S1024x1024 := by decide
  reducesTo_S1024x1024_S_d0_1 := by decide
  bcast_S_S4x1024x1024 := by decide
  reducesTo_S4x1024x1024_S_d0_1_2 := by decide

theorem word_inf : Ideal.ofBits .f32 0x7F800000#32 = ⊤ := by simp [Ideal.ofBits, Ideal.ieee]

/-- An extended real whose absolute value is below infinity is a real. -/
theorem real_of_abs_lt {x : EReal} (h : max x (-x) < ⊤) : x = ((x.toReal : ℝ) : EReal) := by
  refine (EReal.coe_toReal (fun e => ?_) (fun e => ?_)).symm
  · rw [e] at h; exact absurd h (by simp)
  · rw [e] at h; exact absurd h (by simp)

/-- One array's test: where it comes out 1, the array holds reals. -/
theorem real_of_test {s : Shape} {axes : List (Fin s.rank)} (a : FVec Ideal s .f32) (hb : S_.BroadcastsInDim s (![] : Fin 0 → Fin s.rank))
    (hr : s.ReducesTo axes S_) (hu : 0 < S_.numel) (j : S_.Idx)
    (e : Host.reduce IntOp.andi (cmpf .olt (Host.absf a) (broadcastInDim s ![] hb (constant S_ .f32 0x7F800000#32)))
      (constantI S_ 1 1#1) hr hu j = 1#1) : Is a fun i => (a i).toReal := fun i => by
  have e1 := Host.reduce_andi_all _ _ _ _ j e i
  refine real_of_abs_lt ?_
  have e2 : BitVec.ofBool (decide (max (a i) (-(a i)) < Ideal.ofBits .f32 0x7F800000#32)) = 1#1 := e1
  rw [word_inf] at e2
  by_contra c
  rw [decide_eq_false c] at e2
  exact absurd e2 (by decide)

/-- Where the precondition's test comes out 1, the ten arrays hold reals. -/
theorem are_of_finite [Cert.Pre_finite.Facts] (a0 : FVec Ideal S4096x512 .bf16) (a1 : FVec Ideal S4352x2048 .f32)
    (a2 a3 : FVec Ideal S4096x1024 .f32) (a4 : FVec Ideal S8x1024 .f32) (a5 : FVec Ideal S1x1024 .f32) (a6 : FVec Ideal S8x512 .f32)
    (a7 : FVec Ideal S1024x1024 .bf16) (a8 : FVec Ideal S4x1024x1024 .bf16) (a9 : FVec Ideal S4096x1024 .bf16)
    (e : Cert.Pre_finite.fn (F := Ideal) a0 a1 a2 a3 a4 a5 a6 a7 a8 a9 = fun _ => 1#1) :
    ∃ X : Args, X.Are a0 a1 a2 a3 a4 a5 a6 a7 a8 a9 := by
  have h := congrFun e fun a => a.elim0
  unfold fn fn_part1 fn_part2 fn_part3 at h
  obtain ⟨h, e9⟩ := IntOp.andi_eq_one.1 h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact ⟨⟨_, _, _, _, _, _, _, _, _, _⟩, ⟨real_of_test (s := S4096x512) a0 _ _ _ _ e0, real_of_test a1 _ _ _ _ e1, real_of_test a2 _ _ _ _ e2,
    real_of_test a3 _ _ _ _ e3, real_of_test a4 _ _ _ _ e4, real_of_test a5 _ _ _ _ e5, real_of_test a6 _ _ _ _ e6,
    real_of_test (s := S1024x1024) a7 _ _ _ _ e7, real_of_test (s := S4x1024x1024) a8 _ _ _ _ e8,
    real_of_test (s := S4096x1024) a9 _ _ _ _ e9⟩⟩

end Cert.Mlp

end
-- ==== Proof.Grad1.lean ====
/-
  The gradient of the MLP's first weight matrix: four blocks of 1024 columns, each the product of the transposed hidden
  rows with one block of columns of the gradient before the ReLU, over all 4096 tokens. Both programs leave the same sums.
-/
module

public import proofs.«01_k».proof.Defs
public import proofs.«01_k».proof.Proof.Gen.Kernel2Ideal.Value
public import proofs.«01_k».proof.Proof.Gen.Reference2Ideal.Run
public import Idealize.ShloMosaic.Lib.Pipeline.ValueKit.Geometry
public import Idealize.ShloMosaic.Adequacy
public import Idealize.ShloMosaic.Lib.ValueLayout
public import Idealize.ShloMosaic.Lib.Pointwise.Index
public import Idealize.ShloMosaic.Lib.Pointwise.Contract
public import Idealize.ShloMosaic.Lib.KernelVsHost

@[expose] public section

set_option maxRecDepth 16384

noncomputable section

namespace Cert.Grad1

open Idealize.ShloMosaic Idealize.ShloMosaic.TcCoe Idealize.SL.Sem Cert.Kernel2Ideal Cert.Kernel2Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The column of the whole matrix that column `b` of block `a` is. -/
def col (a : Fin 4) (b : Fin 1024) : Fin 4096 := ⟨a.val * 1024 + b.val, by omega⟩

/-- The gradient, block by block: entry `(p, q)` of block `a` sums over the tokens. -/
def grad (x : S4096x1024.Idx → EReal) (y : S4096x4096.Idx → EReal) : S4x1024x1024.Idx → EReal := fun i =>
  ∑ t : Fin 4096, x (ix2 t (i 1)) * y (ix2 t (col (i 0) (i 2)))

/-! ## The kernel -/

/-- What one grid point leaves in the result's buffer: the product of its two blocks, as one block. -/
theorem out_eq {F : FTy → Type} [FloatOps F] (c : Dev nD) (i : grid0.Coords) (a3 : Memref sig .tc .vmem S4096x1024 .bf16) (h3 : a3.IsWhole)
    (a4 : Memref sig .tc .vmem S4096x1024 .bf16) (h4 : a4.IsWhole) (a5 : Memref sig .tc .vmem S1x1024x1024 .bf16) (h5 : a5.IsWhole)
    (a6 : Memref sig .tc .vmem S1024x1024 .f32) (h6 : a6.IsWhole) (hc0 : cond0_0 i) (hc1 : ¬cond0_1 i) (hc2 : cond0_2 i)
    (x y : Vec F S4096x1024 .bf16) :
    out0_A_2 c i a3 h3 a4 h4 a5 h5 a6 h6 hc0 hc1 hc2 x y = k0_pay4 (k0_pay1 x y) := by
  unfold out0_A_2
  rw [View.read_writes_eq_canon _ _ _ (cover0_A_2 c i a3 h3 a4 h4 a5 h5 a6 h6 hc0 hc1 hc2 x y)]
  unfold kernelRun0_A
  dsimp only
  sl_unfold_words
  rw [View.canon_unit_zero (S := S1x1024x1024) hz3, View.readCov_unit_zero (S := S1024x1024) _ hz2]
  unfold k0_pay2
  simp only [View.readAt_eq_ld, h3.read_unread, h4.read_unread, View.ld_unit_zero (S := S4096x1024) hz2, shapeCast_self]

/-- An entry of one point's block: a sum over the tokens. -/
theorem block_entry (x y : Vec Ideal S4096x1024 .bf16) (j : S1x1024x1024.Idx) :
    k0_pay4 (F := Ideal) (k0_pay1 x y) j = ∑ t : Fin 4096, (x (ix2 t (j 1)) : EReal) * y (ix2 t (j 2)) := by
  unfold k0_pay4
  refine (shapeCast_addUnit_apply ![1024, 1024] _ _ j).trans ?_
  refine (Ideal.matmul_constant_zero_apply (φ₁ := .bf16) (φ₂ := .bf16) dot_S4096x1024_S4096x1024_S1024x1024_0_0_1_1_n_n none x y _).trans ?_
  rw [dot_S4096x1024_S4096x1024_S1024x1024_0_0_1_1_n_n.sum_contr₁ (a := 0) rfl rfl]
  refine Finset.sum_congr rfl fun t _ => congrArg₂ (fun p q : EReal => p * q) (congrArg x ?_) (congrArg y ?_)
  · funext a
    match a with
    | ⟨0, _⟩ => rfl
    | ⟨1, _⟩ => rfl
  · funext a
    match a with
    | ⟨0, _⟩ => rfl
    | ⟨1, _⟩ => rfl

theorem at_0 : ∀ t : Fin cfg0.N, win0_0.index t = ![0, 0] := (by decide +kernel : ∀ t : Fin grid0.N, win0_0.index t = ![0, 0])
theorem at_1 : ∀ t : Fin cfg0.N, win0_1.index t = ![0, t.val] := (by decide +kernel : ∀ t : Fin grid0.N, win0_1.index t = ![0, t.val])
theorem at_2 : ∀ t : Fin cfg0.N, win0_2.index t = ![t.val, 0, 0] := (by decide +kernel : ∀ t : Fin grid0.N, win0_2.index t = ![t.val, 0, 0])

variable (m : (ℓ : Loc nD τ sig) → Buf (Elt Ideal) ℓ)

/-- The array the kernel leaves. -/
theorem final (c : Dev nD) : (dats m 0 c).arrAt 2 cfg0.N
    = grad (m ((c : Thread nD τ).loc main_arg0)) (m ((c : Thread nD τ).loc main_arg1)) := by
  funext i
  refine (dats m 0 c).arrAt_forall_of_covers 2
    (fun (i : S4x1024x1024.Idx) v => v = grad (m ((c : Thread nD τ).loc main_arg0)) (m ((c : Thread nD τ).loc main_arg1)) i)
    (by decide +kernel) (fun t hf y => ?_) i
  blk_simp
  rw [after0_2, outsAt0, out_eq]
  refine (block_entry _ _ _).trans (Finset.sum_congr rfl fun k _ => congrArg₂ (fun p q : EReal => p * q) ?_ ?_)
  · blk_simp [iblk, V]
    refine congrArg (m ((c : Thread nD τ).loc main_arg0)) ?_
    blk_ext [at_0, at_2]
  · blk_simp [iblk, V]
    refine congrArg (m ((c : Thread nD τ).loc main_arg1)) ?_
    blk_ext [at_1, at_2, col]

/-! ## The reference -/

section Reference

open Cert.Reference2Ideal Cert.Reference2Ideal.Gen

theorem ref_entry (x : FVec Ideal Cert.Reference2Ideal.S4096x1024 .f32) (y : FVec Ideal Cert.Reference2Ideal.S4096x4096 .f32) :
    shapeCast Cert.Reference2Ideal.S1024x4x1024 (transpose Cert.Reference2Ideal.S1024x4096 [1, 0] (Host.dotGeneral Cert.Reference2Ideal.dot_S4096x4096_S4096x1024_S4096x1024_0_0_1_1_n_n none y x)
      Cert.Reference2Ideal.Gen.transposes_S4096x1024_S1024x4096_1_0) Cert.Reference2Ideal.Gen.shapeCasts_S1024x4096_S1024x4x1024
    = fun i => ∑ t : Fin 4096, (x (ix2 t (i 0)) : EReal) * y (ix2 t (col (i 1) (i 2))) := by
  funext i
  refine (shapeCast_apply _ _ i (ix2 (i 0) (col (i 1) (i 2))) ?_).trans ?_
  · rw [Shape.rowMajor_val_two, Shape.rowMajor_val_three]
    show (i 0).val * 4096 + ((i 1).val * 1024 + (i 2).val) = ((i 0).val * 4 + (i 1).val) * 1024 + (i 2).val
    omega
  refine (transpose_apply _ _ _ _ (ix2 (col (i 1) (i 2)) (i 0)) fun b => ?_).trans ?_
  · match b with
    | ⟨0, _⟩ => rfl
    | ⟨1, _⟩ => rfl
  refine (Ideal.dotGeneral_apply _ none _ y x _).trans ?_
  rw [Cert.Reference2Ideal.dot_S4096x4096_S4096x1024_S4096x1024_0_0_1_1_n_n.sum_contr₁ (a := 0) rfl rfl]
  refine Finset.sum_congr rfl fun t _ => (mul_comm _ _).trans (congrArg₂ (fun p q : EReal => p * q) (congrArg x ?_) (congrArg y ?_))
  · funext a
    match a with
    | ⟨0, _⟩ => rfl
    | ⟨1, _⟩ => rfl
  · funext a
    match a with
    | ⟨0, _⟩ => rfl
    | ⟨1, _⟩ => rfl

theorem ref_final (x : FVec Ideal Cert.Reference2Ideal.S4096x1024 .bf16) (y : FVec Ideal Cert.Reference2Ideal.S4096x4096 .bf16) :
    truncf .bf16 (transpose Cert.Reference2Ideal.S4x1024x1024 [1, 0, 2] (shapeCast Cert.Reference2Ideal.S1024x4x1024 (transpose Cert.Reference2Ideal.S1024x4096 [1, 0]
      (Host.dotGeneral Cert.Reference2Ideal.dot_S4096x4096_S4096x1024_S4096x1024_0_0_1_1_n_n none (extf .f32 y Cert.Reference2Ideal.Gen.bitsLt_bf16_f32) (extf .f32 x Cert.Reference2Ideal.Gen.bitsLt_bf16_f32))
      Cert.Reference2Ideal.Gen.transposes_S4096x1024_S1024x4096_1_0) Cert.Reference2Ideal.Gen.shapeCasts_S1024x4096_S1024x4x1024)
      Cert.Reference2Ideal.Gen.transposes_S1024x4x1024_S4x1024x1024_1_0_2) Cert.Reference2Ideal.Gen.bitsLt_bf16_f32
    = grad x y := by
  funext i
  rw [ref_entry]
  show transpose Cert.Reference2Ideal.S4x1024x1024 [1, 0, 2]
    (fun i : Cert.Reference2Ideal.S1024x4x1024.Idx => ∑ t : Fin 4096, (x (ix2 t (i 0)) : EReal) * y (ix2 t (col (i 1) (i 2))))
    Cert.Reference2Ideal.Gen.transposes_S1024x4x1024_S4x1024x1024_1_0_2 i = _
  refine (transpose_apply [1, 0, 2] _ Cert.Reference2Ideal.Gen.transposes_S1024x4x1024_S4x1024x1024_1_0_2 i (ix3 (i 1) (i 0) (i 2)) fun b => ?_).trans ?_
  · match b with
    | ⟨0, _⟩ => rfl
    | ⟨1, _⟩ => rfl
    | ⟨2, _⟩ => rfl
  rfl

end Reference

/-! ## The claims of this call -/

theorem frame_reference : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem values : Cert.algebraic_Kernel2Ideal_Reference2Ideal (hKernel2Ideal := Cert.Kernel2Ideal.Gen.facts)
    (hReference2Ideal := Cert.Reference2Ideal.Gen.facts) := fun m g m' g' _ hm =>
  ⟨fun c => grad (m ((c : Thread nD τ).loc main_arg0)) (m ((c : Thread nD τ).loc main_arg1)),
    (θ_run defs _ _).mono (fun r h c => ⟨(h c).1.trans (final m c), (h c).2⟩) (Cert.Kernel2Ideal.Value.run_blocks (F := Ideal) m g),
    (θ_run Cert.Reference2Ideal.defs _ _).mono (fun r h c => ⟨(h c).1.trans ((ref_final _ _).trans (congrArg₂ grad (hm c).1 (hm c).2)), (h c).2⟩)
      (Cert.Reference2Ideal.Value.run (F := Ideal) m' g')⟩

end Cert.Grad1

end
-- ==== Proof.Grad2.lean ====
/-
  The gradient of the MLP's second weight matrix: four blocks of 1024 rows, each the product of one transposed block
  of hidden columns with the gradient of the MLP's result, over all 4096 tokens. Both programs leave the same sums.
-/
module

public import proofs.«01_k».proof.Defs
public import proofs.«01_k».proof.Proof.Gen.Kernel3Ideal.Value
public import proofs.«01_k».proof.Proof.Gen.Reference3Ideal.Run
public import Idealize.ShloMosaic.Lib.Pipeline.ValueKit.Geometry
public import Idealize.ShloMosaic.Adequacy
public import Idealize.ShloMosaic.Lib.ValueLayout
public import Idealize.ShloMosaic.Lib.Pointwise.Index
public import Idealize.ShloMosaic.Lib.Pointwise.Contract
public import Idealize.ShloMosaic.Lib.KernelVsHost

@[expose] public section

set_option maxRecDepth 16384

noncomputable section

namespace Cert.Grad2

open Idealize.ShloMosaic Idealize.ShloMosaic.TcCoe Idealize.SL.Sem Cert.Kernel3Ideal Cert.Kernel3Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The row of the whole matrix that row `b` of block `a` is. -/
def row (a : Fin 4) (b : Fin 1024) : Fin 4096 := ⟨a.val * 1024 + b.val, by omega⟩

/-- The gradient, block by block: entry `(p, q)` of block `a` sums over the tokens. -/
def grad (x : S4096x4096.Idx → EReal) (y : S4096x1024.Idx → EReal) : S4x1024x1024.Idx → EReal := fun i =>
  ∑ t : Fin 4096, x (ix2 t (row (i 0) (i 1))) * y (ix2 t (i 2))

/-! ## The kernel -/

/-- What one grid point leaves in the result's buffer: the product of its two blocks, as one block. -/
theorem out_eq {F : FTy → Type} [FloatOps F] (c : Dev nD) (i : grid0.Coords) (a3 : Memref sig .tc .vmem S4096x1024 .bf16) (h3 : a3.IsWhole)
    (a4 : Memref sig .tc .vmem S4096x1024 .bf16) (h4 : a4.IsWhole) (a5 : Memref sig .tc .vmem S1x1024x1024 .bf16) (h5 : a5.IsWhole)
    (a6 : Memref sig .tc .vmem S1024x1024 .f32) (h6 : a6.IsWhole) (hc0 : cond0_0 i) (hc1 : ¬cond0_1 i) (hc2 : cond0_2 i)
    (x y : Vec F S4096x1024 .bf16) :
    out0_A_2 c i a3 h3 a4 h4 a5 h5 a6 h6 hc0 hc1 hc2 x y = k0_pay4 (k0_pay1 x y) := by
  unfold out0_A_2
  rw [View.read_writes_eq_canon _ _ _ (cover0_A_2 c i a3 h3 a4 h4 a5 h5 a6 h6 hc0 hc1 hc2 x y)]
  unfold kernelRun0_A
  dsimp only
  sl_unfold_words
  rw [View.canon_unit_zero (S := S1x1024x1024) hz3, View.readCov_unit_zero (S := S1024x1024) _ hz2]
  unfold k0_pay2
  simp only [View.readAt_eq_ld, h3.read_unread, h4.read_unread, View.ld_unit_zero (S := S4096x1024) hz2, shapeCast_self]

/-- An entry of one point's block: a sum over the tokens. -/
theorem block_entry (x y : Vec Ideal S4096x1024 .bf16) (j : S1x1024x1024.Idx) :
    k0_pay4 (F := Ideal) (k0_pay1 x y) j = ∑ t : Fin 4096, (x (ix2 t (j 1)) : EReal) * y (ix2 t (j 2)) := by
  unfold k0_pay4
  refine (shapeCast_addUnit_apply ![1024, 1024] _ _ j).trans ?_
  refine (Ideal.matmul_constant_zero_apply (φ₁ := .bf16) (φ₂ := .bf16) dot_S4096x1024_S4096x1024_S1024x1024_0_0_1_1_n_n none x y _).trans ?_
  rw [dot_S4096x1024_S4096x1024_S1024x1024_0_0_1_1_n_n.sum_contr₁ (a := 0) rfl rfl]
  refine Finset.sum_congr rfl fun t _ => congrArg₂ (fun p q : EReal => p * q) (congrArg x ?_) (congrArg y ?_)
  · funext a
    match a with
    | ⟨0, _⟩ => rfl
    | ⟨1, _⟩ => rfl
  · funext a
    match a with
    | ⟨0, _⟩ => rfl
    | ⟨1, _⟩ => rfl

theorem at_0 : ∀ t : Fin cfg0.N, win0_0.index t = ![0, t.val] := (by decide +kernel : ∀ t : Fin grid0.N, win0_0.index t = ![0, t.val])
theorem at_1 : ∀ t : Fin cfg0.N, win0_1.index t = ![0, 0] := (by decide +kernel : ∀ t : Fin grid0.N, win0_1.index t = ![0, 0])
theorem at_2 : ∀ t : Fin cfg0.N, win0_2.index t = ![t.val, 0, 0] := (by decide +kernel : ∀ t : Fin grid0.N, win0_2.index t = ![t.val, 0, 0])

variable (m : (ℓ : Loc nD τ sig) → Buf (Elt Ideal) ℓ)

/-- The array the kernel leaves. -/
theorem final (c : Dev nD) : (dats m 0 c).arrAt 2 cfg0.N
    = grad (m ((c : Thread nD τ).loc main_arg0)) (m ((c : Thread nD τ).loc main_arg1)) := by
  funext i
  refine (dats m 0 c).arrAt_forall_of_covers 2
    (fun (i : S4x1024x1024.Idx) v => v = grad (m ((c : Thread nD τ).loc main_arg0)) (m ((c : Thread nD τ).loc main_arg1)) i)
    (by decide +kernel) (fun t hf y => ?_) i
  blk_simp
  rw [after0_2, outsAt0, out_eq]
  refine (block_entry _ _ _).trans (Finset.sum_congr rfl fun k _ => congrArg₂ (fun p q : EReal => p * q) ?_ ?_)
  · blk_simp [iblk, V]
    refine congrArg (m ((c : Thread nD τ).loc main_arg0)) ?_
    blk_ext [at_0, at_2, row]
  · blk_simp [iblk, V]
    refine congrArg (m ((c : Thread nD τ).loc main_arg1)) ?_
    blk_ext [at_1, at_2]

/-! ## The reference -/

section Reference

open Cert.Reference3Ideal Cert.Reference3Ideal.Gen

theorem ref_final (x : FVec Ideal Cert.Reference3Ideal.S4096x4096 .bf16) (y : FVec Ideal Cert.Reference3Ideal.S4096x1024 .bf16) :
    truncf .bf16 (shapeCast Cert.Reference3Ideal.S4x1024x1024 (transpose Cert.Reference3Ideal.S4096x1024 [1, 0]
      (Host.dotGeneral Cert.Reference3Ideal.dot_S4096x1024_S4096x4096_S1024x4096_0_0_1_1_n_n none (extf .f32 y Cert.Reference3Ideal.Gen.bitsLt_bf16_f32) (extf .f32 x Cert.Reference3Ideal.Gen.bitsLt_bf16_f32))
      Cert.Reference3Ideal.Gen.transposes_S1024x4096_S4096x1024_1_0) Cert.Reference3Ideal.Gen.shapeCasts_S4096x1024_S4x1024x1024)
      Cert.Reference3Ideal.Gen.bitsLt_bf16_f32
    = grad x y := by
  funext i
  show shapeCast Cert.Reference3Ideal.S4x1024x1024 (transpose Cert.Reference3Ideal.S4096x1024 [1, 0]
    (Host.dotGeneral Cert.Reference3Ideal.dot_S4096x1024_S4096x4096_S1024x4096_0_0_1_1_n_n none (extf .f32 y Cert.Reference3Ideal.Gen.bitsLt_bf16_f32) (extf .f32 x Cert.Reference3Ideal.Gen.bitsLt_bf16_f32))
    Cert.Reference3Ideal.Gen.transposes_S1024x4096_S4096x1024_1_0) Cert.Reference3Ideal.Gen.shapeCasts_S4096x1024_S4x1024x1024 i = _
  refine (shapeCast_apply _ Cert.Reference3Ideal.Gen.shapeCasts_S4096x1024_S4x1024x1024 i (ix2 (row (i 0) (i 1)) (i 2)) ?_).trans ?_
  · rw [Shape.rowMajor_val_two, Shape.rowMajor_val_three]
    rfl
  refine (transpose_apply _ _ _ _ (ix2 (i 2) (row (i 0) (i 1))) fun b => ?_).trans ?_
  · match b with
    | ⟨0, _⟩ => rfl
    | ⟨1, _⟩ => rfl
  refine (Ideal.dotGeneral_apply (φ₁ := .f32) (φ₂ := .f32) _ none _ (extf .f32 y Cert.Reference3Ideal.Gen.bitsLt_bf16_f32)
    (extf .f32 x Cert.Reference3Ideal.Gen.bitsLt_bf16_f32) _).trans ?_
  rw [Cert.Reference3Ideal.dot_S4096x1024_S4096x4096_S1024x4096_0_0_1_1_n_n.sum_contr₁ (a := 0) rfl rfl]
  refine Finset.sum_congr rfl fun t _ => (mul_comm _ _).trans (congrArg₂ (fun p q : EReal => p * q) (congrArg x ?_) (congrArg y ?_))
  · funext a
    match a with
    | ⟨0, _⟩ => rfl
    | ⟨1, _⟩ => rfl
  · funext a
    match a with
    | ⟨0, _⟩ => rfl
    | ⟨1, _⟩ => rfl

end Reference

/-! ## The claims of this call -/

theorem frame_reference : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem values : Cert.algebraic_Kernel3Ideal_Reference3Ideal (hKernel3Ideal := Cert.Kernel3Ideal.Gen.facts)
    (hReference3Ideal := Cert.Reference3Ideal.Gen.facts) := fun m g m' g' _ hm =>
  ⟨fun c => grad (m ((c : Thread nD τ).loc main_arg0)) (m ((c : Thread nD τ).loc main_arg1)),
    (θ_run defs _ _).mono (fun r h c => ⟨(h c).1.trans (final m c), (h c).2⟩) (Cert.Kernel3Ideal.Value.run_blocks (F := Ideal) m g),
    (θ_run Cert.Reference3Ideal.defs _ _).mono (fun r h c => ⟨(h c).1.trans ((ref_final _ _).trans (congrArg₂ grad (hm c).1 (hm c).2)), (h c).2⟩)
      (Cert.Reference3Ideal.Value.run (F := Ideal) m' g')⟩

end Cert.Grad2

end
-- ==== Proof.Adam4.lean ====
/-
  The optimiser's step on this device's shares of three weight matrices: the input projection, and the two that widen the
  query and the key-value rows. Each entry of the three results depends on the same entry of the weight, the gradient and
  the two running means, so the kernel's four row blocks together are the whole arrays.
-/
module

public import proofs.«01_k».proof.Defs
public import proofs.«01_k».proof.Proof.Gen.Kernel4Ideal.Value
public import proofs.«01_k».proof.Proof.Gen.Reference4Ideal.Run
public import Idealize.ShloMosaic.Adequacy
public import Idealize.ShloMosaic.Lib.KernelVsHost

@[expose] public section

set_option maxRecDepth 16384

noncomputable section

namespace Cert.Adam4

open Idealize.ShloMosaic Idealize.ShloMosaic.TcCoe Idealize.SL.Sem Cert.Kernel4Ideal Cert.Kernel4Ideal.Gen Cert.Kernel4Ideal.Value

theorem frame_reference : Cert.quiescent_Reference4Ideal (hReference4Ideal := Cert.Reference4Ideal.Gen.facts) := fun m ρ _ =>
  (θ_run Cert.Reference4Ideal.defs _ _).mono
    (fun r h => ⟨fun c => (h c).2.2.2.2.2.2.2.2.2, Idealize.ShloMosaic.sem_eq_zero_of_no_sems (by decide) r.2⟩)
    (Cert.Reference4Ideal.Value.run (F := Ideal) m ρ)

set_option maxHeartbeats 1000000 in
theorem values : Cert.algebraic_Kernel4Ideal_Reference4Ideal (hKernel4Ideal := Cert.Kernel4Ideal.Gen.facts)
    (hReference4Ideal := Cert.Reference4Ideal.Gen.facts) := fun m g m' g' _ hm =>
  ⟨fun c => G12 (F := Ideal) (m ((c : Thread nD τ).loc main_arg0)) (m ((c : Thread nD τ).loc main_arg3)) (m ((c : Thread nD τ).loc main_arg6)) (m ((c : Thread nD τ).loc main_arg9)),
    fun c => G15 (F := Ideal) (m ((c : Thread nD τ).loc main_arg3)) (m ((c : Thread nD τ).loc main_arg6)),
    fun c => G18 (F := Ideal) (m ((c : Thread nD τ).loc main_arg3)) (m ((c : Thread nD τ).loc main_arg9)),
    fun c => G13 (F := Ideal) (m ((c : Thread nD τ).loc main_arg1)) (m ((c : Thread nD τ).loc main_arg4)) (m ((c : Thread nD τ).loc main_arg7)) (m ((c : Thread nD τ).loc main_arg10)),
    fun c => G16 (F := Ideal) (m ((c : Thread nD τ).loc main_arg4)) (m ((c : Thread nD τ).loc main_arg7)),
    fun c => G19 (F := Ideal) (m ((c : Thread nD τ).loc main_arg4)) (m ((c : Thread nD τ).loc main_arg10)),
    fun c => G14 (F := Ideal) (m ((c : Thread nD τ).loc main_arg2)) (m ((c : Thread nD τ).loc main_arg5)) (m ((c : Thread nD τ).loc main_arg8)) (m ((c : Thread nD τ).loc main_arg11)),
    fun c => G17 (F := Ideal) (m ((c : Thread nD τ).loc main_arg5)) (m ((c : Thread nD τ).loc main_arg8)),
    fun c => G20 (F := Ideal) (m ((c : Thread nD τ).loc main_arg5)) (m ((c : Thread nD τ).loc main_arg11)),
    (θ_run defs _ _).mono (fun r h c => by
      obtain ⟨h0, h1, h2, h3, h4, h5, h6, h7, h8, hr⟩ := h c
      exact ⟨h0, h3, h6, h1, h4, h7, h2, h5, h8, hr⟩) (Cert.Kernel4Ideal.Value.run (F := Ideal) m g),
    (θ_run Cert.Reference4Ideal.defs _ _).mono (fun r h c => by
      obtain ⟨h0, h1, h2, h3, h4, h5, h6, h7, h8, hr⟩ := h c
      obtain ⟨e0, e1, e2, e3, e4, e5, e6, e7, e8, e9, e10, e11⟩ := hm c
      rw [e0, e3, e6, e9] at h0
      rw [e3, e6] at h1
      rw [e3, e9] at h2
      rw [e1, e4, e7, e10] at h3
      rw [e4, e7] at h4
      rw [e4, e10] at h5
      rw [e2, e5, e8, e11] at h6
      rw [e5, e8] at h7
      rw [e5, e11] at h8
      exact ⟨h0, h1, h2, h3, h4, h5, h6, h7, h8, hr⟩)
      (Cert.Reference4Ideal.Value.run (F := Ideal) m' g')⟩

end Cert.Adam4

end
-- ==== Proof.Adam5.lean ====
/-
  The gradient of the modulation's weight matrix and the optimiser's step on it: three blocks of 512 columns. An entry of the
  gradient sums, over the 16 conditioning rows, the activated row's entry times the gradient of the modulation; each entry of
  the three optimiser results depends on the same entry of the weight, that gradient and the two running means.
-/
module

public import proofs.«01_k».proof.Defs
public import proofs.«01_k».proof.Proof.Gen.Kernel5Ideal.Value
public import proofs.«01_k».proof.Proof.Gen.Reference5Ideal.Run
public import Idealize.ShloMosaic.Lib.Pipeline.ValueKit.Geometry
public import Idealize.ShloMosaic.Adequacy
public import Idealize.ShloMosaic.Lib.ValueLayout
public import Idealize.ShloMosaic.Lib.Pointwise.Index
public import Idealize.ShloMosaic.Lib.Pointwise.Contract
public import Idealize.ShloMosaic.Lib.KernelVsHost

@[expose] public section

set_option maxRecDepth 16384

noncomputable section

namespace Cert.Adam5

open Idealize.ShloMosaic Idealize.ShloMosaic.TcCoe Idealize.SL.Sem Cert.Kernel5Ideal Cert.Kernel5Ideal.Gen

theorem hz2 : (![0, 0] : Fin 2 → Nat) = fun _ => 0 := funext fun a => by fin_cases a <;> rfl

/-- The gradient: entry `(p, q)` sums over the conditioning rows. -/
def grad (s : S1024x16.Idx → EReal) (d : S16x1536.Idx → EReal) : S1024x1536.Idx → EReal := fun i =>
  ∑ k : Fin 16, s (ix2 (i 0) k) * d (ix2 k (i 1))

/-- A constant of the step, by its bits. -/
abbrev lit (b : BitVec 32) : Ideal .f32 := Scalar.ofBits .f32 b

/-- The running mean of the gradient after the step, of one entry. -/
def mean (g m : Ideal .f32) : Ideal .f32 :=
  FloatOps.addf (FloatOps.mulf (lit 0x3F666666#32) m) (FloatOps.mulf (lit 0x3DCCCCCD#32) g)

/-- The running mean of its square. -/
def var (g v : Ideal .f32) : Ideal .f32 :=
  FloatOps.addf (FloatOps.mulf (lit 0x3F7FBE77#32) v) (FloatOps.mulf (lit 0x3A83126F#32) (FloatOps.mulf g g))

/-- The change of the weight. -/
def delta (w g m v : Ideal .f32) : Ideal .f32 :=
  FloatOps.mulf (lit 0xBA83126F#32) (FloatOps.addf
    (FloatOps.divf (FloatOps.divf (mean g m) (lit 0x3F26BD02#32))
      (FloatOps.addf (FloatOps.sqrt (FloatOps.divf (var g v) (lit 0x3C231ACC#32))) (lit 0x322BCC77#32)))
    (FloatOps.mulf (lit 0x3C23D70A#32) w))

/-! ## The kernel -/

section Blocks

variable {F : FTy → Type} [FloatOps F]
variable (s : Vec F S1024x16 .f32) (d : Vec F S16x512 .f32) (w m v : Vec F S1024x512 .f32)

theorem out5_eq : out0_5 s d w m v = k0_pay1 s d := by
  unfold out0_5 r0_0 r0_1 r0_2
  rw [View.canon_unit_zero (S := S1024x512) hz2]
  simp only [View.ld_unit_zero (S := S1024x16) hz2, View.ld_unit_zero (S := S16x512) hz2]

theorem out6_eq : out0_6 s d w m v = k0_pay4 s d w m v := by
  unfold out0_6 r0_0 r0_1 r0_2
  rw [View.canon_unit_zero (S := S1024x512) hz2]
  simp only [View.ld_unit_zero (S := S1024x16) hz2, View.ld_unit_zero (S := S16x512) hz2, View.ld_unit_zero (S := S1024x512) hz2]

theorem out7_eq : out0_7 s d w m v = k0_pay2 s d m := by
  unfold out0_7 r0_0 r0_1 r0_2
  rw [View.canon_unit_zero (S := S1024x512) hz2]
  simp only [View.ld_unit_zero (S := S1024x16) hz2, View.ld_unit_zero (S := S16x512) hz2, View.ld_unit_zero (S := S1024x512) hz2]

theorem out8_eq : out0_8 s d w m v = k0_pay3 s d v := by
  unfold out0_8 r0_0 r0_1 r0_2
  rw [View.canon_unit_zero (S := S1024x512) hz2]
  simp only [View.ld_unit_zero (S := S1024x16) hz2, View.ld_unit_zero (S := S16x512) hz2, View.ld_unit_zero (S := S1024x512) hz2]

end Blocks

section Entries

variable (s : Vec Ideal S1024x16 .f32) (d : Vec Ideal S16x512 .f32) (w m v : Vec Ideal S1024x512 .f32) (j : S1024x512.Idx)

/-- An entry of one block's gradient. -/
theorem grad_entry : k0_pay1 (F := Ideal) s d j = ∑ k : Fin 16, (s (ix2 (j 0) k) : EReal) * d (ix2 k (j 1)) := by
  unfold k0_pay1
  refine (Ideal.matmul_constant_zero_apply (φ₁ := .f32) (φ₂ := .f32) dot_S1024x16_S16x512_S1024x512_1_0_0_1_n_n (some .fp32) s d _).trans ?_
  rw [dot_S1024x16_S16x512_S1024x512_1_0_0_1_n_n.sum_contr₁ (a := 1) rfl rfl]
  refine Finset.sum_congr rfl fun t _ => congrArg₂ (fun p q : EReal => p * q) (congrArg s ?_) (congrArg d ?_)
  · funext a
    match a with
    | ⟨0, _⟩ => rfl
    | ⟨1, _⟩ => rfl
  · funext a
    match a with
    | ⟨0, _⟩ => rfl
    | ⟨1, _⟩ => rfl

theorem mean_entry : k0_pay2 (F := Ideal) s d m j = mean (k0_pay1 (F := Ideal) s d j) (m j) := rfl
theorem var_entry : k0_pay3 (F := Ideal) s d v j = var (k0_pay1 (F := Ideal) s d j) (v j) := rfl
theorem delta_entry : k0_pay4 (F := Ideal) s d w m v j = delta (w j) (k0_pay1 (F := Ideal) s d j) (m j) (v j) := rfl

end Entries

theorem at_0 : ∀ t : Fin cfg0.N, win0_0.index t = ![0, 0] := (by decide +kernel : ∀ t : Fin grid0.N, win0_0.index t = ![0, 0])
theorem at_1 : ∀ t : Fin cfg0.N, win0_1.index t = ![0, t.val] := (by decide +kernel : ∀ t : Fin grid0.N, win0_1.index t = ![0, t.val])
theorem at_2 : ∀ t : Fin cfg0.N, win0_2.index t = ![0, t.val] := (by decide +kernel : ∀ t : Fin grid0.N, win0_2.index t = ![0, t.val])
theorem at_3 : ∀ t : Fin cfg0.N, win0_3.index t = ![0, t.val] := (by decide +kernel : ∀ t : Fin grid0.N, win0_3.index t = ![0, t.val])
theorem at_4 : ∀ t : Fin cfg0.N, win0_4.index t = ![0, t.val] := (by decide +kernel : ∀ t : Fin grid0.N, win0_4.index t = ![0, t.val])
theorem at_5 : ∀ t : Fin cfg0.N, win0_5.index t = ![0, t.val] := (by decide +kernel : ∀ t : Fin grid0.N, win0_5.index t = ![0, t.val])
theorem at_6 : ∀ t : Fin cfg0.N, win0_6.index t = ![0, t.val] := (by decide +kernel : ∀ t : Fin grid0.N, win0_6.index t = ![0, t.val])
theorem at_7 : ∀ t : Fin cfg0.N, win0_7.index t = ![0, t.val] := (by decide +kernel : ∀ t : Fin grid0.N, win0_7.index t = ![0, t.val])
theorem at_8 : ∀ t : Fin cfg0.N, win0_8.index t = ![0, t.val] := (by decide +kernel : ∀ t : Fin grid0.N, win0_8.index t = ![0, t.val])

variable (m : (ℓ : Loc nD τ sig) → Buf (Elt Ideal) ℓ)

/-- The gradient of the whole matrix, of the arguments on device `c`. -/
abbrev gradOf (c : Dev nD) : S1024x1536.Idx → EReal :=
  grad (m ((c : Thread nD τ).loc main_arg0)) (m ((c : Thread nD τ).loc main_arg1))

theorem final_grad (c : Dev nD) : (dats m 0 c).arrAt 5 cfg0.N = gradOf m c := by
  funext i
  refine (dats m 0 c).arrAt_forall_of_covers 5 (fun (i : S1024x1536.Idx) v => v = gradOf m c i) (by decide +kernel) (fun t hf y => ?_) i
  blk_simp
  rw [after0_5, out5_eq]
  refine (grad_entry _ _ _).trans (Finset.sum_congr rfl fun k _ => congrArg₂ (fun p q : EReal => p * q) ?_ ?_)
  · blk_simp [iblk, V]
    refine congrArg (m ((c : Thread nD τ).loc main_arg0)) ?_
    blk_ext [at_0, at_5]
  · blk_simp [iblk, V]
    refine congrArg (m ((c : Thread nD τ).loc main_arg1)) ?_
    blk_ext [at_1, at_5]

theorem final_mean (c : Dev nD) : (dats m 0 c).arrAt 7 cfg0.N
    = fun i => mean (gradOf m c i) (m ((c : Thread nD τ).loc main_arg3) i) := by
  funext i
  refine (dats m 0 c).arrAt_forall_of_covers 7
    (fun (i : S1024x1536.Idx) v => v = mean (gradOf m c i) (m ((c : Thread nD τ).loc main_arg3) i)) (by decide +kernel) (fun t hf y => ?_) i
  blk_simp
  rw [after0_7, out7_eq]
  refine (mean_entry _ _ _ _).trans (congrArg₂ mean ?_ ?_)
  · refine (grad_entry _ _ _).trans (Finset.sum_congr rfl fun k _ => congrArg₂ (fun p q : EReal => p * q) ?_ ?_)
    · blk_simp [iblk, V]
      refine congrArg (m ((c : Thread nD τ).loc main_arg0)) ?_
      blk_ext [at_0, at_7]
    · blk_simp [iblk, V]
      refine congrArg (m ((c : Thread nD τ).loc main_arg1)) ?_
      blk_ext [at_1, at_7]
  · blk_simp [iblk, V]
    refine congrArg (m ((c : Thread nD τ).loc main_arg3)) ?_
    blk_ext [at_3, at_7]

theorem final_var (c : Dev nD) : (dats m 0 c).arrAt 8 cfg0.N
    = fun i => var (gradOf m c i) (m ((c : Thread nD τ).loc main_arg4) i) := by
  funext i
  refine (dats m 0 c).arrAt_forall_of_covers 8
    (fun (i : S1024x1536.Idx) v => v = var (gradOf m c i) (m ((c : Thread nD τ).loc main_arg4) i)) (by decide +kernel) (fun t hf y => ?_) i
  blk_simp
  rw [after0_8, out8_eq]
  refine (var_entry _ _ _ _).trans (congrArg₂ var ?_ ?_)
  · refine (grad_entry _ _ _).trans (Finset.sum_congr rfl fun k _ => congrArg₂ (fun p q : EReal => p * q) ?_ ?_)
    · blk_simp [iblk, V]
      refine congrArg (m ((c : Thread nD τ).loc main_arg0)) ?_
      blk_ext [at_0, at_8]
    · blk_simp [iblk, V]
      refine congrArg (m ((c : Thread nD τ).loc main_arg1)) ?_
      blk_ext [at_1, at_8]
  · blk_simp [iblk, V]
    refine congrArg (m ((c : Thread nD τ).loc main_arg4)) ?_
    blk_ext [at_4, at_8]

theorem delta_congr {w w' g g' a a' b b' : Ideal .f32} (h : w = w') (h1 : g = g') (h2 : a = a') (h3 : b = b') :
    delta w g a b = delta w' g' a' b' := by subst h h1 h2 h3; rfl

theorem final_delta (c : Dev nD) : (dats m 0 c).arrAt 6 cfg0.N
    = fun i => delta (m ((c : Thread nD τ).loc main_arg2) i) (gradOf m c i) (m ((c : Thread nD τ).loc main_arg3) i) (m ((c : Thread nD τ).loc main_arg4) i) := by
  funext i
  refine (dats m 0 c).arrAt_forall_of_covers 6
    (fun (i : S1024x1536.Idx) v => v = delta (m ((c : Thread nD τ).loc main_arg2) i) (gradOf m c i) (m ((c : Thread nD τ).loc main_arg3) i)
      (m ((c : Thread nD τ).loc main_arg4) i)) (by decide +kernel) (fun t hf y => ?_) i
  blk_simp
  rw [after0_6, out6_eq]
  refine (delta_entry _ _ _ _ _ _).trans (delta_congr ?_ ?_ ?_ ?_)
  · blk_simp [iblk, V]
    refine congrArg (m ((c : Thread nD τ).loc main_arg2)) ?_
    blk_ext [at_2, at_6]
  · refine (grad_entry _ _ _).trans (Finset.sum_congr rfl fun k _ => congrArg₂ (fun p q : EReal => p * q) ?_ ?_)
    · blk_simp [iblk, V]
      refine congrArg (m ((c : Thread nD τ).loc main_arg0)) ?_
      blk_ext [at_0, at_6]
    · blk_simp [iblk, V]
      refine congrArg (m ((c : Thread nD τ).loc main_arg1)) ?_
      blk_ext [at_1, at_6]
  · blk_simp [iblk, V]
    refine congrArg (m ((c : Thread nD τ).loc main_arg3)) ?_
    blk_ext [at_3, at_6]
  · blk_simp [iblk, V]
    refine congrArg (m ((c : Thread nD τ).loc main_arg4)) ?_
    blk_ext [at_4, at_6]

/-! ## The reference -/

/-- The reference's gradient, a product taken the other way round and transposed. -/
theorem ref_grad (s : FVec Ideal Cert.Reference5Ideal.S1024x16 .f32) (d : FVec Ideal Cert.Reference5Ideal.S16x1536 .f32) :
    transpose Cert.Reference5Ideal.S1024x1536 [1, 0] (Host.dotGeneral Cert.Reference5Ideal.dot_S16x1536_S16x1024_S1536x1024_0_0_1_1_n_n none d
      (transpose Cert.Reference5Ideal.S16x1024 [1, 0] s Cert.Reference5Ideal.Gen.transposes_S1024x16_S16x1024_1_0))
      Cert.Reference5Ideal.Gen.transposes_S1536x1024_S1024x1536_1_0 = grad s d := by
  funext i
  refine (transpose_apply _ _ _ _ (ix2 (i 1) (i 0)) fun b => ?_).trans ?_
  · match b with
    | ⟨0, _⟩ => rfl
    | ⟨1, _⟩ => rfl
  refine (Ideal.dotGeneral_apply _ none _ d _ _).trans ?_
  rw [Cert.Reference5Ideal.dot_S16x1536_S16x1024_S1536x1024_0_0_1_1_n_n.sum_contr₁ (a := 0) rfl rfl]
  refine Finset.sum_congr rfl fun k _ => (mul_comm _ _).trans (congrArg₂ (fun p q : EReal => p * q) ?_ (congrArg d ?_))
  · refine transpose_apply _ _ _ _ (ix2 (i 0) k) fun b => ?_
    match b with
    | ⟨0, _⟩ => rfl
    | ⟨1, _⟩ => rfl
  · funext a
    match a with
    | ⟨0, _⟩ => rfl
    | ⟨1, _⟩ => rfl

/-! ## The claims of this call -/

theorem frame_reference : Cert.quiescent_Reference5Ideal (hReference5Ideal := Cert.Reference5Ideal.Gen.facts) := fun m ρ _ =>
  (θ_run Cert.Reference5Ideal.defs _ _).mono
    (fun r h => ⟨fun c => (h c).2.2.2.2, Idealize.ShloMosaic.sem_eq_zero_of_no_sems (by decide) r.2⟩)
    (Cert.Reference5Ideal.Value.run (F := Ideal) m ρ)

set_option maxHeartbeats 1000000 in
theorem values : Cert.algebraic_Kernel5Ideal_Reference5Ideal (hKernel5Ideal := Cert.Kernel5Ideal.Gen.facts)
    (hReference5Ideal := Cert.Reference5Ideal.Gen.facts) := fun m g m' g' _ hm =>
  ⟨fun c => gradOf m c,
    fun c i => delta (m ((c : Thread nD τ).loc main_arg2) i) (gradOf m c i) (m ((c : Thread nD τ).loc main_arg3) i) (m ((c : Thread nD τ).loc main_arg4) i),
    fun c i => mean (gradOf m c i) (m ((c : Thread nD τ).loc main_arg3) i),
    fun c i => var (gradOf m c i) (m ((c : Thread nD τ).loc main_arg4) i),
    (θ_run defs _ _).mono (fun r h c => by
      obtain ⟨h0, h1, h2, h3, hr⟩ := h c
      exact ⟨h0.trans (final_grad m c), h1.trans (final_delta m c), h2.trans (final_mean m c), h3.trans (final_var m c), hr⟩)
      (Cert.Kernel5Ideal.Value.run_blocks (F := Ideal) m g),
    (θ_run Cert.Reference5Ideal.defs _ _).mono (fun r h c => by
      obtain ⟨h0, h1, h2, h3, hr⟩ := h c
      obtain ⟨e0, e1, e2, e3, e4⟩ := hm c
      rw [e0, e1, ref_grad] at h0
      rw [e0, e1, e2, e3, e4, ref_grad] at h1
      rw [e0, e1, e3, ref_grad] at h2
      rw [e0, e1, e4, ref_grad] at h3
      exact ⟨h0, h1, h2, h3, hr⟩)
      (Cert.Reference5Ideal.Value.run (F := Ideal) m' g')⟩

end Cert.Adam5

end
-- ==== Proof.Adam6.lean ====
/-
  The optimiser's step on this device's share of the convolution's weights: each entry of the three results depends on the
  same entry of the weight, the gradient and the two running means.
-/
module

public import proofs.«01_k».proof.Defs
public import proofs.«01_k».proof.Proof.Gen.Kernel6Ideal.Value
public import proofs.«01_k».proof.Proof.Gen.Reference6Ideal.Run
public import Idealize.ShloMosaic.Adequacy
public import Idealize.ShloMosaic.Lib.KernelVsHost

@[expose] public section

set_option maxRecDepth 16384

noncomputable section

namespace Cert.Adam6

open Idealize.ShloMosaic Idealize.ShloMosaic.TcCoe Idealize.SL.Sem Cert.Kernel6Ideal Cert.Kernel6Ideal.Gen Cert.Kernel6Ideal.Value

theorem frame_reference : Cert.quiescent_Reference6Ideal (hReference6Ideal := Cert.Reference6Ideal.Gen.facts) := fun m ρ _ =>
  (θ_run Cert.Reference6Ideal.defs _ _).mono
    (fun r h => ⟨fun c => (h c).2.2.2, Idealize.ShloMosaic.sem_eq_zero_of_no_sems (by decide) r.2⟩)
    (Cert.Reference6Ideal.Value.run (F := Ideal) m ρ)

set_option maxHeartbeats 1000000 in
theorem values : Cert.algebraic_Kernel6Ideal_Reference6Ideal (hKernel6Ideal := Cert.Kernel6Ideal.Gen.facts)
    (hReference6Ideal := Cert.Reference6Ideal.Gen.facts) := fun m g m' g' _ hm =>
  ⟨fun c => G4 (F := Ideal) (m ((c : Thread nD τ).loc main_arg0)) (m ((c : Thread nD τ).loc main_arg1)) (m ((c : Thread nD τ).loc main_arg2)) (m ((c : Thread nD τ).loc main_arg3)),
    fun c => G5 (F := Ideal) (m ((c : Thread nD τ).loc main_arg1)) (m ((c : Thread nD τ).loc main_arg2)),
    fun c => G6 (F := Ideal) (m ((c : Thread nD τ).loc main_arg1)) (m ((c : Thread nD τ).loc main_arg3)),
    Cert.Kernel6Ideal.Value.run (F := Ideal) m g,
    (θ_run Cert.Reference6Ideal.defs _ _).mono (fun r h c => by
      obtain ⟨h0, h1, h2, hr⟩ := h c
      obtain ⟨e0, e1, e2, e3⟩ := hm c
      rw [e0, e1, e2, e3] at h0
      rw [e1, e2] at h1
      rw [e1, e3] at h2
      exact ⟨h0, h1, h2, hr⟩)
      (Cert.Reference6Ideal.Value.run (F := Ideal) m' g')⟩

end Cert.Adam6

end
-- ==== Proof.Big.lean ====
/-
  The body of the call that advances the three split weights, run part by part: from the memrefs a part touches
  to those memrefs and the values it hands on. The word that says which half is its own is held as found.
-/
module

public import proofs.«01_k».proof.Proof.Gen.Kernel7Ideal.Frame.Runs
public import Idealize.ShloMosaic.Lib.VecWindow
public import Idealize.ShloMosaic.Lib.ValueLayout
public import Idealize.ShloMosaic.Lib.Pointwise.Index
public import Idealize.ShloMosaic.Lib.Claim

@[expose] public section

set_option maxRecDepth 16384

noncomputable section

namespace Cert.Big

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

/-- A part's result may be named by any value equal to it. -/
theorem ret_eq {P : sProp 𝕄} {α : Type} {K : α → sProp 𝕄} {a b : α}
    (hP : Entails' P (K a)) (h : a = b) : Entails' P (K b) := h ▸ hP

theorem hz2 : ![0, 0] = (fun _ => 0 : Fin 2 → ℕ) := by ext a; fin_cases a <;> rfl

/-- The word of the prefetched table. -/
abbrev word (c : Dev nD) (xt : TbBuf0 (F := F) c tbM0_0) : BitVec 32 := xt (ix1 0)

theorem word_read (c : Dev nD) (xt : TbBuf0 (F := F) c tbM0_0) (x : (Rect.unit (s := S1) ![0] ![1] inb_S1_S1_0).shape.Idx) :
    View.ld (Val := Elt F) (e' := .i32) (View.read (Elt F) (View.whole main_arg0) xt) (Rect.unit (s := S1) ![0] ![1] inb_S1_S1_0) x = word c xt := by
  show xt _ = xt _
  congr 1
  exact (eq_ix1 _).trans (congrArg ix1 (Subsingleton.elim (α := Fin 1) _ _))

/-- Whether the half the point works on is the processor's own. -/
abbrev own (i : grid0.Coords) (k : BitVec 32) : BitVec 1 :=
  let arg0 : BitVec 32 := BitVec.ofNat 32 (i 0).val
  let v0 : BitVec 32 := Scalar.divsi arg0 2#32
  let v5 : BitVec 32 := Scalar.subi (Scalar.extui (Scalar.cmpi .sgt arg0 0#32)) (Scalar.extui (Scalar.cmpi .slt arg0 0#32))
  Scalar.cmpi .eq (Scalar.select (Scalar.andi (Scalar.cmpi .ne v5 1#32) (Scalar.cmpi .ne (Scalar.remsi arg0 2#32) 0#32)) (Scalar.subi v0 1#32) v0) k

section Run

variable (c : Dev nD) (i : grid0.Coords) (xt0 : TbBuf0 (F := F) c tbM0_0)
  (arg2 : Memref sig .tc .vmem S256x1024 .f32) (harg2 : arg2.IsWhole)
  (arg3 : Memref sig .tc .vmem S256x1024 .f32) (harg3 : arg3.IsWhole)
  (arg4 : Memref sig .tc .vmem S64x1024 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S64x1024 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S64x1024 .f32) (harg10 : arg10.IsWhole)
  (arg11 : Memref sig .tc .vmem S256x1024 .f32) (harg11 : arg11.IsWhole)
  (arg12 : Memref sig .tc .vmem S256x1024 .f32) (harg12 : arg12.IsWhole)
  (arg13 : Memref sig .tc .vmem S64x1024 .f32) (harg13 : arg13.IsWhole)
  (arg14 : Memref sig .tc .vmem S256x1024 .f32) (harg14 : arg14.IsWhole)
  (arg15 : Memref sig .tc .vmem S256x1024 .f32) (harg15 : arg15.IsWhole)
  (arg16 : Memref sig .tc .vmem S64x1024 .f32) (harg16 : arg16.IsWhole)
  (arg17 : Memref sig .tc .vmem S256x1024 .f32) (harg17 : arg17.IsWhole)
  (arg18 : Memref sig .tc .vmem S256x1024 .f32) (harg18 : arg18.IsWhole)
  (arg19 : Memref sig .tc .vmem S64x1024 .f32) (harg19 : arg19.IsWhole)
  (arg20 : Memref sig .tc .vmem S256x1024 .f32) (harg20 : arg20.IsWhole)
  (arg21 : Memref sig .tc .vmem S256x1024 .f32) (harg21 : arg21.IsWhole)
  (arg22 : Memref sig .tc .vmem S64x1024 .f32) (harg22 : arg22.IsWhole)
  (arg23 : Memref sig .tc .vmem S256x1024 .f32) (harg23 : arg23.IsWhole)
  (arg24 : Memref sig .tc .vmem S256x1024 .f32) (harg24 : arg24.IsWhole)
  (arg25 : Memref sig .tc .vmem S64x1024 .f32) (harg25 : arg25.IsWhole)
  (arg26 : Memref sig .tc .vmem S256x1024 .f32) (harg26 : arg26.IsWhole)
  (arg27 : Memref sig .tc .vmem S256x1024 .f32) (harg27 : arg27.IsWhole)
  (arg28 : Memref sig .tc .vmem S64x1024 .f32) (harg28 : arg28.IsWhole)
  (x0 : Vec F S256x1024 .f32)  (x1 : Vec F S256x1024 .f32)  (x2 : Vec F S64x1024 .f32)  (x3 : Vec F S256x1024 .f32)  (x4 : Vec F S256x1024 .f32)  (x5 : Vec F S64x1024 .f32)  (x6 : Vec F S256x1024 .f32)  (x7 : Vec F S256x1024 .f32)  (x8 : Vec F S64x1024 .f32)  (x9 : Vec F S256x1024 .f32)  (x10 : Vec F S256x1024 .f32)  (x11 : Vec F S64x1024 .f32)  (x12 : Vec F S256x1024 .f32)  (x13 : Vec F S256x1024 .f32)  (x14 : Vec F S64x1024 .f32)

set_option maxHeartbeats 1600000 in
/-- The first part: the word and the first weight are read. -/
theorem part1_run (E : Set ℕ) (K : (Σ' (v18 : BitVec 1) (v21 : Vec F S256x1024 .f32) (v22 : Vec F S256x1024 .f32) (v29 : FVec F S256x1024 .f32) (v35 : FVec F S256x1024 .f32), F .f32) → sProp 𝕄) :
    iprop(owns (c : Thread nD τ) arg5 fullShare x3
      ∗ owns (c : Thread nD τ) arg8 fullShare x6
      ∗ owns (c : Thread nD τ) arg2 fullShare x0
      ∗ owns (c : Thread nD τ) arg11 fullShare x9
      ∗ owns (c : Thread nD τ) arg14 fullShare x12
      ∗ tbPt0 c tbM0_0 xt0
      ∗ (iprop(owns (c : Thread nD τ) arg5 fullShare x3
      ∗ owns (c : Thread nD τ) arg8 fullShare x6
      ∗ owns (c : Thread nD τ) arg2 fullShare x0
      ∗ owns (c : Thread nD τ) arg11 fullShare x9
      ∗ owns (c : Thread nD τ) arg14 fullShare x12
      ∗ tbPt0 c tbM0_0 xt0) -∗ K ⟨(own i (word c xt0)), k0_pay4 i (word c xt0) x3 x6, x0, k0_pay5 i (word c xt0) x3 x6 x9, k0_pay6 i (word c xt0) x3 x6 x12, Scalar.ofBits .f32 0x3F26BD02#32⟩))
    ⊢ wp frame (wpE (defs₀ (F := F)) Variants.none c none) E
        (k0_part1 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  rw [k0_part1_eq_skeleton]; unfold k0_part1_skel owns
  iintro ⟨⟨%f3, %hf3, H3⟩, ⟨%f6, %hf6, H6⟩, ⟨%f0, %hf0, H0⟩, ⟨%f9, %hf9, H9⟩, ⟨%f12, %hf12, H12⟩, HT0, Hk⟩
  subst hf3
  subst hf6
  subst hf0
  subst hf9
  subst hf12
  sl_exec
  sl_step
  apply ret_eq (K := K)
  · iapply Hk
    isplitl [H3]
    · iexists _; isplitr; · ipureintro; rfl
      iexact H3
    isplitl [H6]
    · iexists _; isplitr; · ipureintro; rfl
      iexact H6
    isplitl [H0]
    · iexists _; isplitr; · ipureintro; rfl
      iexact H0
    isplitl [H9]
    · iexists _; isplitr; · ipureintro; rfl
      iexact H9
    isplitl [H12]
    · iexists _; isplitr; · ipureintro; rfl
      iexact H12
    iexact HT0
  · sl_unfold_words
    simp only [word_read, View.readAt_eq_ld, View.ld_unit_zero (S := S256x1024) hz2, View.ld_unit_zero (S := S64x1024) hz2]

set_option maxHeartbeats 1600000 in
/-- The second part: the first weight's results are stored and the second weight is read. -/
theorem part2_run (E : Set ℕ) (K : (Σ' (v55 : Vec F S256x1024 .f32) (v56 : Vec F S256x1024 .f32) (v63 : FVec F S256x1024 .f32) (v65 : FVec F S256x1024 .f32), FVec F S256x1024 .f32) → sProp 𝕄) :
    iprop(owns (c : Thread nD τ) arg6 fullShare x4
      ∗ owns (c : Thread nD τ) arg9 fullShare x7
      ∗ owns (c : Thread nD τ) arg3 fullShare x1
      ∗ owns (c : Thread nD τ) arg12 fullShare x10
      ∗ owns (c : Thread nD τ) arg15 fullShare x13
      ∗ (∃ d, owns (c : Thread nD τ) arg17 fullShare d)
      ∗ (∃ d, owns (c : Thread nD τ) arg20 fullShare d)
      ∗ (∃ d, owns (c : Thread nD τ) arg23 fullShare d)
      ∗ (∃ d, owns (c : Thread nD τ) arg26 fullShare d)
      ∗ (iprop(owns (c : Thread nD τ) arg6 fullShare x4
      ∗ owns (c : Thread nD τ) arg9 fullShare x7
      ∗ owns (c : Thread nD τ) arg3 fullShare x1
      ∗ owns (c : Thread nD τ) arg12 fullShare x10
      ∗ owns (c : Thread nD τ) arg15 fullShare x13
      ∗ owns (c : Thread nD τ) arg17 fullShare (k0_pay4 i (word c xt0) x3 x6)
      ∗ owns (c : Thread nD τ) arg20 fullShare (k0_pay7 x0 (k0_pay5 i (word c xt0) x3 x6 x9) (k0_pay6 i (word c xt0) x3 x6 x12) (Scalar.ofBits .f32 0x3F26BD02#32))
      ∗ owns (c : Thread nD τ) arg23 fullShare (k0_pay5 i (word c xt0) x3 x6 x9)
      ∗ owns (c : Thread nD τ) arg26 fullShare (k0_pay6 i (word c xt0) x3 x6 x12)) -∗ K ⟨k0_pay8 (own i (word c xt0)) x4 x7, x1, k0_pay9 (own i (word c xt0)) x4 x7 x10, k0_pay10 x13, k0_pay11 (own i (word c xt0)) x4 x7⟩))
    ⊢ wp frame (wpE (defs₀ (F := F)) Variants.none c none) E
        (k0_part2 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (own i (word c xt0)) (k0_pay4 i (word c xt0) x3 x6) x0 (k0_pay5 i (word c xt0) x3 x6 x9) (k0_pay6 i (word c xt0) x3 x6 x12) (Scalar.ofBits .f32 0x3F26BD02#32)) K := by
  rw [k0_part2_eq_skeleton]; unfold k0_part2_skel owns
  iintro ⟨⟨%f4, %hf4, H4⟩, ⟨%f7, %hf7, H7⟩, ⟨%f1, %hf1, H1⟩, ⟨%f10, %hf10, H10⟩, ⟨%f13, %hf13, H13⟩, ⟨%d15, %f15, -, H15⟩, ⟨%d18, %f18, -, H18⟩, ⟨%d21, %f21, -, H21⟩, ⟨%d24, %f24, -, H24⟩, Hk⟩
  subst hf4
  subst hf7
  subst hf1
  subst hf10
  subst hf13
  sl_exec
  sl_step
  apply ret_eq (K := K)
  · iapply Hk
    isplitl [H4]
    · iexists _; isplitr; · ipureintro; rfl
      iexact H4
    isplitl [H7]
    · iexists _; isplitr; · ipureintro; rfl
      iexact H7
    isplitl [H1]
    · iexists _; isplitr; · ipureintro; rfl
      iexact H1
    isplitl [H10]
    · iexists _; isplitr; · ipureintro; rfl
      iexact H10
    isplitl [H13]
    · iexists _; isplitr; · ipureintro; rfl
      iexact H13
    isplitl [H15]
    · iexists _; isplitr
      swap; · iexact H15
      ipureintro; exact View.read_writes_full _ _ _ _ _
    isplitl [H18]
    · iexists _; isplitr
      swap; · iexact H18
      ipureintro; exact View.read_writes_full _ _ _ _ _
    isplitl [H21]
    · iexists _; isplitr
      swap; · iexact H21
      ipureintro; exact View.read_writes_full _ _ _ _ _
    iexists _; isplitr
    swap; · iexact H24
    ipureintro; exact View.read_writes_full _ _ _ _ _
  · simp only [View.readAt_eq_ld, View.ld_unit_zero (S := S256x1024) hz2, View.ld_unit_zero (S := S64x1024) hz2]

set_option maxHeartbeats 1600000 in
/-- The third part: the second weight's results are stored and the third weight is read. -/
theorem part3_run (E : Set ℕ) (K : (Σ' (v89 : Vec F S64x1024 .f32) (v90 : Vec F S64x1024 .f32) (v92 : FVec F S64x1024 .f32) (v94 : FVec F S64x1024 .f32), FVec F S64x1024 .f32) → sProp 𝕄) :
    iprop(owns (c : Thread nD τ) arg7 fullShare x5
      ∗ owns (c : Thread nD τ) arg10 fullShare x8
      ∗ owns (c : Thread nD τ) arg4 fullShare x2
      ∗ owns (c : Thread nD τ) arg13 fullShare x11
      ∗ owns (c : Thread nD τ) arg16 fullShare x14
      ∗ (∃ d, owns (c : Thread nD τ) arg18 fullShare d)
      ∗ (∃ d, owns (c : Thread nD τ) arg21 fullShare d)
      ∗ (∃ d, owns (c : Thread nD τ) arg24 fullShare d)
      ∗ (∃ d, owns (c : Thread nD τ) arg27 fullShare d)
      ∗ (iprop(owns (c : Thread nD τ) arg7 fullShare x5
      ∗ owns (c : Thread nD τ) arg10 fullShare x8
      ∗ owns (c : Thread nD τ) arg4 fullShare x2
      ∗ owns (c : Thread nD τ) arg13 fullShare x11
      ∗ owns (c : Thread nD τ) arg16 fullShare x14
      ∗ owns (c : Thread nD τ) arg18 fullShare (k0_pay8 (own i (word c xt0)) x4 x7)
      ∗ owns (c : Thread nD τ) arg21 fullShare (k0_pay13 x1 (k0_pay9 (own i (word c xt0)) x4 x7 x10) (k0_pay10 x13) (k0_pay11 (own i (word c xt0)) x4 x7))
      ∗ owns (c : Thread nD τ) arg24 fullShare (k0_pay9 (own i (word c xt0)) x4 x7 x10)
      ∗ owns (c : Thread nD τ) arg27 fullShare (k0_pay12 (k0_pay10 x13) (k0_pay11 (own i (word c xt0)) x4 x7))) -∗ K ⟨k0_pay14 (own i (word c xt0)) x5 x8, x2, x14, k0_pay15 x11, k0_pay16 (own i (word c xt0)) x5 x8⟩))
    ⊢ wp frame (wpE (defs₀ (F := F)) Variants.none c none) E
        (k0_part3 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 (own i (word c xt0)) (k0_pay8 (own i (word c xt0)) x4 x7) x1 (k0_pay9 (own i (word c xt0)) x4 x7 x10) (k0_pay10 x13) (k0_pay11 (own i (word c xt0)) x4 x7)) K := by
  rw [k0_part3_eq_skeleton]; unfold k0_part3_skel owns
  iintro ⟨⟨%f5, %hf5, H5⟩, ⟨%f8, %hf8, H8⟩, ⟨%f2, %hf2, H2⟩, ⟨%f11, %hf11, H11⟩, ⟨%f14, %hf14, H14⟩, ⟨%d16, %f16, -, H16⟩, ⟨%d19, %f19, -, H19⟩, ⟨%d22, %f22, -, H22⟩, ⟨%d25, %f25, -, H25⟩, Hk⟩
  subst hf5
  subst hf8
  subst hf2
  subst hf11
  subst hf14
  sl_exec
  sl_step
  apply ret_eq (K := K)
  · iapply Hk
    isplitl [H5]
    · iexists _; isplitr; · ipureintro; rfl
      iexact H5
    isplitl [H8]
    · iexists _; isplitr; · ipureintro; rfl
      iexact H8
    isplitl [H2]
    · iexists _; isplitr; · ipureintro; rfl
      iexact H2
    isplitl [H11]
    · iexists _; isplitr; · ipureintro; rfl
      iexact H11
    isplitl [H14]
    · iexists _; isplitr; · ipureintro; rfl
      iexact H14
    isplitl [H16]
    · iexists _; isplitr
      swap; · iexact H16
      ipureintro; exact View.read_writes_full _ _ _ _ _
    isplitl [H19]
    · iexists _; isplitr
      swap; · iexact H19
      ipureintro; exact View.read_writes_full _ _ _ _ _
    isplitl [H22]
    · iexists _; isplitr
      swap; · iexact H22
      ipureintro; exact View.read_writes_full _ _ _ _ _
    iexists _; isplitr
    swap; · iexact H25
    ipureintro; exact View.read_writes_full _ _ _ _ _
  · simp only [View.readAt_eq_ld, View.ld_unit_zero (S := S256x1024) hz2, View.ld_unit_zero (S := S64x1024) hz2]

set_option maxHeartbeats 1600000 in
/-- The body's run: the inputs' memrefs are kept and every output's memref ends at its result. -/
theorem body_run (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare x8
      ∗ owns (c : Thread nD τ) arg11 fullShare x9
      ∗ owns (c : Thread nD τ) arg12 fullShare x10
      ∗ owns (c : Thread nD τ) arg13 fullShare x11
      ∗ owns (c : Thread nD τ) arg14 fullShare x12
      ∗ owns (c : Thread nD τ) arg15 fullShare x13
      ∗ owns (c : Thread nD τ) arg16 fullShare x14
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ (∃ d, owns (c : Thread nD τ) arg23 fullShare d)
      ∗ (∃ d, owns (c : Thread nD τ) arg24 fullShare d)
      ∗ (∃ d, owns (c : Thread nD τ) arg25 fullShare d)
      ∗ (∃ d, owns (c : Thread nD τ) arg26 fullShare d)
      ∗ (∃ d, owns (c : Thread nD τ) arg27 fullShare d)
      ∗ (∃ d, owns (c : Thread nD τ) arg28 fullShare d)
      ∗ tbPt0 c tbM0_0 xt0
      ∗ (iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare x8
      ∗ owns (c : Thread nD τ) arg11 fullShare x9
      ∗ owns (c : Thread nD τ) arg12 fullShare x10
      ∗ owns (c : Thread nD τ) arg13 fullShare x11
      ∗ owns (c : Thread nD τ) arg14 fullShare x12
      ∗ owns (c : Thread nD τ) arg15 fullShare x13
      ∗ owns (c : Thread nD τ) arg16 fullShare x14
      ∗ owns (c : Thread nD τ) arg17 fullShare (k0_pay4 i (word c xt0) x3 x6)
      ∗ owns (c : Thread nD τ) arg18 fullShare (k0_pay8 (own i (word c xt0)) x4 x7)
      ∗ owns (c : Thread nD τ) arg19 fullShare (k0_pay14 (own i (word c xt0)) x5 x8)
      ∗ owns (c : Thread nD τ) arg20 fullShare (k0_pay7 x0 (k0_pay5 i (word c xt0) x3 x6 x9) (k0_pay6 i (word c xt0) x3 x6 x12) (Scalar.ofBits .f32 0x3F26BD02#32))
      ∗ owns (c : Thread nD τ) arg21 fullShare (k0_pay13 x1 (k0_pay9 (own i (word c xt0)) x4 x7 x10) (k0_pay10 x13) (k0_pay11 (own i (word c xt0)) x4 x7))
      ∗ owns (c : Thread nD τ) arg22 fullShare (k0_pay3 (k0_pay14 (own i (word c xt0)) x5 x8) x2 x14 (k0_pay15 x11) (k0_pay16 (own i (word c xt0)) x5 x8))
      ∗ owns (c : Thread nD τ) arg23 fullShare (k0_pay5 i (word c xt0) x3 x6 x9)
      ∗ owns (c : Thread nD τ) arg24 fullShare (k0_pay9 (own i (word c xt0)) x4 x7 x10)
      ∗ owns (c : Thread nD τ) arg25 fullShare (k0_pay1 (k0_pay15 x11) (k0_pay16 (own i (word c xt0)) x5 x8))
      ∗ owns (c : Thread nD τ) arg26 fullShare (k0_pay6 i (word c xt0) x3 x6 x12)
      ∗ owns (c : Thread nD τ) arg27 fullShare (k0_pay12 (k0_pay10 x13) (k0_pay11 (own i (word c xt0)) x4 x7))
      ∗ owns (c : Thread nD τ) arg28 fullShare (k0_pay2 (k0_pay14 (own i (word c xt0)) x5 x8) x14)
      ∗ tbPt0 c tbM0_0 xt0) -∗ K ⟨⟩))
    ⊢ wp frame (wpE (defs₀ (F := F)) Variants.none c none) E
        (cc0_adamw_big i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  rw [cc0_adamw_big_eq_skeleton]; unfold cc0_adamw_big_skel
  iintro ⟨H0, H1, H2, H3, H4, H5, H6, H7, H8, H9, H10, H11, H12, H13, H14, H15, H16, H17, H18, H19, H20, H21, H22, H23, H24, H25, H26, HT0, Hk⟩
  rw [wp_bind]
  iapply (part1_run c i xt0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x3 x6 x9 x12 E _)
  isplitl [H3]
  · iexact H3
  isplitl [H6]
  · iexact H6
  isplitl [H0]
  · iexact H0
  isplitl [H9]
  · iexact H9
  isplitl [H12]
  · iexact H12
  isplitl [HT0]
  · iexact HT0
  iintro ⟨H3, H6, H0, H9, H12, HT0⟩
  dsimp only
  rw [wp_bind]
  iapply (part2_run c i xt0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x3 x4 x6 x7 x9 x10 x12 x13 E _)
  isplitl [H4]
  · iexact H4
  isplitl [H7]
  · iexact H7
  isplitl [H1]
  · iexact H1
  isplitl [H10]
  · iexact H10
  isplitl [H13]
  · iexact H13
  isplitl [H15]
  · iexact H15
  isplitl [H18]
  · iexact H18
  isplitl [H21]
  · iexact H21
  isplitl [H24]
  · iexact H24
  iintro ⟨H4, H7, H1, H10, H13, H15, H18, H21, H24⟩
  dsimp only
  rw [wp_bind]
  iapply (part3_run c i xt0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x1 x2 x4 x5 x7 x8 x10 x11 x13 x14 E _)
  isplitl [H5]
  · iexact H5
  isplitl [H8]
  · iexact H8
  isplitl [H2]
  · iexact H2
  isplitl [H11]
  · iexact H11
  isplitl [H14]
  · iexact H14
  isplitl [H16]
  · iexact H16
  isplitl [H19]
  · iexact H19
  isplitl [H22]
  · iexact H22
  isplitl [H25]
  · iexact H25
  iintro ⟨H5, H8, H2, H11, H14, H16, H19, H22, H25⟩
  dsimp only
  unfold owns
  icases H17 with ⟨%d17, %f17, -, H17⟩
  icases H20 with ⟨%d20, %f20, -, H20⟩
  icases H23 with ⟨%d23, %f23, -, H23⟩
  icases H26 with ⟨%d26, %f26, -, H26⟩
  sl_exec
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexists _; isplitr
    swap; · iexact H17
    ipureintro; exact View.read_writes_full _ _ _ _ _
  isplitl [H18]
  · iexact H18
  isplitl [H19]
  · iexact H19
  isplitl [H20]
  · iexists _; isplitr
    swap; · iexact H20
    ipureintro; exact View.read_writes_full _ _ _ _ _
  isplitl [H21]
  · iexact H21
  isplitl [H22]
  · iexact H22
  isplitl [H23]
  · iexists _; isplitr
    swap; · iexact H23
    ipureintro; exact View.read_writes_full _ _ _ _ _
  isplitl [H24]
  · iexact H24
  isplitl [H25]
  · iexact H25
  isplitl [H26]
  · iexists _; isplitr
    swap; · iexact H26
    ipureintro; exact View.read_writes_full _ _ _ _ _
  iexact HT0

end Run

/-! ## The whole call -/

variable (m : (ℓ : Loc nD τ sig) → Buf (Elt F) ℓ) (ρ : Dev nD → PrngReg)

/-- What output 0 holds after a point. -/
def out15 (hO : Ok m) (c : Dev nD) (t : Fin (cfgM m hO).N) : Vec F S256x1024 .f32 := k0_pay4 (grid0.coords t) (word c (tbl m 0)) (iblk m hO c 3 t) (iblk m hO c 6 t)

/-- What output 1 holds after a point. -/
def out16 (hO : Ok m) (c : Dev nD) (t : Fin (cfgM m hO).N) : Vec F S256x1024 .f32 := k0_pay8 (own (grid0.coords t) (word c (tbl m 0))) (iblk m hO c 4 t) (iblk m hO c 7 t)

/-- What output 2 holds after a point. -/
def out17 (hO : Ok m) (c : Dev nD) (t : Fin (cfgM m hO).N) : Vec F S64x1024 .f32 := k0_pay14 (own (grid0.coords t) (word c (tbl m 0))) (iblk m hO c 5 t) (iblk m hO c 8 t)

/-- What output 3 holds after a point. -/
def out18 (hO : Ok m) (c : Dev nD) (t : Fin (cfgM m hO).N) : Vec F S256x1024 .f32 := k0_pay7 (iblk m hO c 0 t) (k0_pay5 (grid0.coords t) (word c (tbl m 0)) (iblk m hO c 3 t) (iblk m hO c 6 t) (iblk m hO c 9 t)) (k0_pay6 (grid0.coords t) (word c (tbl m 0)) (iblk m hO c 3 t) (iblk m hO c 6 t) (iblk m hO c 12 t)) (Scalar.ofBits .f32 0x3F26BD02#32)

/-- What output 4 holds after a point. -/
def out19 (hO : Ok m) (c : Dev nD) (t : Fin (cfgM m hO).N) : Vec F S256x1024 .f32 := k0_pay13 (iblk m hO c 1 t) (k0_pay9 (own (grid0.coords t) (word c (tbl m 0))) (iblk m hO c 4 t) (iblk m hO c 7 t) (iblk m hO c 10 t)) (k0_pay10 (iblk m hO c 13 t)) (k0_pay11 (own (grid0.coords t) (word c (tbl m 0))) (iblk m hO c 4 t) (iblk m hO c 7 t))

/-- What output 5 holds after a point. -/
def out20 (hO : Ok m) (c : Dev nD) (t : Fin (cfgM m hO).N) : Vec F S64x1024 .f32 := k0_pay3 (k0_pay14 (own (grid0.coords t) (word c (tbl m 0))) (iblk m hO c 5 t) (iblk m hO c 8 t)) (iblk m hO c 2 t) (iblk m hO c 14 t) (k0_pay15 (iblk m hO c 11 t)) (k0_pay16 (own (grid0.coords t) (word c (tbl m 0))) (iblk m hO c 5 t) (iblk m hO c 8 t))

/-- What output 6 holds after a point. -/
def out21 (hO : Ok m) (c : Dev nD) (t : Fin (cfgM m hO).N) : Vec F S256x1024 .f32 := k0_pay5 (grid0.coords t) (word c (tbl m 0)) (iblk m hO c 3 t) (iblk m hO c 6 t) (iblk m hO c 9 t)

/-- What output 7 holds after a point. -/
def out22 (hO : Ok m) (c : Dev nD) (t : Fin (cfgM m hO).N) : Vec F S256x1024 .f32 := k0_pay9 (own (grid0.coords t) (word c (tbl m 0))) (iblk m hO c 4 t) (iblk m hO c 7 t) (iblk m hO c 10 t)

/-- What output 8 holds after a point. -/
def out23 (hO : Ok m) (c : Dev nD) (t : Fin (cfgM m hO).N) : Vec F S64x1024 .f32 := k0_pay1 (k0_pay15 (iblk m hO c 11 t)) (k0_pay16 (own (grid0.coords t) (word c (tbl m 0))) (iblk m hO c 5 t) (iblk m hO c 8 t))

/-- What output 9 holds after a point. -/
def out24 (hO : Ok m) (c : Dev nD) (t : Fin (cfgM m hO).N) : Vec F S256x1024 .f32 := k0_pay6 (grid0.coords t) (word c (tbl m 0)) (iblk m hO c 3 t) (iblk m hO c 6 t) (iblk m hO c 12 t)

/-- What output 10 holds after a point. -/
def out25 (hO : Ok m) (c : Dev nD) (t : Fin (cfgM m hO).N) : Vec F S256x1024 .f32 := k0_pay12 (k0_pay10 (iblk m hO c 13 t)) (k0_pay11 (own (grid0.coords t) (word c (tbl m 0))) (iblk m hO c 4 t) (iblk m hO c 7 t))

/-- What output 11 holds after a point. -/
def out26 (hO : Ok m) (c : Dev nD) (t : Fin (cfgM m hO).N) : Vec F S64x1024 .f32 := k0_pay2 (k0_pay14 (own (grid0.coords t) (word c (tbl m 0))) (iblk m hO c 5 t) (iblk m hO c 8 t)) (iblk m hO c 14 t)

/-- What the body leaves at a point: each input's block as it was, each output's at its result. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => out15 m hO c t
    | ⟨16, _⟩ => out16 m hO c t
    | ⟨17, _⟩ => out17 m hO c t
    | ⟨18, _⟩ => out18 m hO c t
    | ⟨19, _⟩ => out19 m hO c t
    | ⟨20, _⟩ => out20 m hO c t
    | ⟨21, _⟩ => out21 m hO c t
    | ⟨22, _⟩ => out22 m hO c t
    | ⟨23, _⟩ => out23 m hO c t
    | ⟨24, _⟩ => out24 m hO c t
    | ⟨25, _⟩ => out25 m hO c t
    | ⟨26, _⟩ => out26 m hO c t
    | ⟨_ + 27, h⟩ => absurd h (Nat.not_lt.2 (Nat.le_add_left _ _))
  Φ _ := iprop(Pipeline.ΦA spec0 c ∗ Pipeline.ΦT pre0 (tbl m) c)
  q _ := fullShare
  owed _ := 0

/-- The arrays are what the call finds. -/
theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = out15 m hO c t := by dsimp only [dats]; try rfl
theorem after0_16 (hO : Ok m) (c : Dev nD) (t : Fin (cfgM m hO).N) : (dats m hO 0 c).after 16 t = out16 m hO c t := by dsimp only [dats]; try rfl
theorem after0_17 (hO : Ok m) (c : Dev nD) (t : Fin (cfgM m hO).N) : (dats m hO 0 c).after 17 t = out17 m hO c t := by dsimp only [dats]; try rfl
theorem after0_18 (hO : Ok m) (c : Dev nD) (t : Fin (cfgM m hO).N) : (dats m hO 0 c).after 18 t = out18 m hO c t := by dsimp only [dats]; try rfl
theorem after0_19 (hO : Ok m) (c : Dev nD) (t : Fin (cfgM m hO).N) : (dats m hO 0 c).after 19 t = out19 m hO c t := by dsimp only [dats]; try rfl
theorem after0_20 (hO : Ok m) (c : Dev nD) (t : Fin (cfgM m hO).N) : (dats m hO 0 c).after 20 t = out20 m hO c t := by dsimp only [dats]; try rfl
theorem after0_21 (hO : Ok m) (c : Dev nD) (t : Fin (cfgM m hO).N) : (dats m hO 0 c).after 21 t = out21 m hO c t := by dsimp only [dats]; try rfl
theorem after0_22 (hO : Ok m) (c : Dev nD) (t : Fin (cfgM m hO).N) : (dats m hO 0 c).after 22 t = out22 m hO c t := by dsimp only [dats]; try rfl
theorem after0_23 (hO : Ok m) (c : Dev nD) (t : Fin (cfgM m hO).N) : (dats m hO 0 c).after 23 t = out23 m hO c t := by dsimp only [dats]; try rfl
theorem after0_24 (hO : Ok m) (c : Dev nD) (t : Fin (cfgM m hO).N) : (dats m hO 0 c).after 24 t = out24 m hO c t := by dsimp only [dats]; try rfl
theorem after0_25 (hO : Ok m) (c : Dev nD) (t : Fin (cfgM m hO).N) : (dats m hO 0 c).after 25 t = out25 m hO c t := by dsimp only [dats]; try rfl
theorem after0_26 (hO : Ok m) (c : Dev nD) (t : Fin (cfgM m hO).N) : (dats m hO 0 c).after 26 t = out26 m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t))

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m hO 0 c).Φ t.castSucc = iprop(Pipeline.ΦA spec0 c ∗ Pipeline.ΦT pre0 (tbl m) c) from rfl, PhiT0_eq]
  unfold out15 out16 out17 out18 out19 out20 out21 out22 out23 out24 out25 out26
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (body_run c (grid0.coords t) (tbl m 0) _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [HT0]; · iexact HT0
  iintro ⟨H0, H1, H2, H3, H4, H5, H6, H7, H8, H9, H10, H11, H12, H13, H14, H15, H16, H17, H18, H19, H20, H21, H22, H23, H24, H25, H26, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 1600000 in
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ hO) ((θ_run defs _ _).mono (fun _ h => h.2) (run_main_quiescent m ρ hO))

end Cert.Big

end
-- ==== Proof.Adam7.lean ====
/-
  The optimiser's step on this device's shares of three weight matrices: the output projection and the two of the MLP. The
  summed gradient of each comes in two halves of its rows, this device's own and the other's, and a word says which of the
  two comes first. Each entry of the results then depends on the same entry of the weight, the joined gradient and the two
  running means, so the kernel's four row blocks together are the whole arrays.
-/
module

public import proofs.«01_k».proof.Defs
public import proofs.«01_k».proof.Proof.Big
public import proofs.«01_k».proof.Proof.Gen.Reference7Ideal.Run
public import Idealize.ShloMosaic.Lib.Pipeline.ValueKit.Geometry
public import Idealize.ShloMosaic.Adequacy
public import Idealize.ShloMosaic.Lib.ValueLayout
public import Idealize.ShloMosaic.Lib.Pointwise.Index
public import Idealize.ShloMosaic.Lib.KernelVsHost

@[expose] public section

set_option maxRecDepth 16384

noncomputable section

namespace Cert.Adam7

open Idealize.ShloMosaic Idealize.ShloMosaic.TcCoe Idealize.SL.Sem Cert.Kernel7Ideal Cert.Kernel7Ideal.Gen

theorem hz2 : (![0, 0] : Fin 2 → Nat) = fun _ => 0 := funext fun a => by fin_cases a <;> rfl

/-! ## One entry -/

/-- The running mean of the gradient, one step on. -/
def mean (m g : Ideal .f32) : Ideal .f32 :=
  FloatOps.addf (FloatOps.mulf (FloatOps.ofBits .f32 0x3F666666#32) m) (FloatOps.mulf (FloatOps.ofBits .f32 0x3DCCCCCD#32) g)

/-- The running mean of its square, one step on. -/
def square (v g : Ideal .f32) : Ideal .f32 :=
  FloatOps.addf (FloatOps.mulf (FloatOps.ofBits .f32 0x3F7FBE77#32) v) (FloatOps.mulf (FloatOps.ofBits .f32 0x3A83126F#32) (FloatOps.mulf g g))

/-- The change of the weight, from the two means. -/
def change (w m v : Ideal .f32) : Ideal .f32 :=
  FloatOps.mulf (FloatOps.ofBits .f32 0xBA83126F#32) (FloatOps.addf
    (FloatOps.divf (FloatOps.divf m (FloatOps.ofBits .f32 0x3F26BD02#32))
      (FloatOps.addf (FloatOps.sqrt (FloatOps.divf v (FloatOps.ofBits .f32 0x3C231ACC#32))) (FloatOps.ofBits .f32 0x322BCC77#32)))
    (FloatOps.mulf (FloatOps.ofBits .f32 0x3C23D70A#32) w))

/-- The two halves of the rows of a large gradient, joined: the half whose number is the word is this device's. -/
def big (k : BitVec 32) (mine theirs : S512x1024.Idx → Ideal .f32) : S1024x1024.Idx → Ideal .f32 := fun i =>
  if BitVec.ofNat 32 ((i 0).val / 512) = k then mine (ix2 ⟨(i 0).val % 512, Nat.mod_lt _ (by decide)⟩ (i 1))
  else theirs (ix2 ⟨(i 0).val % 512, Nat.mod_lt _ (by decide)⟩ (i 1))

/-- The same of the small one. -/
def small (k : BitVec 32) (mine theirs : S128x1024.Idx → Ideal .f32) : S256x1024.Idx → Ideal .f32 := fun i =>
  if BitVec.ofNat 32 ((i 0).val / 128) = k then mine (ix2 ⟨(i 0).val % 128, Nat.mod_lt _ (by decide)⟩ (i 1))
  else theirs (ix2 ⟨(i 0).val % 128, Nat.mod_lt _ (by decide)⟩ (i 1))

theorem select_eq_word {α : Type} (p q : BitVec 32) (a b : α) :
    Scalar.select (Scalar.cmpi .eq p q) a b = if p = q then a else b := by
  show (if BitVec.ofBool (p == q) = 1 then a else b) = _
  by_cases h : p = q
  · rw [if_pos h, if_pos]; rw [h, beq_self_eq_true]; rfl
  · rw [if_neg h, if_neg]; rw [beq_eq_false_iff_ne.mpr h]; decide

/-! ## The kernel's blocks -/

/-- The half that grid point `i` works on. -/
def half (i : grid0.Coords) : BitVec 32 :=
  let a : BitVec 32 := BitVec.ofNat 32 (i 0).val
  let q : BitVec 32 := Scalar.divsi a 2#32
  let s : BitVec 32 := Scalar.subi (Scalar.extui (Scalar.cmpi .sgt a 0#32)) (Scalar.extui (Scalar.cmpi .slt a 0#32))
  let s' : BitVec 32 := Scalar.subi (Scalar.extui (Scalar.cmpi .sgt 2#32 0#32)) (Scalar.extui (Scalar.cmpi .slt 2#32 0#32))
  Scalar.select (Scalar.andi (Scalar.cmpi .ne s s') (Scalar.cmpi .ne (Scalar.remsi a 2#32) 0#32)) (Scalar.subi q 1#32) q

theorem half_at : ∀ t : Fin grid0.N, half (grid0.coords t) = BitVec.ofNat 32 (t.val / 2) := by decide +kernel

theorem pay4_eq (i : grid0.Coords) (k : BitVec 32) (x y : Vec Ideal S256x1024 .f32) :
    k0_pay4 (F := Ideal) i k x y = Scalar.select (Scalar.cmpi .eq (half i) k) x y := rfl

/-- Nothing is asked of the word. -/
theorem ok (m : (ℓ : Loc nD τ sig) → Buf (Elt Ideal) ℓ) : Ok m := trivial

/-- Some contents of the table: no block's place depends on them. -/
def adm0 : (pcfg0 (F := Ideal)).Adm := ⟨fun | 0 => fun _ => (0#32 : BitVec 32), trivial⟩

theorem at0_0 : ∀ t : Fin grid0.N, ((cfg0 adm0).win 0).index t = ![t.val, 0] := by decide +kernel
theorem at0_1 : ∀ t : Fin grid0.N, ((cfg0 adm0).win 1).index t = ![t.val, 0] := by decide +kernel
theorem at0_2 : ∀ t : Fin grid0.N, ((cfg0 adm0).win 2).index t = ![t.val, 0] := by decide +kernel
theorem at0_3 : ∀ t : Fin grid0.N, ((cfg0 adm0).win 3).index t = ![t.val % 2, 0] := by decide +kernel
theorem at0_4 : ∀ t : Fin grid0.N, ((cfg0 adm0).win 4).index t = ![t.val % 2, 0] := by decide +kernel
theorem at0_5 : ∀ t : Fin grid0.N, ((cfg0 adm0).win 5).index t = ![t.val % 2, 0] := by decide +kernel
theorem at0_6 : ∀ t : Fin grid0.N, ((cfg0 adm0).win 6).index t = ![t.val % 2, 0] := by decide +kernel
theorem at0_7 : ∀ t : Fin grid0.N, ((cfg0 adm0).win 7).index t = ![t.val % 2, 0] := by decide +kernel
theorem at0_8 : ∀ t : Fin grid0.N, ((cfg0 adm0).win 8).index t = ![t.val % 2, 0] := by decide +kernel
theorem at0_9 : ∀ t : Fin grid0.N, ((cfg0 adm0).win 9).index t = ![t.val, 0] := by decide +kernel
theorem at0_10 : ∀ t : Fin grid0.N, ((cfg0 adm0).win 10).index t = ![t.val, 0] := by decide +kernel
theorem at0_11 : ∀ t : Fin grid0.N, ((cfg0 adm0).win 11).index t = ![t.val, 0] := by decide +kernel
theorem at0_12 : ∀ t : Fin grid0.N, ((cfg0 adm0).win 12).index t = ![t.val, 0] := by decide +kernel
theorem at0_13 : ∀ t : Fin grid0.N, ((cfg0 adm0).win 13).index t = ![t.val, 0] := by decide +kernel
theorem at0_14 : ∀ t : Fin grid0.N, ((cfg0 adm0).win 14).index t = ![t.val, 0] := by decide +kernel
theorem at0_15 : ∀ t : Fin grid0.N, ((cfg0 adm0).win 15).index t = ![t.val, 0] := by decide +kernel
theorem at0_16 : ∀ t : Fin grid0.N, ((cfg0 adm0).win 16).index t = ![t.val, 0] := by decide +kernel
theorem at0_17 : ∀ t : Fin grid0.N, ((cfg0 adm0).win 17).index t = ![t.val, 0] := by decide +kernel
theorem at0_18 : ∀ t : Fin grid0.N, ((cfg0 adm0).win 18).index t = ![t.val, 0] := by decide +kernel
theorem at0_19 : ∀ t : Fin grid0.N, ((cfg0 adm0).win 19).index t = ![t.val, 0] := by decide +kernel
theorem at0_20 : ∀ t : Fin grid0.N, ((cfg0 adm0).win 20).index t = ![t.val, 0] := by decide +kernel
theorem at0_21 : ∀ t : Fin grid0.N, ((cfg0 adm0).win 21).index t = ![t.val, 0] := by decide +kernel
theorem at0_22 : ∀ t : Fin grid0.N, ((cfg0 adm0).win 22).index t = ![t.val, 0] := by decide +kernel
theorem at0_23 : ∀ t : Fin grid0.N, ((cfg0 adm0).win 23).index t = ![t.val, 0] := by decide +kernel
theorem at0_24 : ∀ t : Fin grid0.N, ((cfg0 adm0).win 24).index t = ![t.val, 0] := by decide +kernel
theorem at0_25 : ∀ t : Fin grid0.N, ((cfg0 adm0).win 25).index t = ![t.val, 0] := by decide +kernel
theorem at0_26 : ∀ t : Fin grid0.N, ((cfg0 adm0).win 26).index t = ![t.val, 0] := by decide +kernel
theorem cov0_15 : ((cfg0 adm0).win 15).Covers := by decide +kernel
theorem cov0_16 : ((cfg0 adm0).win 16).Covers := by decide +kernel
theorem cov0_17 : ((cfg0 adm0).win 17).Covers := by decide +kernel
theorem cov0_18 : ((cfg0 adm0).win 18).Covers := by decide +kernel
theorem cov0_19 : ((cfg0 adm0).win 19).Covers := by decide +kernel
theorem cov0_20 : ((cfg0 adm0).win 20).Covers := by decide +kernel
theorem cov0_21 : ((cfg0 adm0).win 21).Covers := by decide +kernel
theorem cov0_22 : ((cfg0 adm0).win 22).Covers := by decide +kernel
theorem cov0_23 : ((cfg0 adm0).win 23).Covers := by decide +kernel
theorem cov0_24 : ((cfg0 adm0).win 24).Covers := by decide +kernel
theorem cov0_25 : ((cfg0 adm0).win 25).Covers := by decide +kernel
theorem cov0_26 : ((cfg0 adm0).win 26).Covers := by decide +kernel

variable (m : (ℓ : Loc nD τ sig) → Buf (Elt Ideal) ℓ)

/-- The entry of a large array that entry `y` of block `t` is. -/
def row (t : Fin grid0.N) (y : S256x1024.Idx) : S1024x1024.Idx :=
  ix2 ⟨t.val * 256 + (y 0).val, by have h : (y 0).val < 256 := (y 0).isLt; have h' : t.val < 4 := t.isLt; show _ < 1024; omega⟩ (y 1)

/-- The entry of a small array that entry `y` of block `t` is. -/
def srow (t : Fin grid0.N) (y : S64x1024.Idx) : S256x1024.Idx :=
  ix2 ⟨t.val * 64 + (y 0).val, by have h : (y 0).val < 64 := (y 0).isLt; have h' : t.val < 4 := t.isLt; show _ < 256; omega⟩ (y 1)

/-- The entry of a large half that entry `y` of block `t` is. -/
def hrow (t : Fin grid0.N) (y : S256x1024.Idx) : S512x1024.Idx :=
  ix2 ⟨t.val % 2 * 256 + (y 0).val, by have h : (y 0).val < 256 := (y 0).isLt; have h' : t.val % 2 < 2 := Nat.mod_lt _ (by decide); show _ < 512; omega⟩ (y 1)

/-- The entry of a small half that entry `y` of block `t` is. -/
def hsrow (t : Fin grid0.N) (y : S64x1024.Idx) : S128x1024.Idx :=
  ix2 ⟨t.val % 2 * 64 + (y 0).val, by have h : (y 0).val < 64 := (y 0).isLt; have h' : t.val % 2 < 2 := Nat.mod_lt _ (by decide); show _ < 128; omega⟩ (y 1)

theorem emb_0 (t : Fin grid0.N) (y : S256x1024.Idx) : (((cfgM m (ok m)).win 0).blk t).view.emb y = row t y := by
  blk_ext [row]
  · exact congrArg (fun n : Nat => n * 256 + (y 0).val) (congrFun (at0_0 t) 0)
  · exact (congrArg (fun n : Nat => n * 1024 + (y 1).val) (congrFun (at0_0 t) 1)).trans (by show 0 * 1024 + (y 1).val = (y 1).val; omega)
theorem emb_1 (t : Fin grid0.N) (y : S256x1024.Idx) : (((cfgM m (ok m)).win 1).blk t).view.emb y = row t y := by
  blk_ext [row]
  · exact congrArg (fun n : Nat => n * 256 + (y 0).val) (congrFun (at0_1 t) 0)
  · exact (congrArg (fun n : Nat => n * 1024 + (y 1).val) (congrFun (at0_1 t) 1)).trans (by show 0 * 1024 + (y 1).val = (y 1).val; omega)
theorem emb_2 (t : Fin grid0.N) (y : S64x1024.Idx) : (((cfgM m (ok m)).win 2).blk t).view.emb y = srow t y := by
  blk_ext [srow]
  · exact congrArg (fun n : Nat => n * 64 + (y 0).val) (congrFun (at0_2 t) 0)
  · exact (congrArg (fun n : Nat => n * 1024 + (y 1).val) (congrFun (at0_2 t) 1)).trans (by show 0 * 1024 + (y 1).val = (y 1).val; omega)
theorem emb_3 (t : Fin grid0.N) (y : S256x1024.Idx) : (((cfgM m (ok m)).win 3).blk t).view.emb y = hrow t y := by
  blk_ext [hrow]
  · exact congrArg (fun n : Nat => n * 256 + (y 0).val) (congrFun (at0_3 t) 0)
  · exact (congrArg (fun n : Nat => n * 1024 + (y 1).val) (congrFun (at0_3 t) 1)).trans (by show 0 * 1024 + (y 1).val = (y 1).val; omega)
theorem emb_4 (t : Fin grid0.N) (y : S256x1024.Idx) : (((cfgM m (ok m)).win 4).blk t).view.emb y = hrow t y := by
  blk_ext [hrow]
  · exact congrArg (fun n : Nat => n * 256 + (y 0).val) (congrFun (at0_4 t) 0)
  · exact (congrArg (fun n : Nat => n * 1024 + (y 1).val) (congrFun (at0_4 t) 1)).trans (by show 0 * 1024 + (y 1).val = (y 1).val; omega)
theorem emb_5 (t : Fin grid0.N) (y : S64x1024.Idx) : (((cfgM m (ok m)).win 5).blk t).view.emb y = hsrow t y := by
  blk_ext [hsrow]
  · exact congrArg (fun n : Nat => n * 64 + (y 0).val) (congrFun (at0_5 t) 0)
  · exact (congrArg (fun n : Nat => n * 1024 + (y 1).val) (congrFun (at0_5 t) 1)).trans (by show 0 * 1024 + (y 1).val = (y 1).val; omega)
theorem emb_6 (t : Fin grid0.N) (y : S256x1024.Idx) : (((cfgM m (ok m)).win 6).blk t).view.emb y = hrow t y := by
  blk_ext [hrow]
  · exact congrArg (fun n : Nat => n * 256 + (y 0).val) (congrFun (at0_6 t) 0)
  · exact (congrArg (fun n : Nat => n * 1024 + (y 1).val) (congrFun (at0_6 t) 1)).trans (by show 0 * 1024 + (y 1).val = (y 1).val; omega)
theorem emb_7 (t : Fin grid0.N) (y : S256x1024.Idx) : (((cfgM m (ok m)).win 7).blk t).view.emb y = hrow t y := by
  blk_ext [hrow]
  · exact congrArg (fun n : Nat => n * 256 + (y 0).val) (congrFun (at0_7 t) 0)
  · exact (congrArg (fun n : Nat => n * 1024 + (y 1).val) (congrFun (at0_7 t) 1)).trans (by show 0 * 1024 + (y 1).val = (y 1).val; omega)
theorem emb_8 (t : Fin grid0.N) (y : S64x1024.Idx) : (((cfgM m (ok m)).win 8).blk t).view.emb y = hsrow t y := by
  blk_ext [hsrow]
  · exact congrArg (fun n : Nat => n * 64 + (y 0).val) (congrFun (at0_8 t) 0)
  · exact (congrArg (fun n : Nat => n * 1024 + (y 1).val) (congrFun (at0_8 t) 1)).trans (by show 0 * 1024 + (y 1).val = (y 1).val; omega)
theorem emb_9 (t : Fin grid0.N) (y : S256x1024.Idx) : (((cfgM m (ok m)).win 9).blk t).view.emb y = row t y := by
  blk_ext [row]
  · exact congrArg (fun n : Nat => n * 256 + (y 0).val) (congrFun (at0_9 t) 0)
  · exact (congrArg (fun n : Nat => n * 1024 + (y 1).val) (congrFun (at0_9 t) 1)).trans (by show 0 * 1024 + (y 1).val = (y 1).val; omega)
theorem emb_10 (t : Fin grid0.N) (y : S256x1024.Idx) : (((cfgM m (ok m)).win 10).blk t).view.emb y = row t y := by
  blk_ext [row]
  · exact congrArg (fun n : Nat => n * 256 + (y 0).val) (congrFun (at0_10 t) 0)
  · exact (congrArg (fun n : Nat => n * 1024 + (y 1).val) (congrFun (at0_10 t) 1)).trans (by show 0 * 1024 + (y 1).val = (y 1).val; omega)
theorem emb_11 (t : Fin grid0.N) (y : S64x1024.Idx) : (((cfgM m (ok m)).win 11).blk t).view.emb y = srow t y := by
  blk_ext [srow]
  · exact congrArg (fun n : Nat => n * 64 + (y 0).val) (congrFun (at0_11 t) 0)
  · exact (congrArg (fun n : Nat => n * 1024 + (y 1).val) (congrFun (at0_11 t) 1)).trans (by show 0 * 1024 + (y 1).val = (y 1).val; omega)
theorem emb_12 (t : Fin grid0.N) (y : S256x1024.Idx) : (((cfgM m (ok m)).win 12).blk t).view.emb y = row t y := by
  blk_ext [row]
  · exact congrArg (fun n : Nat => n * 256 + (y 0).val) (congrFun (at0_12 t) 0)
  · exact (congrArg (fun n : Nat => n * 1024 + (y 1).val) (congrFun (at0_12 t) 1)).trans (by show 0 * 1024 + (y 1).val = (y 1).val; omega)
theorem emb_13 (t : Fin grid0.N) (y : S256x1024.Idx) : (((cfgM m (ok m)).win 13).blk t).view.emb y = row t y := by
  blk_ext [row]
  · exact congrArg (fun n : Nat => n * 256 + (y 0).val) (congrFun (at0_13 t) 0)
  · exact (congrArg (fun n : Nat => n * 1024 + (y 1).val) (congrFun (at0_13 t) 1)).trans (by show 0 * 1024 + (y 1).val = (y 1).val; omega)
theorem emb_14 (t : Fin grid0.N) (y : S64x1024.Idx) : (((cfgM m (ok m)).win 14).blk t).view.emb y = srow t y := by
  blk_ext [srow]
  · exact congrArg (fun n : Nat => n * 64 + (y 0).val) (congrFun (at0_14 t) 0)
  · exact (congrArg (fun n : Nat => n * 1024 + (y 1).val) (congrFun (at0_14 t) 1)).trans (by show 0 * 1024 + (y 1).val = (y 1).val; omega)
theorem emb_15 (t : Fin grid0.N) (y : S256x1024.Idx) : (((cfgM m (ok m)).win 15).blk t).view.emb y = row t y := by
  blk_ext [row]
  · exact congrArg (fun n : Nat => n * 256 + (y 0).val) (congrFun (at0_15 t) 0)
  · exact (congrArg (fun n : Nat => n * 1024 + (y 1).val) (congrFun (at0_15 t) 1)).trans (by show 0 * 1024 + (y 1).val = (y 1).val; omega)
theorem emb_16 (t : Fin grid0.N) (y : S256x1024.Idx) : (((cfgM m (ok m)).win 16).blk t).view.emb y = row t y := by
  blk_ext [row]
  · exact congrArg (fun n : Nat => n * 256 + (y 0).val) (congrFun (at0_16 t) 0)
  · exact (congrArg (fun n : Nat => n * 1024 + (y 1).val) (congrFun (at0_16 t) 1)).trans (by show 0 * 1024 + (y 1).val = (y 1).val; omega)
theorem emb_17 (t : Fin grid0.N) (y : S64x1024.Idx) : (((cfgM m (ok m)).win 17).blk t).view.emb y = srow t y := by
  blk_ext [srow]
  · exact congrArg (fun n : Nat => n * 64 + (y 0).val) (congrFun (at0_17 t) 0)
  · exact (congrArg (fun n : Nat => n * 1024 + (y 1).val) (congrFun (at0_17 t) 1)).trans (by show 0 * 1024 + (y 1).val = (y 1).val; omega)
theorem emb_18 (t : Fin grid0.N) (y : S256x1024.Idx) : (((cfgM m (ok m)).win 18).blk t).view.emb y = row t y := by
  blk_ext [row]
  · exact congrArg (fun n : Nat => n * 256 + (y 0).val) (congrFun (at0_18 t) 0)
  · exact (congrArg (fun n : Nat => n * 1024 + (y 1).val) (congrFun (at0_18 t) 1)).trans (by show 0 * 1024 + (y 1).val = (y 1).val; omega)
theorem emb_19 (t : Fin grid0.N) (y : S256x1024.Idx) : (((cfgM m (ok m)).win 19).blk t).view.emb y = row t y := by
  blk_ext [row]
  · exact congrArg (fun n : Nat => n * 256 + (y 0).val) (congrFun (at0_19 t) 0)
  · exact (congrArg (fun n : Nat => n * 1024 + (y 1).val) (congrFun (at0_19 t) 1)).trans (by show 0 * 1024 + (y 1).val = (y 1).val; omega)
theorem emb_20 (t : Fin grid0.N) (y : S64x1024.Idx) : (((cfgM m (ok m)).win 20).blk t).view.emb y = srow t y := by
  blk_ext [srow]
  · exact congrArg (fun n : Nat => n * 64 + (y 0).val) (congrFun (at0_20 t) 0)
  · exact (congrArg (fun n : Nat => n * 1024 + (y 1).val) (congrFun (at0_20 t) 1)).trans (by show 0 * 1024 + (y 1).val = (y 1).val; omega)
theorem emb_21 (t : Fin grid0.N) (y : S256x1024.Idx) : (((cfgM m (ok m)).win 21).blk t).view.emb y = row t y := by
  blk_ext [row]
  · exact congrArg (fun n : Nat => n * 256 + (y 0).val) (congrFun (at0_21 t) 0)
  · exact (congrArg (fun n : Nat => n * 1024 + (y 1).val) (congrFun (at0_21 t) 1)).trans (by show 0 * 1024 + (y 1).val = (y 1).val; omega)
theorem emb_22 (t : Fin grid0.N) (y : S256x1024.Idx) : (((cfgM m (ok m)).win 22).blk t).view.emb y = row t y := by
  blk_ext [row]
  · exact congrArg (fun n : Nat => n * 256 + (y 0).val) (congrFun (at0_22 t) 0)
  · exact (congrArg (fun n : Nat => n * 1024 + (y 1).val) (congrFun (at0_22 t) 1)).trans (by show 0 * 1024 + (y 1).val = (y 1).val; omega)
theorem emb_23 (t : Fin grid0.N) (y : S64x1024.Idx) : (((cfgM m (ok m)).win 23).blk t).view.emb y = srow t y := by
  blk_ext [srow]
  · exact congrArg (fun n : Nat => n * 64 + (y 0).val) (congrFun (at0_23 t) 0)
  · exact (congrArg (fun n : Nat => n * 1024 + (y 1).val) (congrFun (at0_23 t) 1)).trans (by show 0 * 1024 + (y 1).val = (y 1).val; omega)
theorem emb_24 (t : Fin grid0.N) (y : S256x1024.Idx) : (((cfgM m (ok m)).win 24).blk t).view.emb y = row t y := by
  blk_ext [row]
  · exact congrArg (fun n : Nat => n * 256 + (y 0).val) (congrFun (at0_24 t) 0)
  · exact (congrArg (fun n : Nat => n * 1024 + (y 1).val) (congrFun (at0_24 t) 1)).trans (by show 0 * 1024 + (y 1).val = (y 1).val; omega)
theorem emb_25 (t : Fin grid0.N) (y : S256x1024.Idx) : (((cfgM m (ok m)).win 25).blk t).view.emb y = row t y := by
  blk_ext [row]
  · exact congrArg (fun n : Nat => n * 256 + (y 0).val) (congrFun (at0_25 t) 0)
  · exact (congrArg (fun n : Nat => n * 1024 + (y 1).val) (congrFun (at0_25 t) 1)).trans (by show 0 * 1024 + (y 1).val = (y 1).val; omega)
theorem emb_26 (t : Fin grid0.N) (y : S64x1024.Idx) : (((cfgM m (ok m)).win 26).blk t).view.emb y = srow t y := by
  blk_ext [srow]
  · exact congrArg (fun n : Nat => n * 64 + (y 0).val) (congrFun (at0_26 t) 0)
  · exact (congrArg (fun n : Nat => n * 1024 + (y 1).val) (congrFun (at0_26 t) 1)).trans (by show 0 * 1024 + (y 1).val = (y 1).val; omega)
theorem in_0 (c : Dev nD) (t : Fin grid0.N) (y : S256x1024.Idx) :
    iblk m (ok m) c 0 t y = m ((c : Thread nD τ).loc main_arg1) (row t y) := congrArg (m ((c : Thread nD τ).loc main_arg1)) (emb_0 m t y)
theorem in_1 (c : Dev nD) (t : Fin grid0.N) (y : S256x1024.Idx) :
    iblk m (ok m) c 1 t y = m ((c : Thread nD τ).loc main_arg2) (row t y) := congrArg (m ((c : Thread nD τ).loc main_arg2)) (emb_1 m t y)
theorem in_2 (c : Dev nD) (t : Fin grid0.N) (y : S64x1024.Idx) :
    iblk m (ok m) c 2 t y = m ((c : Thread nD τ).loc main_arg3) (srow t y) := congrArg (m ((c : Thread nD τ).loc main_arg3)) (emb_2 m t y)
theorem in_3 (c : Dev nD) (t : Fin grid0.N) (y : S256x1024.Idx) :
    iblk m (ok m) c 3 t y = m ((c : Thread nD τ).loc main_arg4) (hrow t y) := congrArg (m ((c : Thread nD τ).loc main_arg4)) (emb_3 m t y)
theorem in_4 (c : Dev nD) (t : Fin grid0.N) (y : S256x1024.Idx) :
    iblk m (ok m) c 4 t y = m ((c : Thread nD τ).loc main_arg5) (hrow t y) := congrArg (m ((c : Thread nD τ).loc main_arg5)) (emb_4 m t y)
theorem in_5 (c : Dev nD) (t : Fin grid0.N) (y : S64x1024.Idx) :
    iblk m (ok m) c 5 t y = m ((c : Thread nD τ).loc main_arg6) (hsrow t y) := congrArg (m ((c : Thread nD τ).loc main_arg6)) (emb_5 m t y)
theorem in_6 (c : Dev nD) (t : Fin grid0.N) (y : S256x1024.Idx) :
    iblk m (ok m) c 6 t y = m ((c : Thread nD τ).loc main_arg7) (hrow t y) := congrArg (m ((c : Thread nD τ).loc main_arg7)) (emb_6 m t y)
theorem in_7 (c : Dev nD) (t : Fin grid0.N) (y : S256x1024.Idx) :
    iblk m (ok m) c 7 t y = m ((c : Thread nD τ).loc main_arg8) (hrow t y) := congrArg (m ((c : Thread nD τ).loc main_arg8)) (emb_7 m t y)
theorem in_8 (c : Dev nD) (t : Fin grid0.N) (y : S64x1024.Idx) :
    iblk m (ok m) c 8 t y = m ((c : Thread nD τ).loc main_arg9) (hsrow t y) := congrArg (m ((c : Thread nD τ).loc main_arg9)) (emb_8 m t y)
theorem in_9 (c : Dev nD) (t : Fin grid0.N) (y : S256x1024.Idx) :
    iblk m (ok m) c 9 t y = m ((c : Thread nD τ).loc main_arg10) (row t y) := congrArg (m ((c : Thread nD τ).loc main_arg10)) (emb_9 m t y)
theorem in_10 (c : Dev nD) (t : Fin grid0.N) (y : S256x1024.Idx) :
    iblk m (ok m) c 10 t y = m ((c : Thread nD τ).loc main_arg11) (row t y) := congrArg (m ((c : Thread nD τ).loc main_arg11)) (emb_10 m t y)
theorem in_11 (c : Dev nD) (t : Fin grid0.N) (y : S64x1024.Idx) :
    iblk m (ok m) c 11 t y = m ((c : Thread nD τ).loc main_arg12) (srow t y) := congrArg (m ((c : Thread nD τ).loc main_arg12)) (emb_11 m t y)
theorem in_12 (c : Dev nD) (t : Fin grid0.N) (y : S256x1024.Idx) :
    iblk m (ok m) c 12 t y = m ((c : Thread nD τ).loc main_arg13) (row t y) := congrArg (m ((c : Thread nD τ).loc main_arg13)) (emb_12 m t y)
theorem in_13 (c : Dev nD) (t : Fin grid0.N) (y : S256x1024.Idx) :
    iblk m (ok m) c 13 t y = m ((c : Thread nD τ).loc main_arg14) (row t y) := congrArg (m ((c : Thread nD τ).loc main_arg14)) (emb_13 m t y)
theorem in_14 (c : Dev nD) (t : Fin grid0.N) (y : S64x1024.Idx) :
    iblk m (ok m) c 14 t y = m ((c : Thread nD τ).loc main_arg15) (srow t y) := congrArg (m ((c : Thread nD τ).loc main_arg15)) (emb_14 m t y)

theorem join_1 (c : Dev nD) (t : Fin grid0.N) (k : BitVec 32) (y : S256x1024.Idx) :
    (Scalar.select (Scalar.cmpi .eq (half (grid0.coords t)) k) (iblk m (ok m) c 3 t) (iblk m (ok m) c 6 t) : Vec Ideal S256x1024 .f32) y
      = big k (m ((c : Thread nD τ).loc main_arg4)) (m ((c : Thread nD τ).loc main_arg7)) (row t y) := by
  have hy : (y 0).val < 256 := (y 0).isLt
  have ht : t.val < 4 := t.isLt
  have e : (row t y 0).val = t.val * 256 + (y 0).val := rfl
  have h1 : (row t y 0).val / 512 = t.val / 2 := by rw [e]; omega
  have h2 : (row t y 0).val % 512 = t.val % 2 * 256 + (y 0).val := by rw [e]; omega
  have h3 : hrow t y = ix2 ⟨(row t y 0).val % 512, Nat.mod_lt _ (by decide)⟩ (row t y 1) := by
    unfold hrow; congr 1; exact Fin.ext h2.symm
  refine (congrFun (select_eq_word _ _ _ _) y).trans ?_
  unfold big
  rw [half_at, h1]
  by_cases hk : BitVec.ofNat 32 (t.val / 2) = k
  · refine (congrFun (if_pos hk) y).trans ((in_3 m c t y).trans ?_)
    rw [if_pos hk, h3]; rfl
  · refine (congrFun (if_neg hk) y).trans ((in_6 m c t y).trans ?_)
    rw [if_neg hk, h3]; rfl

theorem join_2 (c : Dev nD) (t : Fin grid0.N) (k : BitVec 32) (y : S256x1024.Idx) :
    (Scalar.select (Scalar.cmpi .eq (half (grid0.coords t)) k) (iblk m (ok m) c 4 t) (iblk m (ok m) c 7 t) : Vec Ideal S256x1024 .f32) y
      = big k (m ((c : Thread nD τ).loc main_arg5)) (m ((c : Thread nD τ).loc main_arg8)) (row t y) := by
  have hy : (y 0).val < 256 := (y 0).isLt
  have ht : t.val < 4 := t.isLt
  have e : (row t y 0).val = t.val * 256 + (y 0).val := rfl
  have h1 : (row t y 0).val / 512 = t.val / 2 := by rw [e]; omega
  have h2 : (row t y 0).val % 512 = t.val % 2 * 256 + (y 0).val := by rw [e]; omega
  have h3 : hrow t y = ix2 ⟨(row t y 0).val % 512, Nat.mod_lt _ (by decide)⟩ (row t y 1) := by
    unfold hrow; congr 1; exact Fin.ext h2.symm
  refine (congrFun (select_eq_word _ _ _ _) y).trans ?_
  unfold big
  rw [half_at, h1]
  by_cases hk : BitVec.ofNat 32 (t.val / 2) = k
  · refine (congrFun (if_pos hk) y).trans ((in_4 m c t y).trans ?_)
    rw [if_pos hk, h3]; rfl
  · refine (congrFun (if_neg hk) y).trans ((in_7 m c t y).trans ?_)
    rw [if_neg hk, h3]; rfl

theorem join_3 (c : Dev nD) (t : Fin grid0.N) (k : BitVec 32) (y : S64x1024.Idx) :
    (Scalar.select (Scalar.cmpi .eq (half (grid0.coords t)) k) (iblk m (ok m) c 5 t) (iblk m (ok m) c 8 t) : Vec Ideal S64x1024 .f32) y
      = small k (m ((c : Thread nD τ).loc main_arg6)) (m ((c : Thread nD τ).loc main_arg9)) (srow t y) := by
  have hy : (y 0).val < 64 := (y 0).isLt
  have ht : t.val < 4 := t.isLt
  have e : (srow t y 0).val = t.val * 64 + (y 0).val := rfl
  have h1 : (srow t y 0).val / 128 = t.val / 2 := by rw [e]; omega
  have h2 : (srow t y 0).val % 128 = t.val % 2 * 64 + (y 0).val := by rw [e]; omega
  have h3 : hsrow t y = ix2 ⟨(srow t y 0).val % 128, Nat.mod_lt _ (by decide)⟩ (srow t y 1) := by
    unfold hsrow; congr 1; exact Fin.ext h2.symm
  refine (congrFun (select_eq_word _ _ _ _) y).trans ?_
  unfold small
  rw [half_at, h1]
  by_cases hk : BitVec.ofNat 32 (t.val / 2) = k
  · refine (congrFun (if_pos hk) y).trans ((in_5 m c t y).trans ?_)
    rw [if_pos hk, h3]; rfl
  · refine (congrFun (if_neg hk) y).trans ((in_8 m c t y).trans ?_)
    rw [if_neg hk, h3]; rfl

/-! ## The reference -/

section Reference

open Cert.Reference7Ideal Cert.Reference7Ideal.Gen

theorem word_eq (k : Cert.Reference7Ideal.S1.Idx → BitVec 32) (i : S_.Idx) :
    (shapeCast S_ k shapeCasts_S1_S_) i = k (ix1 0) := by
  refine shapeCast_apply _ _ i (ix1 0) ?_
  rfl

theorem ref_big (k : Cert.Reference7Ideal.S1.Idx → BitVec 32) (x y : Vec Ideal Cert.Reference7Ideal.S512x1024 .f32) :
    concatenate Cert.Reference7Ideal.S1024x1024 0
      [⟨Cert.Reference7Ideal.S512x1024, select (broadcastInDim Cert.Reference7Ideal.S512x1024 ![] bcast_S_S512x1024 (cmpi .eq (shapeCast S_ k shapeCasts_S1_S_) (constantI S_ 32 0#32))) x y⟩,
       ⟨Cert.Reference7Ideal.S512x1024, select (broadcastInDim Cert.Reference7Ideal.S512x1024 ![] bcast_S_S512x1024 (cmpi .eq (shapeCast S_ k shapeCasts_S1_S_) (constantI S_ 32 1#32))) x y⟩]
      concatenates_S512x1024_S512x1024_S1024x1024_d0 = big (k (ix1 0)) x y := by
  have hs : ∀ (b : BitVec 32) (j : Cert.Reference7Ideal.S512x1024.Idx),
      select (broadcastInDim Cert.Reference7Ideal.S512x1024 ![] bcast_S_S512x1024 (cmpi .eq (shapeCast S_ k shapeCasts_S1_S_) (constantI S_ 32 b))) x y j
        = if b = k (ix1 0) then x j else y j := fun b j => by
    refine Eq.trans (b := Scalar.select (Scalar.cmpi .eq (k (ix1 0)) b) (x j) (y j)) ?_ ?_
    · exact congrArg (fun z => Scalar.select (Scalar.cmpi .eq z b) (x j) (y j)) (word_eq k _)
    · rw [select_eq_word]; simp only [eq_comm]
  funext j
  have hj : (j 0).val < 1024 := (j 0).isLt
  unfold big
  by_cases h : (j 0).val < 512
  · refine (concatenate_pair_apply_left (s₁ := Cert.Reference7Ideal.S512x1024) (s₂ := Cert.Reference7Ideal.S512x1024) 0 _ _ _ j rfl (ix2 ⟨(j 0).val % 512, Nat.mod_lt _ (show 0 < 512 by decide)⟩ (j 1)) fun b => ?_).trans ?_
    · match b with
      | ⟨0, _⟩ => exact Nat.mod_eq_of_lt h
      | ⟨1, _⟩ => rfl
    · rw [hs, show (j 0).val / 512 = 0 from Nat.div_eq_of_lt h]
  · refine (concatenate_pair_apply_right (s₁ := Cert.Reference7Ideal.S512x1024) (s₂ := Cert.Reference7Ideal.S512x1024) 0 _ _ _ j rfl rfl (ix2 ⟨(j 0).val % 512, Nat.mod_lt _ (show 0 < 512 by decide)⟩ (j 1)) (fun b hb => ?_) ?_).trans ?_
    · match b, hb with
      | ⟨0, _⟩, hb => exact absurd rfl hb
      | ⟨1, _⟩, _ => rfl
    · show (j 0).val % 512 + 512 = (j 0).val
      omega
    · rw [hs, show (j 0).val / 512 = 1 by omega]

theorem ref_small (k : Cert.Reference7Ideal.S1.Idx → BitVec 32) (x y : Vec Ideal Cert.Reference7Ideal.S128x1024 .f32) :
    concatenate Cert.Reference7Ideal.S256x1024 0
      [⟨Cert.Reference7Ideal.S128x1024, select (broadcastInDim Cert.Reference7Ideal.S128x1024 ![] bcast_S_S128x1024 (cmpi .eq (shapeCast S_ k shapeCasts_S1_S_) (constantI S_ 32 0#32))) x y⟩,
       ⟨Cert.Reference7Ideal.S128x1024, select (broadcastInDim Cert.Reference7Ideal.S128x1024 ![] bcast_S_S128x1024 (cmpi .eq (shapeCast S_ k shapeCasts_S1_S_) (constantI S_ 32 1#32))) x y⟩]
      concatenates_S128x1024_S128x1024_S256x1024_d0 = small (k (ix1 0)) x y := by
  have hs : ∀ (b : BitVec 32) (j : Cert.Reference7Ideal.S128x1024.Idx),
      select (broadcastInDim Cert.Reference7Ideal.S128x1024 ![] bcast_S_S128x1024 (cmpi .eq (shapeCast S_ k shapeCasts_S1_S_) (constantI S_ 32 b))) x y j
        = if b = k (ix1 0) then x j else y j := fun b j => by
    refine Eq.trans (b := Scalar.select (Scalar.cmpi .eq (k (ix1 0)) b) (x j) (y j)) ?_ ?_
    · exact congrArg (fun z => Scalar.select (Scalar.cmpi .eq z b) (x j) (y j)) (word_eq k _)
    · rw [select_eq_word]; simp only [eq_comm]
  funext j
  have hj : (j 0).val < 256 := (j 0).isLt
  unfold small
  by_cases h : (j 0).val < 128
  · refine (concatenate_pair_apply_left (s₁ := Cert.Reference7Ideal.S128x1024) (s₂ := Cert.Reference7Ideal.S128x1024) 0 _ _ _ j rfl (ix2 ⟨(j 0).val % 128, Nat.mod_lt _ (show 0 < 128 by decide)⟩ (j 1)) fun b => ?_).trans ?_
    · match b with
      | ⟨0, _⟩ => exact Nat.mod_eq_of_lt h
      | ⟨1, _⟩ => rfl
    · rw [hs, show (j 0).val / 128 = 0 from Nat.div_eq_of_lt h]
  · refine (concatenate_pair_apply_right (s₁ := Cert.Reference7Ideal.S128x1024) (s₂ := Cert.Reference7Ideal.S128x1024) 0 _ _ _ j rfl rfl (ix2 ⟨(j 0).val % 128, Nat.mod_lt _ (show 0 < 128 by decide)⟩ (j 1)) (fun b hb => ?_) ?_).trans ?_
    · match b, hb with
      | ⟨0, _⟩, hb => exact absurd rfl hb
      | ⟨1, _⟩, _ => rfl
    · show (j 0).val % 128 + 128 = (j 0).val
      omega
    · rw [hs, show (j 0).val / 128 = 1 by omega]

end Reference

/-! ## The kernel's results -/

/-- The word, as the call finds it. -/
def wd (c : Dev nD) : BitVec 32 := m ((c : Thread nD τ).loc main_arg0) (ix1 0)

theorem word_at (c : Dev nD) : Cert.Big.word (F := Ideal) c (tbl m 0) = wd m c := by
  obtain rfl : c = 0 := Subsingleton.elim _ _
  rfl

/-- Weight 1: its joined gradient, its two running means one step on, and its change. -/
def g1 (c : Dev nD) : S1024x1024.Idx → Ideal .f32 := big (wd m c) (m ((c : Thread nD τ).loc main_arg4)) (m ((c : Thread nD τ).loc main_arg7))
def mean1 (c : Dev nD) : S1024x1024.Idx → Ideal .f32 := fun i => mean ((m ((c : Thread nD τ).loc main_arg10)) i) (g1 m c i)
def square1 (c : Dev nD) : S1024x1024.Idx → Ideal .f32 := fun i => square ((m ((c : Thread nD τ).loc main_arg13)) i) (g1 m c i)
def change1 (c : Dev nD) : S1024x1024.Idx → Ideal .f32 := fun i => change ((m ((c : Thread nD τ).loc main_arg1)) i) (mean1 m c i) (square1 m c i)

theorem g1_at (c : Dev nD) (t : Fin grid0.N) (y : S256x1024.Idx) :
    Cert.Big.out15 (F := Ideal) m (ok m) c t y = g1 m c (row t y) := by
  refine Eq.trans ?_ (join_1 m c t (wd m c) y)
  rw [← word_at]
  rfl

theorem mean1_at (c : Dev nD) (t : Fin grid0.N) (y : S256x1024.Idx) :
    Cert.Big.out21 (F := Ideal) m (ok m) c t y = mean1 m c (row t y) :=
  Eq.trans (b := mean ((iblk m (ok m) c 9 t) y) (Cert.Big.out15 (F := Ideal) m (ok m) c t y)) rfl (congrArg₂ mean (in_9 m c t y) (g1_at m c t y))

theorem square1_at (c : Dev nD) (t : Fin grid0.N) (y : S256x1024.Idx) :
    Cert.Big.out24 (F := Ideal) m (ok m) c t y = square1 m c (row t y) :=
  Eq.trans (b := square ((iblk m (ok m) c 12 t) y) (Cert.Big.out15 (F := Ideal) m (ok m) c t y)) rfl (congrArg₂ square (in_12 m c t y) (g1_at m c t y))

theorem change1_at (c : Dev nD) (t : Fin grid0.N) (y : S256x1024.Idx) :
    Cert.Big.out18 (F := Ideal) m (ok m) c t y = change1 m c (row t y) := by
  refine Eq.trans (b := change ((iblk m (ok m) c 0 t) y) (Cert.Big.out21 (F := Ideal) m (ok m) c t y) (Cert.Big.out24 (F := Ideal) m (ok m) c t y)) rfl ?_
  rw [mean1_at, square1_at]
  exact congrArg (fun z => change z _ _) (in_0 m c t y)

theorem final_15 (c : Dev nD) : (Cert.Big.dats (F := Ideal) m (ok m) 0 c).arrAt 15 (cfgM m (ok m)).N = g1 m c :=
  (Cert.Big.dats (F := Ideal) m (ok m) 0 c).arrAt_eq_of_covers 15 (g1 m c) cov0_15 fun t hf y =>
    (g1_at m c t y).trans (congrArg (g1 m c) (emb_15 m t y)).symm

theorem final_18 (c : Dev nD) : (Cert.Big.dats (F := Ideal) m (ok m) 0 c).arrAt 18 (cfgM m (ok m)).N = change1 m c :=
  (Cert.Big.dats (F := Ideal) m (ok m) 0 c).arrAt_eq_of_covers 18 (change1 m c) cov0_18 fun t hf y =>
    (change1_at m c t y).trans (congrArg (change1 m c) (emb_18 m t y)).symm

theorem final_21 (c : Dev nD) : (Cert.Big.dats (F := Ideal) m (ok m) 0 c).arrAt 21 (cfgM m (ok m)).N = mean1 m c :=
  (Cert.Big.dats (F := Ideal) m (ok m) 0 c).arrAt_eq_of_covers 21 (mean1 m c) cov0_21 fun t hf y =>
    (mean1_at m c t y).trans (congrArg (mean1 m c) (emb_21 m t y)).symm

theorem final_24 (c : Dev nD) : (Cert.Big.dats (F := Ideal) m (ok m) 0 c).arrAt 24 (cfgM m (ok m)).N = square1 m c :=
  (Cert.Big.dats (F := Ideal) m (ok m) 0 c).arrAt_eq_of_covers 24 (square1 m c) cov0_24 fun t hf y =>
    (square1_at m c t y).trans (congrArg (square1 m c) (emb_24 m t y)).symm

/-- Weight 2: its joined gradient, its two running means one step on, and its change. -/
def g2 (c : Dev nD) : S1024x1024.Idx → Ideal .f32 := big (wd m c) (m ((c : Thread nD τ).loc main_arg5)) (m ((c : Thread nD τ).loc main_arg8))
def mean2 (c : Dev nD) : S1024x1024.Idx → Ideal .f32 := fun i => mean ((m ((c : Thread nD τ).loc main_arg11)) i) (g2 m c i)
def square2 (c : Dev nD) : S1024x1024.Idx → Ideal .f32 := fun i => square ((m ((c : Thread nD τ).loc main_arg14)) i) (g2 m c i)
def change2 (c : Dev nD) : S1024x1024.Idx → Ideal .f32 := fun i => change ((m ((c : Thread nD τ).loc main_arg2)) i) (mean2 m c i) (square2 m c i)

theorem g2_at (c : Dev nD) (t : Fin grid0.N) (y : S256x1024.Idx) :
    Cert.Big.out16 (F := Ideal) m (ok m) c t y = g2 m c (row t y) := by
  refine Eq.trans ?_ (join_2 m c t (wd m c) y)
  rw [← word_at]
  rfl

theorem mean2_at (c : Dev nD) (t : Fin grid0.N) (y : S256x1024.Idx) :
    Cert.Big.out22 (F := Ideal) m (ok m) c t y = mean2 m c (row t y) :=
  Eq.trans (b := mean ((iblk m (ok m) c 10 t) y) (Cert.Big.out16 (F := Ideal) m (ok m) c t y)) rfl (congrArg₂ mean (in_10 m c t y) (g2_at m c t y))

theorem square2_at (c : Dev nD) (t : Fin grid0.N) (y : S256x1024.Idx) :
    Cert.Big.out25 (F := Ideal) m (ok m) c t y = square2 m c (row t y) :=
  Eq.trans (b := square ((iblk m (ok m) c 13 t) y) (Cert.Big.out16 (F := Ideal) m (ok m) c t y)) rfl (congrArg₂ square (in_13 m c t y) (g2_at m c t y))

theorem change2_at (c : Dev nD) (t : Fin grid0.N) (y : S256x1024.Idx) :
    Cert.Big.out19 (F := Ideal) m (ok m) c t y = change2 m c (row t y) := by
  refine Eq.trans (b := change ((iblk m (ok m) c 1 t) y) (Cert.Big.out22 (F := Ideal) m (ok m) c t y) (Cert.Big.out25 (F := Ideal) m (ok m) c t y)) rfl ?_
  rw [mean2_at, square2_at]
  exact congrArg (fun z => change z _ _) (in_1 m c t y)

theorem final_16 (c : Dev nD) : (Cert.Big.dats (F := Ideal) m (ok m) 0 c).arrAt 16 (cfgM m (ok m)).N = g2 m c :=
  (Cert.Big.dats (F := Ideal) m (ok m) 0 c).arrAt_eq_of_covers 16 (g2 m c) cov0_16 fun t hf y =>
    (g2_at m c t y).trans (congrArg (g2 m c) (emb_16 m t y)).symm

theorem final_19 (c : Dev nD) : (Cert.Big.dats (F := Ideal) m (ok m) 0 c).arrAt 19 (cfgM m (ok m)).N = change2 m c :=
  (Cert.Big.dats (F := Ideal) m (ok m) 0 c).arrAt_eq_of_covers 19 (change2 m c) cov0_19 fun t hf y =>
    (change2_at m c t y).trans (congrArg (change2 m c) (emb_19 m t y)).symm

theorem final_22 (c : Dev nD) : (Cert.Big.dats (F := Ideal) m (ok m) 0 c).arrAt 22 (cfgM m (ok m)).N = mean2 m c :=
  (Cert.Big.dats (F := Ideal) m (ok m) 0 c).arrAt_eq_of_covers 22 (mean2 m c) cov0_22 fun t hf y =>
    (mean2_at m c t y).trans (congrArg (mean2 m c) (emb_22 m t y)).symm

theorem final_25 (c : Dev nD) : (Cert.Big.dats (F := Ideal) m (ok m) 0 c).arrAt 25 (cfgM m (ok m)).N = square2 m c :=
  (Cert.Big.dats (F := Ideal) m (ok m) 0 c).arrAt_eq_of_covers 25 (square2 m c) cov0_25 fun t hf y =>
    (square2_at m c t y).trans (congrArg (square2 m c) (emb_25 m t y)).symm

/-- Weight 3: its joined gradient, its two running means one step on, and its change. -/
def g3 (c : Dev nD) : S256x1024.Idx → Ideal .f32 := small (wd m c) (m ((c : Thread nD τ).loc main_arg6)) (m ((c : Thread nD τ).loc main_arg9))
def mean3 (c : Dev nD) : S256x1024.Idx → Ideal .f32 := fun i => mean ((m ((c : Thread nD τ).loc main_arg12)) i) (g3 m c i)
def square3 (c : Dev nD) : S256x1024.Idx → Ideal .f32 := fun i => square ((m ((c : Thread nD τ).loc main_arg15)) i) (g3 m c i)
def change3 (c : Dev nD) : S256x1024.Idx → Ideal .f32 := fun i => change ((m ((c : Thread nD τ).loc main_arg3)) i) (mean3 m c i) (square3 m c i)

theorem g3_at (c : Dev nD) (t : Fin grid0.N) (y : S64x1024.Idx) :
    Cert.Big.out17 (F := Ideal) m (ok m) c t y = g3 m c (srow t y) := by
  refine Eq.trans ?_ (join_3 m c t (wd m c) y)
  rw [← word_at]
  rfl

theorem mean3_at (c : Dev nD) (t : Fin grid0.N) (y : S64x1024.Idx) :
    Cert.Big.out23 (F := Ideal) m (ok m) c t y = mean3 m c (srow t y) :=
  Eq.trans (b := mean ((iblk m (ok m) c 11 t) y) (Cert.Big.out17 (F := Ideal) m (ok m) c t y)) rfl (congrArg₂ mean (in_11 m c t y) (g3_at m c t y))

theorem square3_at (c : Dev nD) (t : Fin grid0.N) (y : S64x1024.Idx) :
    Cert.Big.out26 (F := Ideal) m (ok m) c t y = square3 m c (srow t y) :=
  Eq.trans (b := square ((iblk m (ok m) c 14 t) y) (Cert.Big.out17 (F := Ideal) m (ok m) c t y)) rfl (congrArg₂ square (in_14 m c t y) (g3_at m c t y))

theorem change3_at (c : Dev nD) (t : Fin grid0.N) (y : S64x1024.Idx) :
    Cert.Big.out20 (F := Ideal) m (ok m) c t y = change3 m c (srow t y) := by
  refine Eq.trans (b := change ((iblk m (ok m) c 2 t) y) (Cert.Big.out23 (F := Ideal) m (ok m) c t y) (Cert.Big.out26 (F := Ideal) m (ok m) c t y)) rfl ?_
  rw [mean3_at, square3_at]
  exact congrArg (fun z => change z _ _) (in_2 m c t y)

theorem final_17 (c : Dev nD) : (Cert.Big.dats (F := Ideal) m (ok m) 0 c).arrAt 17 (cfgM m (ok m)).N = g3 m c :=
  (Cert.Big.dats (F := Ideal) m (ok m) 0 c).arrAt_eq_of_covers 17 (g3 m c) cov0_17 fun t hf y =>
    (g3_at m c t y).trans (congrArg (g3 m c) (emb_17 m t y)).symm

theorem final_20 (c : Dev nD) : (Cert.Big.dats (F := Ideal) m (ok m) 0 c).arrAt 20 (cfgM m (ok m)).N = change3 m c :=
  (Cert.Big.dats (F := Ideal) m (ok m) 0 c).arrAt_eq_of_covers 20 (change3 m c) cov0_20 fun t hf y =>
    (change3_at m c t y).trans (congrArg (change3 m c) (emb_20 m t y)).symm

theorem final_23 (c : Dev nD) : (Cert.Big.dats (F := Ideal) m (ok m) 0 c).arrAt 23 (cfgM m (ok m)).N = mean3 m c :=
  (Cert.Big.dats (F := Ideal) m (ok m) 0 c).arrAt_eq_of_covers 23 (mean3 m c) cov0_23 fun t hf y =>
    (mean3_at m c t y).trans (congrArg (mean3 m c) (emb_23 m t y)).symm

theorem final_26 (c : Dev nD) : (Cert.Big.dats (F := Ideal) m (ok m) 0 c).arrAt 26 (cfgM m (ok m)).N = square3 m c :=
  (Cert.Big.dats (F := Ideal) m (ok m) 0 c).arrAt_eq_of_covers 26 (square3 m c) cov0_26 fun t hf y =>
    (square3_at m c t y).trans (congrArg (square3 m c) (emb_26 m t y)).symm

section Values

theorem frame_reference : Cert.quiescent_Reference7Ideal (hReference7Ideal := Cert.Reference7Ideal.Gen.facts) := fun m ρ _ =>
  (θ_run Cert.Reference7Ideal.defs _ _).mono
    (fun r h => ⟨fun c => (h c).2.2.2.2.2.2.2.2.2.2.2.2, Idealize.ShloMosaic.sem_eq_zero_of_no_sems (by decide) r.2⟩)
    (Cert.Reference7Ideal.Value.run (F := Ideal) m ρ)

set_option maxHeartbeats 1600000 in
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      ∀ w, r.2.mem (((cfgM m (ok m)).spec w).arr.view.loc (c.tc : Thread nD τ)) = (Cert.Big.dats m (ok m) 0 c).arrAt w (cfgM m (ok m)).N) :=
  (θ_run defs _ _).mono (fun _ h c w => (h c).1 w) (Cert.Big.run_main (F := Ideal) m g (ok m))

set_option maxHeartbeats 1600000 in
theorem values : Cert.algebraic_Kernel7Ideal_Reference7Ideal (hKernel7Ideal := Cert.Kernel7Ideal.Gen.facts)
    (hReference7Ideal := Cert.Reference7Ideal.Gen.facts) := fun m g m' g' _ hm =>
  ⟨fun c => g1 m c,
    fun c => change1 m c,
    fun c => mean1 m c,
    fun c => square1 m c,
    fun c => g2 m c,
    fun c => change2 m c,
    fun c => mean2 m c,
    fun c => square2 m c,
    fun c => g3 m c,
    fun c => change3 m c,
    fun c => mean3 m c,
    fun c => square3 m c,
    θ_run_and (kernel_run m g) (Cert.Big.unchanged (F := Ideal) m g (ok m)) |> (θ_run defs _ _).mono (fun r h c =>
      ⟨(h.1 c 15).trans (final_15 m c), (h.1 c 18).trans (final_18 m c), (h.1 c 21).trans (final_21 m c), (h.1 c 24).trans (final_24 m c), (h.1 c 16).trans (final_16 m c), (h.1 c 19).trans (final_19 m c), (h.1 c 22).trans (final_22 m c), (h.1 c 25).trans (final_25 m c), (h.1 c 17).trans (final_17 m c), (h.1 c 20).trans (final_20 m c), (h.1 c 23).trans (final_23 m c), (h.1 c 26).trans (final_26 m c), h.2 c⟩),
    (θ_run Cert.Reference7Ideal.defs _ _).mono (fun r h c => by
      obtain ⟨h0, h1, h2, h3, h4, h5, h6, h7, h8, h9, h10, h11, hr⟩ := h c
      obtain ⟨e0, e1, e2, e3, e4, e5, e6, e7, e8, e9, e10, e11, e12, e13, e14, e15⟩ := hm c
      rw [e0, e4, e7, ref_big] at h0
      rw [e0, e1, e4, e7, e10, e13, ref_big] at h1
      rw [e0, e4, e7, e10, ref_big] at h2
      rw [e0, e4, e7, e13, ref_big] at h3
      rw [e0, e5, e8, ref_big] at h4
      rw [e0, e2, e5, e8, e11, e14, ref_big] at h5
      rw [e0, e5, e8, e11, ref_big] at h6
      rw [e0, e5, e8, e14, ref_big] at h7
      rw [e0, e6, e9, ref_small] at h8
      rw [e0, e3, e6, e9, e12, e15, ref_small] at h9
      rw [e0, e6, e9, e12, ref_small] at h10
      rw [e0, e6, e9, e15, ref_small] at h11
      exact ⟨h0, h1, h2, h3, h4, h5, h6, h7, h8, h9, h10, h11, hr⟩)
      (Cert.Reference7Ideal.Value.run (F := Ideal) m' g')⟩

end Values

end Cert.Adam7

end
-- ==== Proof.lean ====
/-
  The claims, assembled, of the calls: the frames of each kernel at both readings of its floats, its reference's frame,
  and the equality of the kernel's results with the reference's over the extended reals.
-/
module

public import proofs.«01_k».proof.Defs
public import proofs.«01_k».proof.Proof.Gen.Kernel
public import proofs.«01_k».proof.Proof.SameRun
public import proofs.«01_k».proof.Proof.KernelValues
public import proofs.«01_k».proof.Proof.RefValues
public import proofs.«01_k».proof.Proof.Finite
public import proofs.«01_k».proof.Proof.Grad1
public import proofs.«01_k».proof.Proof.Grad2
public import proofs.«01_k».proof.Proof.Gen.Kernel2.Frame
public import proofs.«01_k».proof.Proof.Gen.Kernel3.Frame
public import proofs.«01_k».proof.Proof.Adam4
public import proofs.«01_k».proof.Proof.Gen.Kernel4.Frame
public import proofs.«01_k».proof.Proof.Adam5
public import proofs.«01_k».proof.Proof.Gen.Kernel5.Frame
public import proofs.«01_k».proof.Proof.Adam6
public import proofs.«01_k».proof.Proof.Gen.Kernel6.Frame
public import proofs.«01_k».proof.Proof.Adam7
public import proofs.«01_k».proof.Proof.BigBits
public import Idealize.ShloMosaic.Adequacy
public import Idealize.ShloMosaic.Init

@[expose] public section

noncomputable section

namespace Cert.Proof

open Idealize.ShloMosaic Idealize.SL.Sem

/-- The kernel over the machine's floats ends with its arguments unchanged and every counter at zero. -/
theorem frame_kernel : Cert.quiescent_Kernel := Cert.Mlp.frame_bits

/-- The same over the extended reals. -/
theorem frame_ideal : Cert.quiescent_KernelIdeal := fun m ρ _ => Cert.Mlp.kernel_frame (F := Ideal) m ρ

/-- The reference ends with its arguments unchanged and every counter at zero. -/
theorem frame_reference : Cert.quiescent_ReferenceIdeal := fun m ρ _ =>
  (θ_run Cert.ReferenceIdeal.defs _ _).mono
    (fun r h => ⟨fun c => (h c).2.2.2.2.2.2.2.2.2.2.2, Idealize.ShloMosaic.sem_eq_zero_of_no_sems (by decide) r.2⟩)
    (Cert.ReferenceIdeal.Value.run (F := Ideal) m ρ)

instance : Cert.Pre_finite.Facts := Cert.Mlp.finite_facts

/-- From finite arguments, the kernel's results are the reference's over the reals. -/
theorem values : Cert.algebraic_KernelIdeal_ReferenceIdeal_pre_finite := fun m g m' g' hfin hsame => by
  choose X hX using fun c => Cert.Mlp.are_of_finite _ _ _ _ _ _ _ _ _ _ (hfin c)
  refine ⟨fun c => Cert.Mlp.arr (X c).ins.r, fun c => Cert.Mlp.arr (X c).ins.da, fun c => Cert.Mlp.arr (X c).ins.h2,
    fun c => Cert.Mlp.arr (X c).ins.dy2, fun c => Cert.Mlp.arr (X c).ins.dx1, fun c => Cert.Mlp.arr (X c).ins.conv,
    fun c => Cert.Mlp.arr (X c).ins.acc, fun c => Cert.Mlp.arr (X c).ins.dy1, fun c => Cert.Mlp.arr (X c).ins.dO,
    fun c => Cert.Mlp.arr (X c).ins.dgb, fun c => Cert.Mlp.arr (X c).ins.dyv,
    Cert.Mlp.kernel_values m g X hX, Cert.Mlp.reference_values m' g' X fun c => ?_⟩
  obtain ⟨e0, e1, e2, e3, e4, e5, e6, e7, e8, e9⟩ := hsame c
  exact ⟨fun i => (congrFun e0 i).trans ((hX c).o i), fun i => (congrFun e1 i).trans ((hX c).z i),
    fun i => (congrFun e2 i).trans ((hX c).x i), fun i => (congrFun e3 i).trans ((hX c).tgt i),
    fun i => (congrFun e4 i).trans ((hX c).md i), fun i => (congrFun e5 i).trans ((hX c).gf i),
    fun i => (congrFun e6 i).trans ((hX c).cw i), fun i => (congrFun e7 i).trans ((hX c).wo i),
    fun i => (congrFun e8 i).trans ((hX c).w1 i), fun i => (congrFun e9 i).trans ((hX c).w2 i)⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Mlp.finite_facts,
  frame_kernel, frame_ideal, fun m ρ _ => frame_ideal m ρ trivial, frame_reference, fun m ρ _ => frame_reference m ρ trivial,
  fun m ρ _ => Cert.Kernel2.Gen.frame m ρ, fun m ρ _ => Cert.Kernel2Ideal.Gen.frame m ρ, Cert.Grad1.frame_reference,
  fun m ρ _ => Cert.Kernel3.Gen.frame m ρ, fun m ρ _ => Cert.Kernel3Ideal.Gen.frame m ρ, Cert.Grad2.frame_reference,
  fun m ρ _ => Cert.Kernel4.Gen.frame m ρ, fun m ρ _ => Cert.Kernel4Ideal.Gen.frame m ρ, Cert.Adam4.frame_reference,
  fun m ρ _ => Cert.Kernel5.Gen.frame m ρ, fun m ρ _ => Cert.Kernel5Ideal.Gen.frame m ρ, Cert.Adam5.frame_reference,
  fun m ρ _ => Cert.Kernel6.Gen.frame m ρ, fun m ρ _ => Cert.Kernel6Ideal.Gen.frame m ρ, Cert.Adam6.frame_reference,
  fun m ρ _ => Cert.BigBits.frame (F := Bits) m ρ trivial, fun m ρ _ => Cert.Big.frame (F := Ideal) m ρ trivial,
  Cert.Adam7.frame_reference,
  trivial, values, trivial, Cert.Grad1.values, trivial, Cert.Grad2.values,
  trivial, Cert.Adam4.values, trivial, Cert.Adam5.values, trivial, Cert.Adam6.values, trivial, Cert.Adam7.values⟩

end Cert.Proof

end
